-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_fp8_max" .f32 0x3B124925#32 ((1 / 448 : ℝ) : EReal)
  ∧ IdealRules.named_const.Statement Cert.KernelIdeal.κ "score_scale" .f32 0x3E38AA3B#32 (((1 / 8) * (Real.log 2)⁻¹ : ℝ) : EReal)
  ∧ IdealRules.named_const.Statement Cert.KernelIdeal.κ "log2_fp8_max" .f32 0x410CEAED#32 (((Real.log 448) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_v6_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x640x3072 : Shape := ⟨3, ![3, 640, 3072]⟩
abbrev S3x640x512 : Shape := ⟨3, ![3, 640, 512]⟩
abbrev S_ : Shape := ⟨0, ![]⟩

class Facts : Prop where
  bcast_S_S3x640x3072 : S_.BroadcastsInDim S3x640x3072 (![] : Fin 0 → Fin S3x640x3072.rank)
  reducesTo_S3x640x3072_S_d0_1_2 : S3x640x3072.ReducesTo [0, 1, 2] S_
  h_S_ : 0 < S_.numel
  bcast_S_S3x640x512 : S_.BroadcastsInDim S3x640x512 (![] : Fin 0 → Fin S3x640x512.rank)
  reducesTo_S3x640x512_S_d0_1_2 : S3x640x512.ReducesTo [0, 1, 2] S_

variable [Facts]

def fn {F : FTy → Type} [FloatOps F] (main_arg0 : FVec F S3x640x3072 .bf16) (main_arg1 : FVec F S3x640x512 .bf16) (main_arg2 : FVec F S3x640x512 .bf16) : IVec S_ 1 :=
  let main_v0 : FVec F S3x640x3072 .bf16 := Host.absf main_arg0
  let main_cst : FVec F S_ .bf16 := constant S_ .bf16 0x7F7F#16
  let main_v1 : FVec F S3x640x3072 .bf16 := broadcastInDim S3x640x3072 ![] bcast_S_S3x640x3072 main_cst
  let main_v2 : IVec S3x640x3072 1 := cmpf .ole main_v0 main_v1
  let main_c : IVec S_ 1 := constantI S_ 1 1#1
  let main_v3 : IVec S_ 1 := (fun x v => Host.reduce IntOp.andi x v reducesTo_S3x640x3072_S_d0_1_2 h_S_) main_v2 main_c
  let main_v4 : FVec F S3x640x512 .bf16 := Host.absf main_arg1
  let main_cst_0 : FVec F S_ .bf16 := constant S_ .bf16 0x7F7F#16
  let main_v5 : FVec F S3x640x512 .bf16 := broadcastInDim S3x640x512 ![] bcast_S_S3x640x512 main_cst_0
  let main_v6 : IVec S3x640x512 1 := cmpf .ole main_v4 main_v5
  let main_c_1 : IVec S_ 1 := constantI S_ 1 1#1
  let main_v7 : IVec S_ 1 := (fun x v => Host.reduce IntOp.andi x v reducesTo_S3x640x512_S_d0_1_2 h_S_) main_v6 main_c_1
  let main_v8 : IVec S_ 1 := andi main_v3 main_v7
  let main_v9 : FVec F S3x640x512 .bf16 := Host.absf main_arg2
  let main_cst_2 : FVec F S_ .bf16 := constant S_ .bf16 0x7F7F#16
  let main_v10 : FVec F S3x640x512 .bf16 := broadcastInDim S3x640x512 ![] bcast_S_S3x640x512 main_cst_2
  let main_v11 : IVec S3x640x512 1 := cmpf .ole main_v9 main_v10
  let main_c_3 : IVec S_ 1 := constantI S_ 1 1#1
  let main_v12 : IVec S_ 1 := (fun x v => Host.reduce IntOp.andi x v reducesTo_S3x640x512_S_d0_1_2 h_S_) main_v11 main_c_3
  let main_v13 : IVec S_ 1 := andi main_v8 main_v12
  main_v13
-- ==== Kernel.lean ====
abbrev S3x640x3072 : Shape := ⟨3, ![3, 640, 3072]⟩
abbrev S3x640x512 : Shape := ⟨3, ![3, 640, 512]⟩
abbrev S3x48x64x640 : Shape := ⟨4, ![3, 48, 64, 640]⟩
abbrev S3x48x640 : Shape := ⟨3, ![3, 48, 640]⟩
abbrev S3x8x64x640 : Shape := ⟨4, ![3, 8, 64, 640]⟩
abbrev S3x8x640 : Shape := ⟨3, ![3, 8, 640]⟩
abbrev S3x8x64 : Shape := ⟨3, ![3, 8, 64]⟩
abbrev S1x640x768 : Shape := ⟨3, ![1, 640, 768]⟩
abbrev S1x640x128 : Shape := ⟨3, ![1, 640, 128]⟩
abbrev S1x12x64x640 : Shape := ⟨4, ![1, 12, 64, 640]⟩
abbrev S1x48x640 : Shape := ⟨3, ![1, 48, 640]⟩
abbrev S1x2x64x640 : Shape := ⟨4, ![1, 2, 64, 640]⟩
abbrev S1x8x640 : Shape := ⟨3, ![1, 8, 640]⟩
abbrev S1x8x64 : Shape := ⟨3, ![1, 8, 64]⟩
abbrev S2x640x64 : Shape := ⟨3, ![2, 640, 64]⟩
abbrev S2x640x128 : Shape := ⟨3, ![2, 640, 128]⟩
abbrev S2x1x128 : Shape := ⟨3, ![2, 1, 128]⟩
abbrev S640x128 : Shape := ⟨2, ![640, 128]⟩
abbrev S128x640 : Shape := ⟨2, ![128, 640]⟩
abbrev S128 : Shape := ⟨1, ![128]⟩
abbrev S128x1 : Shape := ⟨2, ![128, 1]⟩
abbrev S64x640 : Shape := ⟨2, ![64, 640]⟩
abbrev S640 : Shape := ⟨1, ![640]⟩
abbrev S1x640 : Shape := ⟨2, ![1, 640]⟩
abbrev S1x1x64x640 : Shape := ⟨4, ![1, 1, 64, 640]⟩
abbrev S1x1x640 : Shape := ⟨3, ![1, 1, 640]⟩
abbrev S640x64 : Shape := ⟨2, ![640, 64]⟩
abbrev S1x640x64 : Shape := ⟨3, ![1, 640, 64]⟩
abbrev S1x128 : Shape := ⟨2, ![1, 128]⟩
abbrev S1x64 : Shape := ⟨2, ![1, 64]⟩
abbrev S1x1x64 : Shape := ⟨3, ![1, 1, 64]⟩
abbrev S1x1x128 : Shape := ⟨3, ![1, 1, 128]⟩
abbrev S128x128 : Shape := ⟨2, ![128, 128]⟩
abbrev S128x256 : Shape := ⟨2, ![128, 256]⟩
abbrev S16x640 : Shape := ⟨2, ![16, 640]⟩
abbrev S64x128 : Shape := ⟨2, ![64, 128]⟩
abbrev S64x256 : Shape := ⟨2, ![64, 256]⟩
abbrev S1x256 : Shape := ⟨2, ![1, 256]⟩
abbrev S1x128x64 : Shape := ⟨3, ![1, 128, 64]⟩
abbrev S128x64 : Shape := ⟨2, ![128, 64]⟩
abbrev S1x128x128 : Shape := ⟨3, ![1, 128, 128]⟩
abbrev S256 : Shape := ⟨1, ![256]⟩
abbrev S1x1x64x128 : Shape := ⟨4, ![1, 1, 64, 128]⟩
abbrev S1x256x64 : Shape := ⟨3, ![1, 256, 64]⟩
abbrev S256x64 : Shape := ⟨2, ![256, 64]⟩
abbrev S256x256 : Shape := ⟨2, ![256, 256]⟩
abbrev S1x256x128 : Shape := ⟨3, ![1, 256, 128]⟩
abbrev S256x128 : Shape := ⟨2, ![256, 128]⟩
abbrev S1x1x64x256 : Shape := ⟨4, ![1, 1, 64, 256]⟩
abbrev S1x384x64 : Shape := ⟨3, ![1, 384, 64]⟩
abbrev S384x64 : Shape := ⟨2, ![384, 64]⟩
abbrev S384x256 : Shape := ⟨2, ![384, 256]⟩
abbrev S1x384x128 : Shape := ⟨3, ![1, 384, 128]⟩
abbrev S384x128 : Shape := ⟨2, ![384, 128]⟩
abbrev S1x1x64x384 : Shape := ⟨4, ![1, 1, 64, 384]⟩
abbrev S64x384 : Shape := ⟨2, ![64, 384]⟩
abbrev S1x512x64 : Shape := ⟨3, ![1, 512, 64]⟩
abbrev S512x64 : Shape := ⟨2, ![512, 64]⟩
abbrev S512x256 : Shape := ⟨2, ![512, 256]⟩
abbrev S1x512x128 : Shape := ⟨3, ![1, 512, 128]⟩
abbrev S512x128 : Shape := ⟨2, ![512, 128]⟩
abbrev S1x1x64x512 : Shape := ⟨4, ![1, 1, 64, 512]⟩
abbrev S64x512 : Shape := ⟨2, ![64, 512]⟩
abbrev S640x256 : Shape := ⟨2, ![640, 256]⟩

abbrev nBuf : Space → Nat
  | .hbm => 10
  | .vmem => 23
  | .smem => 0
  | _ => 0

abbrev bufTy : (tb : Table) → Fin (tcTables nBuf tb) → BufTy
  | .hbm, ⟨0, _⟩ => ⟨S3x640x3072, .bf16⟩
  | .hbm, ⟨1, _⟩ => ⟨S3x640x512, .bf16⟩
  | .hbm, ⟨2, _⟩ => ⟨S3x640x512, .bf16⟩
  | .hbm, ⟨3, _⟩ => ⟨S3x640x3072, .bf16⟩
  | .hbm, ⟨4, _⟩ => ⟨S3x48x64x640, .fp8e4m3⟩
  | .hbm, ⟨5, _⟩ => ⟨S3x48x640, .f32⟩
  | .hbm, ⟨6, _⟩ => ⟨S3x8x64x640, .fp8e4m3⟩
  | .hbm, ⟨7, _⟩ => ⟨S3x8x640, .f32⟩
  | .hbm, ⟨8, _⟩ => ⟨S3x8x64x640, .fp8e4m3⟩
  | .hbm, ⟨9, _⟩ => ⟨S3x8x64, .f32⟩
  | .local _ .vmem, ⟨0, _⟩ => ⟨S1x640x768, .bf16⟩
  | .local _ .vmem, ⟨1, _⟩ => ⟨S1x640x768, .bf16⟩
  | .local _ .vmem, ⟨2, _⟩ => ⟨S1x640x128, .bf16⟩
  | .local _ .vmem, ⟨3, _⟩ => ⟨S1x640x128, .bf16⟩
  | .local _ .vmem, ⟨4, _⟩ => ⟨S1x640x128, .bf16⟩
  | .local _ .vmem, ⟨5, _⟩ => ⟨S1x640x128, .bf16⟩
  | .local _ .vmem, ⟨6, _⟩ => ⟨S1x640x768, .bf16⟩
  | .local _ .vmem, ⟨7, _⟩ => ⟨S1x640x768, .bf16⟩
  | .local _ .vmem, ⟨8, _⟩ => ⟨S1x12x64x640, .fp8e4m3⟩
  | .local _ .vmem, ⟨9, _⟩ => ⟨S1x12x64x640, .fp8e4m3⟩
  | .local _ .vmem, ⟨10, _⟩ => ⟨S1x48x640, .f32⟩
  | .local _ .vmem, ⟨11, _⟩ => ⟨S1x48x640, .f32⟩
  | .local _ .vmem, ⟨12, _⟩ => ⟨S1x2x64x640, .fp8e4m3⟩
  | .local _ .vmem, ⟨13, _⟩ => ⟨S1x2x64x640, .fp8e4m3⟩
  | .local _ .vmem, ⟨14, _⟩ => ⟨S1x8x640, .f32⟩
  | .local _ .vmem, ⟨15, _⟩ => ⟨S1x8x640, .f32⟩
  | .local _ .vmem, ⟨16, _⟩ => ⟨S1x2x64x640, .fp8e4m3⟩
  | .local _ .vmem, ⟨17, _⟩ => ⟨S1x2x64x640, .fp8e4m3⟩
  | .local _ .vmem, ⟨18, _⟩ => ⟨S1x8x64, .f32⟩
  | .local _ .vmem, ⟨19, _⟩ => ⟨S1x8x64, .f32⟩
  | .local _ .vmem, ⟨20, _⟩ => ⟨S2x640x64, .fp8e4m3⟩
  | .local _ .vmem, ⟨21, _⟩ => ⟨S2x640x128, .f32⟩
  | .local _ .vmem, ⟨22, _⟩ => ⟨S2x1x128, .f32⟩
  | _, _ => ⟨S3x640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 4], ![false, false]⟩

def k0_off1 (i : grid0.Coords) (c0_i32_23 : BitVec 32) : Fin 3 → Nat :=
  let c0_24 : Index := 0#32
  let arg1 : BitVec 32 := BitVec.ofNat 32 (i 1).val
  let c2_i32_22 : BitVec 32 := 2#32
  let v97 : BitVec 32 := Scalar.muli arg1 c2_i32_22
  let v98 : BitVec 32 := Scalar.addi v97 c0_i32_23
  let v99 : Index := Scalar.indexCast v98
  let c0_25 : Index := 0#32
  ![0, v99.toNat, 0]
def k0_off2 (i : grid0.Coords) (c0_i32_107 : BitVec 32) : Fin 3 → Nat :=
  let c0_108 : Index := 0#32
  let arg1 : BitVec 32 := BitVec.ofNat 32 (i 1).val
  let c2_i32_106 : BitVec 32 := 2#32
  let v313 : BitVec 32 := Scalar.muli arg1 c2_i32_106
  let v314 : BitVec 32 := Scalar.addi v313 c0_i32_107
  let v315 : Index := Scalar.indexCast v314
  let c0_109 : Index := 0#32
  ![0, v315.toNat, 0]
@[reducible] def k0_t1_loop : Scf.Loop 32 :=
  let c0_i32_124 : BitVec 32 := 0#32
  let c6_i32 : BitVec 32 := 6#32
  let v342 : BitVec 32 := Scalar.addi c0_i32_124 c6_i32
  let c1_i32_125 : BitVec 32 := 1#32
  ⟨c0_i32_124, v342, c1_i32_125⟩
def k0_mult1 (k0_t1 : Fin k0_t1_loop.trips) : BitVec 32 :=
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  v360
def k0_off3 (k0_t1 : Fin k0_t1_loop.trips) : Fin 3 → Nat :=
  let c0_134 : Index := 0#32
  let c0_135 : Index := 0#32
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  let v361 : BitVec 32 := v360
  let v362 : Index := Scalar.indexCast v361
  ![0, 0, v362.toNat]
def k0_off4 (k0_t1 : Fin k0_t1_loop.trips) (c0_i32_164 : BitVec 32) : Fin 4 → Nat :=
  let c0_165 : Index := 0#32
  let c2_i32_163 : BitVec 32 := 2#32
  let c0_i32_124 : BitVec 32 := 0#32
  let c1_i32_125 : BitVec 32 := 1#32
  let arg15 : BitVec 32 := Scf.iv c0_i32_124 c1_i32_125 k0_t1
  let v459 : BitVec 32 := Scalar.muli c2_i32_163 arg15
  let v460 : BitVec 32 := Scalar.addi v459 c0_i32_164
  let v461 : Index := Scalar.indexCast v460
  let c0_166 : Index := 0#32
  let c0_167 : Index := 0#32
  ![0, v461.toNat, 0, 0]
def k0_off5 (i : grid0.Coords) (k0_t1 : Fin k0_t1_loop.trips) (c0_i32_169 : BitVec 32) : Fin 3 → Nat :=
  let c0_170 : Index := 0#32
  let arg1 : BitVec 32 := BitVec.ofNat 32 (i 1).val
  let c12_i32 : BitVec 32 := 12#32
  let v465 : BitVec 32 := Scalar.muli arg1 c12_i32
  let c2_i32_168 : BitVec 32 := 2#32
  let c0_i32_124 : BitVec 32 := 0#32
  let c1_i32_125 : BitVec 32 := 1#32
  let arg15 : BitVec 32 := Scf.iv c0_i32_124 c1_i32_125 k0_t1
  let v466 : BitVec 32 := Scalar.muli c2_i32_168 arg15
  let v467 : BitVec 32 := Scalar.addi v465 v466
  let v468 : BitVec 32 := Scalar.addi v467 c0_i32_169
  let v469 : Index := Scalar.indexCast v468
  let c0_171 : Index := 0#32
  ![0, v469.toNat, 0]
def k0_off6 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v584 : Index := Scalar.indexCast v359
  let c0_211 : Index := 0#32
  let c0_212 : Index := 0#32
  ![v584.toNat, 0, 0]
def k0_off7 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v594 : Index := Scalar.indexCast v359
  let c0_213 : Index := 0#32
  let c0_214 : Index := 0#32
  ![v594.toNat, 0, 0]
def k0_off8 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v598 : Index := Scalar.indexCast v359
  let c0_216 : Index := 0#32
  let c0_217 : Index := 0#32
  ![v598.toNat, 0, 0]
def k0_off9 (k0_t1 : Fin k0_t1_loop.trips) : Fin 4 → Nat :=
  let c0_224 : Index := 0#32
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v622 : Index := Scalar.indexCast v359
  let c0_225 : Index := 0#32
  let c0_226 : Index := 0#32
  ![0, v622.toNat, 0, 0]
def k0_off10 (k0_t1 : Fin k0_t1_loop.trips) : Fin 3 → Nat :=
  let c0_229 : Index := 0#32
  let c0_230 : Index := 0#32
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  let v361 : BitVec 32 := v360
  let v637 : Index := Scalar.indexCast v361
  ![0, 0, v637.toNat]
def k0_off11 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v647 : Index := Scalar.indexCast v359
  let c0_231 : Index := 0#32
  let c0_232 : Index := 0#32
  ![v647.toNat, 0, 0]
def k0_off12 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v651 : Index := Scalar.indexCast v359
  let c0_234 : Index := 0#32
  let c0_235 : Index := 0#32
  ![v651.toNat, 0, 0]
def k0_off13 (k0_t1 : Fin k0_t1_loop.trips) : Fin 4 → Nat :=
  let c0_242 : Index := 0#32
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v678 : Index := Scalar.indexCast v359
  let c0_243 : Index := 0#32
  let c0_244 : Index := 0#32
  ![0, v678.toNat, 0, 0]
def k0_off14 (k0_t1 : Fin k0_t1_loop.trips) : Fin 3 → Nat :=
  let c0_247 : Index := 0#32
  let c128 : Index := 128#32
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  let v361 : BitVec 32 := v360
  let v693 : Index := Scalar.indexCast v361
  ![0, 128, v693.toNat]
def k0_off15 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v703 : Index := Scalar.indexCast v359
  let c0_248 : Index := 0#32
  let c0_249 : Index := 0#32
  ![v703.toNat, 0, 0]
def k0_off16 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v707 : Index := Scalar.indexCast v359
  let c0_251 : Index := 0#32
  let c0_252 : Index := 0#32
  ![v707.toNat, 0, 0]
def k0_off17 (k0_t1 : Fin k0_t1_loop.trips) : Fin 4 → Nat :=
  let c0_259 : Index := 0#32
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v734 : Index := Scalar.indexCast v359
  let c0_260 : Index := 0#32
  let c0_261 : Index := 0#32
  ![0, v734.toNat, 0, 0]
def k0_off18 (k0_t1 : Fin k0_t1_loop.trips) : Fin 3 → Nat :=
  let c0_264 : Index := 0#32
  let c256 : Index := 256#32
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  let v361 : BitVec 32 := v360
  let v749 : Index := Scalar.indexCast v361
  ![0, 256, v749.toNat]
def k0_off19 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v759 : Index := Scalar.indexCast v359
  let c0_265 : Index := 0#32
  let c0_266 : Index := 0#32
  ![v759.toNat, 0, 0]
def k0_off20 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v763 : Index := Scalar.indexCast v359
  let c0_268 : Index := 0#32
  let c0_269 : Index := 0#32
  ![v763.toNat, 0, 0]
def k0_off21 (k0_t1 : Fin k0_t1_loop.trips) : Fin 4 → Nat :=
  let c0_276 : Index := 0#32
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v790 : Index := Scalar.indexCast v359
  let c0_277 : Index := 0#32
  let c0_278 : Index := 0#32
  ![0, v790.toNat, 0, 0]
def k0_off22 (k0_t1 : Fin k0_t1_loop.trips) : Fin 3 → Nat :=
  let c0_281 : Index := 0#32
  let c384 : Index := 384#32
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  let v361 : BitVec 32 := v360
  let v805 : Index := Scalar.indexCast v361
  ![0, 384, v805.toNat]
def k0_off23 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v815 : Index := Scalar.indexCast v359
  let c0_282 : Index := 0#32
  let c0_283 : Index := 0#32
  ![v815.toNat, 0, 0]
def k0_off24 (k0_t1 : Fin k0_t1_loop.trips) : Fin 3 → Nat :=
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v819 : Index := Scalar.indexCast v359
  let c0_285 : Index := 0#32
  let c0_286 : Index := 0#32
  ![v819.toNat, 0, 0]
def k0_off25 (k0_t1 : Fin k0_t1_loop.trips) : Fin 4 → Nat :=
  let c0_293 : Index := 0#32
  let c0_i32_124 : BitVec 32 := 0#32
  let c1_i32_125 : BitVec 32 := 1#32
  let arg15 : BitVec 32 := Scf.iv c0_i32_124 c1_i32_125 k0_t1
  let c0_i32_127 : BitVec 32 := 0#32
  let v344 : BitVec 1 := Scalar.cmpi .sgt arg15 c0_i32_127
  let v345 : BitVec 32 := Scalar.extui v344
  let c0_i32_128 : BitVec 32 := 0#32
  let v346 : BitVec 1 := Scalar.cmpi .slt arg15 c0_i32_128
  let v347 : BitVec 32 := Scalar.extui v346
  let v348 : BitVec 32 := Scalar.subi v345 v347
  let c3_i32 : BitVec 32 := 3#32
  let c0_i32_129 : BitVec 32 := 0#32
  let v349 : BitVec 1 := Scalar.cmpi .sgt c3_i32 c0_i32_129
  let v350 : BitVec 32 := Scalar.extui v349
  let c0_i32_130 : BitVec 32 := 0#32
  let v351 : BitVec 1 := Scalar.cmpi .slt c3_i32 c0_i32_130
  let v352 : BitVec 32 := Scalar.extui v351
  let v353 : BitVec 32 := Scalar.subi v350 v352
  let v354 : BitVec 1 := Scalar.cmpi .ne v348 v353
  let v355 : BitVec 32 := Scalar.remsi arg15 c3_i32
  let c0_i32_131 : BitVec 32 := 0#32
  let v356 : BitVec 1 := Scalar.cmpi .ne v355 c0_i32_131
  let v357 : BitVec 1 := Scalar.andi v354 v356
  let v343 : BitVec 32 := Scalar.divsi arg15 c3_i32
  let c1_i32_132 : BitVec 32 := 1#32
  let v358 : BitVec 32 := Scalar.subi v343 c1_i32_132
  let v359 : BitVec 32 := Scalar.select v357 v358 v343
  let v846 : Index := Scalar.indexCast v359
  let c0_294 : Index := 0#32
  let c0_295 : Index := 0#32
  ![0, v846.toNat, 0, 0]
def k0_off26 (k0_t1 : Fin k0_t1_loop.trips) : Fin 3 → Nat :=
  let c0_298 : Index := 0#32
  let c512 : Index := 512#32
  let c0_i32_124 : BitVec 32 := 0#32
  let c1_i32_125 : BitVec 32 := 1#32
  let arg15 : BitVec 32 := Scf.iv c0_i32_124 c1_i32_125 k0_t1
  let c128_i32_133 : BitVec 32 := 128#32
  let v360 : BitVec 32 := Scalar.muli arg15 c128_i32_133
  let v361 : BitVec 32 := v360
  let v861 : Index := Scalar.indexCast v361
  ![0, 512, v861.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x12x64x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x48x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x64x640 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x64x640 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "inv_fp8_max" => some ((1 / 448 : ℝ) : EReal)
  | "log2_fp8_max" => some (((Real.log 448) * (Real.log 2)⁻¹ : ℝ) : EReal)
  | "score_scale" => some (((1 / 8) * (Real.log 2)⁻¹ : ℝ) : EReal)
  | _ => none
-- ==== ReferenceIdeal.lean ====
abbrev S3x640x3072 : Shape := ⟨3, ![3, 640, 3072]⟩
abbrev S3x640x512 : Shape := ⟨3, ![3, 640, 512]⟩
abbrev S3x640x48x64 : Shape := ⟨4, ![3, 640, 48, 64]⟩
abbrev S3x48x640x64 : Shape := ⟨4, ![3, 48, 640, 64]⟩
abbrev S3x640x8x64 : Shape := ⟨4, ![3, 640, 8, 64]⟩
abbrev S3x8x640x64 : Shape := ⟨4, ![3, 8, 640, 64]⟩
abbrev S3x48x64x640 : Shape := ⟨4, ![3, 48, 64, 640]⟩
abbrev S3x48x640 : Shape := ⟨3, ![3, 48, 640]⟩
abbrev S3x8x64x640 : Shape := ⟨4, ![3, 8, 64, 640]⟩
abbrev S3x8x640 : Shape := ⟨3, ![3, 8, 640]⟩
abbrev S3x8x64 : Shape := ⟨3, ![3, 8, 64]⟩
abbrev S3x48x640x1 : Shape := ⟨4, ![3, 48, 640, 1]⟩
abbrev S3x8x1x64 : Shape := ⟨4, ![3, 8, 1, 64]⟩
abbrev S3x8x640x1 : Shape := ⟨4, ![3, 8, 640, 1]⟩
abbrev S24x3840x64 : Shape := ⟨3, ![24, 3840, 64]⟩
abbrev S24x640x64 : Shape := ⟨3, ![24, 640, 64]⟩
abbrev S24x3840x640 : Shape := ⟨3, ![24, 3840, 640]⟩
abbrev S24x6x640x640 : Shape := ⟨4, ![24, 6, 640, 640]⟩
abbrev S24x6x640x1 : Shape := ⟨4, ![24, 6, 640, 1]⟩
abbrev S24x1x1x640 : Shape := ⟨4, ![24, 1, 1, 640]⟩
abbrev S24x6x640 : Shape := ⟨3, ![24, 6, 640]⟩
abbrev S24x6x640x64 : Shape := ⟨4, ![24, 6, 640, 64]⟩
abbrev S24x1x1x64 : Shape := ⟨4, ![24, 1, 1, 64]⟩

abbrev nBuf : Space → Nat
  | .hbm => 16
  | .vmem => 10
  | .smem => 0
  | _ => 0

abbrev bufTy : (tb : Table) → Fin (tcTables nBuf tb) → BufTy
  | .hbm, ⟨0, _⟩ => ⟨S3x640x3072, .bf16⟩
  | .hbm, ⟨1, _⟩ => ⟨S3x640x512, .bf16⟩
  | .hbm, ⟨2, _⟩ => ⟨S3x640x512, .bf16⟩
  | .hbm, ⟨3, _⟩ => ⟨S3x640x48x64, .bf16⟩
  | .hbm, ⟨4, _⟩ => ⟨S3x48x640x64, .bf16⟩
  | .hbm, ⟨5, _⟩ => ⟨S3x640x8x64, .bf16⟩
  | .hbm, ⟨6, _⟩ => ⟨S3x8x640x64, .bf16⟩
  | .hbm, ⟨7, _⟩ => ⟨S3x640x8x64, .bf16⟩
  | .hbm, ⟨8, _⟩ => ⟨S3x8x640x64, .bf16⟩
  | .hbm, ⟨9, _⟩ => ⟨S3x640x3072, .bf16⟩
  | .hbm, ⟨10, _⟩ => ⟨S3x48x64x640, .fp8e4m3⟩
  | .hbm, ⟨11, _⟩ => ⟨S3x48x640, .f32⟩
  | .hbm, ⟨12, _⟩ => ⟨S3x8x64x640, .fp8e4m3⟩
  | .hbm, ⟨13, _⟩ => ⟨S3x8x640, .f32⟩
  | .hbm, ⟨14, _⟩ => ⟨S3x8x64x640, .fp8e4m3⟩
  | .hbm, ⟨15, _⟩ => ⟨S3x8x64, .f32⟩
  | .local _ .vmem, ⟨0, _⟩ => ⟨S3x48x640x64, .bf16⟩
  | .local _ .vmem, ⟨1, _⟩ => ⟨S3x8x640x64, .bf16⟩
  | .local _ .vmem, ⟨2, _⟩ => ⟨S3x8x640x64, .bf16⟩
  | .local _ .vmem, ⟨3, _⟩ => ⟨S3x640x3072, .bf16⟩
  | .local _ .vmem, ⟨4, _⟩ => ⟨S3x48x64x640, .fp8e4m3⟩
  | .local _ .vmem, ⟨5, _⟩ => ⟨S3x48x640, .f32⟩
  | .local _ .vmem, ⟨6, _⟩ => ⟨S3x8x64x640, .fp8e4m3⟩
  | .local _ .vmem, ⟨7, _⟩ => ⟨S3x8x640, .f32⟩
  | .local _ .vmem, ⟨8, _⟩ => ⟨S3x8x64x640, .fp8e4m3⟩
  | .local _ .vmem, ⟨9, _⟩ => ⟨S3x8x64, .f32⟩
  | _, _ => ⟨S3x640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev main_v6_6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "inv_fp8_max" => some ((1 / 448 : ℝ) : EReal)
  | "inv_ln2" => some (((Real.log 2)⁻¹ : ℝ) : EReal)
  | _ => none

abbrev grid0 : Pipeline.Grid := .none

abbrev stage0_0 : Fin 1 → Memref sig .tc .vmem S3x48x640x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x640x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x640x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x48x64x640 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x48x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8x64x640 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x8x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x8x64x640 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRuns.lean ====
/- What the run of the machine-level kernel's body is stated over: the staging and scratch memrefs, the blocks, where its
   windows are idle. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x640x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x12x64x640 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x48x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x640 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x640 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x640 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x640x64 .fp8e4m3 := Memref.whole cc0_scratch0
abbrev scM0_1 : Memref sig .tc .vmem S2x640x128 .f32 := Memref.whole cc0_scratch1
abbrev scM0_2 : Memref sig .tc .vmem S2x1x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelRun.lean ====
/- The machine-level kernel's body run once, at symbolic inputs; nothing is said of what it leaves in its outputs. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole)
    (x0 : Vec F S1x640x768 .bf16) (x1 : Vec F S1x640x128 .bf16) (x2 : Vec F S1x640x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_sage_fp8_attn i arg2 harg2 arg3 harg3 arg4 harg4 arg5 harg5 arg6 harg6 arg7 harg7 arg8 harg8 arg9 harg9 arg10 harg10 arg11 harg11 arg12 harg12 arg13 harg13 arg14 harg14) K := by
    intro E K
    simp only [cc0_sage_fp8_attn_eq_skeleton]; unfold cc0_sage_fp8_attn_skel
    simp only [k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.lean ====
/- The frame of the machine-level kernel: it terminates without fault, leaves its arguments as they were and every counter at
   zero. The contents of its outputs are forgotten. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Words.lean ====
/- The exponent search of the kernel, on the extended reals. The kernel finds the exponent field of a magnitude `r` by
   eight comparisons, and spells the scale and its inverse as the words with that exponent; the reference takes the
   floor of a logarithm and two powers of two. For a real magnitude below `2 ^ 126` the two agree. -/
module

public import Idealize.ShloMosaic.PureOps.Ideal
public import Idealize.ShloMosaic.Lib.Pointwise

@[expose] public section

set_option maxRecDepth 16384

noncomputable section

namespace Cert.Quant

open Idealize.ShloMosaic

/-- One step of the search: keep the bit `b` when the float with that exponent word is at most `r`. -/
def stp (r : EReal) (b e : BitVec 32) : BitVec 32 :=
  if Ideal.ofBits .f32 (IntOp.shli .vector (IntOp.addi e b) 23#32) ≤ r then IntOp.addi e b else e

/-- The eight steps. -/
def word0 (r : EReal) : BitVec 32 :=
  stp r 1#32 (stp r 2#32 (stp r 4#32 (stp r 8#32 (stp r 16#32 (stp r 32#32 (stp r 64#32 (stp r 128#32 0#32)))))))

/-- The exponent word: `126` (scale one) for a magnitude below the normals. -/
def word (r : EReal) : BitVec 32 := if word0 r = 0#32 then 126#32 else word0 r

/-- The kernel's scale. -/
def kerS (r : EReal) : EReal := Ideal.ofBits .f32 (IntOp.shli .vector (IntOp.addi (word r) 1#32) 23#32)

/-- The kernel's inverse scale. -/
def kerI (r : EReal) : EReal := Ideal.ofBits .f32 (IntOp.shli .vector (IntOp.subi 253#32 (word r)) 23#32)

/-- The reference's exponent. -/
def refE (r : EReal) : EReal :=
  if r < Ideal.ofBits .f32 0x00800000#32 then 0
  else Ideal.liftRound Int.floor (Ideal.log r * (((Real.log 2)⁻¹ : ℝ) : EReal)) + 1

/-- The fields of the word with exponent `n`. -/
theorem fields : ∀ n : Fin 256,
    ((IntOp.shli .vector (BitVec.ofNat 32 n.val) 23#32).extractLsb' (8 + 23) 1 == 1#1) = false ∧
    ((IntOp.shli .vector (BitVec.ofNat 32 n.val) 23#32).extractLsb' 23 8).toNat = n.val ∧
    ((IntOp.shli .vector (BitVec.ofNat 32 n.val) 23#32).extractLsb' 0 23).toNat = 0 := by decide +kernel

/-- A pattern with sign and fraction clear is read off its exponent field. -/
theorem ofBits_of_fields (b : BitVec 32) (n : Nat) (f1 : (b.extractLsb' (8 + 23) 1 == 1#1) = false)
    (f2 : (b.extractLsb' 23 8).toNat = n) (f3 : (b.extractLsb' 0 23).toNat = 0) :
    Ideal.ofBits .f32 b = if n = 255 then ⊤ else if n = 0 then ((0 : ℝ) : EReal)
      else (((2 : ℝ) ^ ((n : ℤ) - 127) : ℝ) : EReal) := by
  rw [show Ideal.ofBits .f32 b = Ideal.ieee 8 23 b from rfl]
  unfold Ideal.ieee
  simp only [f1, f2, f3]
  norm_num only
  by_cases h255 : n = 255
  · simp [h255]
  · by_cases h0 : n = 0
    · subst h0; simp
    · rw [if_neg h255, if_neg h0, if_neg h255, if_neg h0]
      congr 1
      rw [show ((n : ℤ) - 127) = 23 + ((n : ℤ) - 127 - 23) by ring, zpow_add₀ (by norm_num : (2 : ℝ) ≠ 0)]
      norm_num

/-- The float with exponent field `n`. -/
theorem val_eq (n : Nat) (h1 : 1 ≤ n) (h2 : n < 255) :
    Ideal.ofBits .f32 (IntOp.shli .vector (BitVec.ofNat 32 n) 23#32) = (((2 : ℝ) ^ ((n : ℤ) - 127) : ℝ) : EReal) := by
  obtain ⟨f1, f2, f3⟩ := fields ⟨n, by omega⟩
  rw [ofBits_of_fields _ n f1 f2 f3, if_neg (by omega), if_neg (by omega)]

theorem val_zero : Ideal.ofBits .f32 (IntOp.shli .vector (BitVec.ofNat 32 0) 23#32) = ((0 : ℝ) : EReal) := by
  obtain ⟨f1, f2, f3⟩ := fields ⟨0, by omega⟩
  exact ofBits_of_fields _ 0 f1 f2 f3

theorem val_top : Ideal.ofBits .f32 (IntOp.shli .vector (BitVec.ofNat 32 255) 23#32) = ⊤ := by
  obtain ⟨f1, f2, f3⟩ := fields ⟨255, by omega⟩
  exact ofBits_of_fields _ 255 f1 f2 f3

theorem ofBits_minNormal : Ideal.ofBits .f32 0x00800000#32 = (((2 : ℝ) ^ (-126 : ℤ) : ℝ) : EReal) :=
  val_eq 1 (by norm_num) (by norm_num)

/-- The search on naturals, against the exponent it looks for. -/
def nstp (N b e : Nat) : Nat := if e + b ≤ N then e + b else e

theorem nsearch : ∀ N : Fin 256, nstp N 1 (nstp N 2 (nstp N 4 (nstp N 8 (nstp N 16 (nstp N 32 (nstp N 64
    (nstp N 128 0))))))) = N.val := by decide +kernel

/-- A step of the search is the step on naturals. -/
theorem stp_eq (r : EReal) (N : Nat)
    (hN : ∀ n, n < 256 → (Ideal.ofBits .f32 (IntOp.shli .vector (BitVec.ofNat 32 n) 23#32) ≤ r ↔ n ≤ N))
    (b e : Nat) (h : e + b < 256) :
    stp r (BitVec.ofNat 32 b) (BitVec.ofNat 32 e) = BitVec.ofNat 32 (nstp N b e) := by
  unfold stp nstp
  rw [show IntOp.addi (BitVec.ofNat 32 e) (BitVec.ofNat 32 b) = BitVec.ofNat 32 (e + b) from by
    simp [IntOp.addi, BitVec.ofNat_add]]
  by_cases hh : e + b ≤ N
  · rw [if_pos ((hN _ h).2 hh), if_pos hh]
  · rw [if_neg (fun h' => hh ((hN _ h).1 h')), if_neg hh]

theorem nstp_le (N b e : Nat) : nstp N b e ≤ e + b := by unfold nstp; split <;> omega

theorem word0_eq (r : EReal) (N : Nat) (hlt : N < 256)
    (hN : ∀ n, n < 256 → (Ideal.ofBits .f32 (IntOp.shli .vector (BitVec.ofNat 32 n) 23#32) ≤ r ↔ n ≤ N)) :
    word0 r = BitVec.ofNat 32 N := by
  have l1 := nstp_le N 128 0
  have l2 := nstp_le N 64 (nstp N 128 0)
  have l3 := nstp_le N 32 (nstp N 64 (nstp N 128 0))
  have l4 := nstp_le N 16 (nstp N 32 (nstp N 64 (nstp N 128 0)))
  have l5 := nstp_le N 8 (nstp N 16 (nstp N 32 (nstp N 64 (nstp N 128 0))))
  have l6 := nstp_le N 4 (nstp N 8 (nstp N 16 (nstp N 32 (nstp N 64 (nstp N 128 0)))))
  have l7 := nstp_le N 2 (nstp N 4 (nstp N 8 (nstp N 16 (nstp N 32 (nstp N 64 (nstp N 128 0))))))
  have s1 := stp_eq r N hN 128 0 (by omega)
  have s2 := stp_eq r N hN 64 _ (show nstp N 128 0 + 64 < 256 by omega)
  have s3 := stp_eq r N hN 32 _ (show nstp N 64 (nstp N 128 0) + 32 < 256 by omega)
  have s4 := stp_eq r N hN 16 _ (show nstp N 32 (nstp N 64 (nstp N 128 0)) + 16 < 256 by omega)
  have s5 := stp_eq r N hN 8 _ (show nstp N 16 (nstp N 32 (nstp N 64 (nstp N 128 0))) + 8 < 256 by omega)
  have s6 := stp_eq r N hN 4 _ (show nstp N 8 (nstp N 16 (nstp N 32 (nstp N 64 (nstp N 128 0)))) + 4 < 256 by omega)
  have s7 := stp_eq r N hN 2 _ (show nstp N 4 (nstp N 8 (nstp N 16 (nstp N 32 (nstp N 64 (nstp N 128 0))))) + 2 < 256 by omega)
  have s8 := stp_eq r N hN 1 _ (show nstp N 2 (nstp N 4 (nstp N 8 (nstp N 16 (nstp N 32 (nstp N 64 (nstp N 128 0)))))) + 1 < 256 by omega)
  show stp r (BitVec.ofNat 32 1) (stp r (BitVec.ofNat 32 2) (stp r (BitVec.ofNat 32 4) (stp r (BitVec.ofNat 32 8)
    (stp r (BitVec.ofNat 32 16) (stp r (BitVec.ofNat 32 32) (stp r (BitVec.ofNat 32 64) (stp r (BitVec.ofNat 32 128)
      (BitVec.ofNat 32 0)))))))) = _
  rw [s1, s2, s3, s4, s5, s6, s7, s8, nsearch ⟨N, hlt⟩]

/-- For a magnitude below `2 ^ 126`: the kernel's scale and inverse, and the reference's exponent, by one integer. -/
theorem word_spec (x : ℝ) (h0 : 0 ≤ x) (h1 : x < (2 : ℝ) ^ (126 : ℤ)) :
    ∃ e : ℤ, kerS (x : EReal) = (((2 : ℝ) ^ e : ℝ) : EReal) ∧ kerI (x : EReal) = (((2 : ℝ) ^ (-e) : ℝ) : EReal)
      ∧ refE (x : EReal) = ((e : ℝ) : EReal) := by
  have two0 : (2 : ℝ) ≠ 0 := by norm_num
  have one2 : (1 : ℝ) < 2 := by norm_num
  have key : ∀ w : Nat, 1 ≤ w → w ≤ 252 → word (x : EReal) = BitVec.ofNat 32 w →
      kerS (x : EReal) = (((2 : ℝ) ^ ((w : ℤ) - 126) : ℝ) : EReal) ∧
      kerI (x : EReal) = (((2 : ℝ) ^ (-((w : ℤ) - 126)) : ℝ) : EReal) := by
    intro w hw1 hw2 hw
    constructor
    · unfold kerS
      rw [hw, show IntOp.addi (BitVec.ofNat 32 w) 1#32 = BitVec.ofNat 32 (w + 1) from by
        simp [IntOp.addi, BitVec.ofNat_add], val_eq _ (by omega) (by omega)]
      congr 2; push_cast; ring
    · unfold kerI
      rw [hw, show IntOp.subi 253#32 (BitVec.ofNat 32 w) = BitVec.ofNat 32 (253 - w) from by
        apply BitVec.eq_of_toNat_eq
        simp only [IntOp.subi, BitVec.toNat_sub, BitVec.toNat_ofNat]
        omega, val_eq _ (by omega) (by omega)]
      congr 2; push_cast [Nat.cast_sub (show w ≤ 253 by omega)]; ring
  by_cases hs : x < (2 : ℝ) ^ (-126 : ℤ)
  · have hw0 : word0 (x : EReal) = BitVec.ofNat 32 0 := by
      refine word0_eq _ 0 (by norm_num) fun n hn => ?_
      constructor
      · intro h
        by_contra hc
        have hn1 : 1 ≤ n := by omega
        by_cases h255 : n = 255
        · subst h255; rw [val_top] at h; simp at h
        · rw [val_eq n hn1 (by omega), EReal.coe_le_coe_iff] at h
          have : (2 : ℝ) ^ (-126 : ℤ) ≤ (2 : ℝ) ^ ((n : ℤ) - 127) := zpow_le_zpow_right₀ one2.le (by omega)
          linarith
      · intro h
        obtain rfl : n = 0 := by omega
        rw [val_zero, EReal.coe_le_coe_iff]; exact h0
    have hw : word (x : EReal) = BitVec.ofNat 32 126 := by unfold word; rw [hw0]; rfl
    obtain ⟨a, b⟩ := key 126 (by norm_num) (by norm_num) hw
    refine ⟨0, by simpa using a, by simpa using b, ?_⟩
    unfold refE
    rw [ofBits_minNormal, if_pos (EReal.coe_lt_coe_iff.2 hs)]; simp
  · have hs' : (2 : ℝ) ^ (-126 : ℤ) ≤ x := not_lt.1 hs
    have hx : 0 < x := lt_of_lt_of_le (by positivity) hs'
    have l2 : 0 < Real.log 2 := Real.log_pos one2
    obtain ⟨l, hl'⟩ : ∃ l : ℤ, ⌊Real.log x * (Real.log 2)⁻¹⌋ = l := ⟨_, rfl⟩
    have hl : ∀ z : ℤ, (2 : ℝ) ^ z ≤ x ↔ z ≤ l := fun z => by
      rw [← hl', Int.le_floor, ← div_eq_mul_inv, le_div_iff₀ l2, ← Real.log_zpow,
        Real.log_le_log_iff (by positivity) hx]
    have lo : -126 ≤ l := (hl _).1 hs'
    have hi : l < 126 := by
      by_contra hc
      have := (hl 126).2 (by omega)
      linarith
    obtain ⟨N, hNz⟩ : ∃ N : ℕ, (N : ℤ) = l + 127 := ⟨(l + 127).toNat, by omega⟩
    have hw0 : word0 (x : EReal) = BitVec.ofNat 32 N := by
      refine word0_eq _ N (by omega) fun n hn => ?_
      by_cases hn0 : n = 0
      · subst hn0; rw [val_zero, EReal.coe_le_coe_iff]; exact ⟨fun _ => Nat.zero_le _, fun _ => h0⟩
      · by_cases h255 : n = 255
        · subst h255; rw [val_top]
          constructor
          · intro h; simp at h
          · intro h; omega
        · rw [val_eq n (by omega) (by omega), EReal.coe_le_coe_iff, hl]; omega
    have hw : word (x : EReal) = BitVec.ofNat 32 N := by
      unfold word; rw [hw0, if_neg]
      intro h
      have := congrArg BitVec.toNat h
      simp only [BitVec.toNat_ofNat] at this
      omega
    obtain ⟨a, b⟩ := key N (by omega) (by omega) hw
    refine ⟨(N : ℤ) - 126, a, b, ?_⟩
    unfold refE
    rw [ofBits_minNormal, if_neg (by rw [EReal.coe_lt_coe_iff]; exact hs)]
    rw [show Ideal.log (x : EReal) = ((Real.log x : ℝ) : EReal) from if_neg (not_le.2 hx), ← EReal.coe_mul,
      Ideal.liftRound_coe]
    rw [hl', show (N : ℤ) - 126 = l + 1 by omega]
    push_cast; rfl

end Cert.Quant

end
-- ==== Proof.BodyRun.lean ====
/- The kernel's body run once, at symbolic inputs: which pieces it leaves in each output buffer. The loop over the
   query-head pairs is gone through by its invariant (Gen/KernelIdeal/Loops.lean); what the pieces hold is read in the
   modules after this one. -/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## What the body computes before the loop, as functions of the key block and the value block -/

/-- The smoothed keys, first head. -/
def kv0 (K : Vec F S1x640x128 .bf16) : FVec F S64x640 .f32 := k0_pay53 K
/-- The key scales, first head. -/
def ksc0 (K : Vec F S1x640x128 .bf16) : FVec F S1x640 .f32 := k0_pay59 (k0_pay54 K) (k0_pay55 K) (k0_pay56 K) (k0_pay57 K)
/-- The reciprocals of the key scales, first head, one row per lane. -/
def kinv0 (K : Vec F S1x640x128 .bf16) : FVec F S64x640 .f32 := k0_pay60 (k0_pay54 K) (k0_pay55 K) (k0_pay56 K) (k0_pay57 K)
/-- The smoothed keys, second head. -/
def kv1 (K : Vec F S1x640x128 .bf16) : FVec F S64x640 .f32 := k0_pay66 (k0_pay52 K)
/-- The largest magnitude of the smoothed keys over 448, second head. -/
def kr1 (K : Vec F S1x640x128 .bf16) : FVec F S1x640 .f32 := k0_pay67 (k0_pay52 K)
/-- The first bits of its exponent field. -/
def ke1 (K : Vec F S1x640x128 .bf16) : IVec S1x640 32 := k0_pay70 (kr1 K) k0_pay68 k0_pay69
/-- The value scales. -/
def vsc (V : Vec F S1x640x128 .bf16) : FVec F S1x128 .f32 := k0_pay83 (k0_pay80 V) (k0_pay81 V) 16#32
/-- The words of the reciprocals of the value scales. -/
def vinv (V : Vec F S1x640x128 .bf16) : IVec S1x128 32 := k0_pay84 (k0_pay80 V) (k0_pay81 V) 16#32

/-! ## The pieces the body writes outside the loop -/

/-- The pieces of the key codes. -/
def L_arg8 (K : Vec F S1x640x128 .bf16) : List (View.Piece (Elt F) S1x2x64x640 .fp8e4m3) :=
  [⟨Rect.unit (s := S1x2x64x640) ![0, 1, 0, 0] S1x1x64x640.size inb_S1x2x64x640_S1x1x64x640_0_1_0_0, k0_pay74 (kv1 K) (kr1 K) (ke1 K)⟩,
   ⟨Rect.unit (s := S1x2x64x640) ![0, 0, 0, 0] S1x1x64x640.size inb_S1x2x64x640_S1x1x64x640_0_0_0_0, k0_pay62 (kv0 K) (kinv0 K)⟩]
/-- The pieces of the key scales. -/
def L_arg9 (i : grid0.Coords) (K : Vec F S1x640x128 .bf16) : List (View.Piece (Elt F) S1x8x640 .f32) :=
  [⟨Rect.unit (s := S1x8x640) (k0_off1 i 1#32) S1x1x640.size (k0_off1_inb i 1), k0_pay75 (kr1 K) (ke1 K)⟩,
   ⟨Rect.unit (s := S1x8x640) (k0_off1 i 0#32) S1x1x640.size (k0_off1_inb i 0), k0_pay63 (ksc0 K)⟩]
/-- The pieces of the value codes. -/
def L_arg10 (V : Vec F S1x640x128 .bf16) : List (View.Piece (Elt F) S1x2x64x640 .fp8e4m3) :=
  [⟨Rect.unit (s := S1x2x64x640) ![0, 1, 0, 0] S1x1x64x640.size inb_S1x2x64x640_S1x1x64x640_0_1_0_0, k0_pay90 (k0_pay79 V) (vinv V)⟩,
   ⟨Rect.unit (s := S1x2x64x640) ![0, 0, 0, 0] S1x1x64x640.size inb_S1x2x64x640_S1x1x64x640_0_0_0_0, k0_pay86 (k0_pay79 V) (vinv V)⟩]
/-- The pieces of the value scales. -/
def L_arg11 (i : grid0.Coords) (V : Vec F S1x640x128 .bf16) : List (View.Piece (Elt F) S1x8x64 .f32) :=
  [⟨Rect.unit (s := S1x8x64) (k0_off2 i 1#32) S1x1x64.size (k0_off2_inb i 1), k0_pay1 (k0_pay91 (vsc V))⟩,
   ⟨Rect.unit (s := S1x8x64) (k0_off2 i 0#32) S1x1x64.size (k0_off2_inb i 0), k0_pay88 (vsc V)⟩]
/-- The pieces of the key codes, transposed (scratch). -/
def L_arg12 (K : Vec F S1x640x128 .bf16) : List (View.Piece (Elt F) S2x640x64 .fp8e4m3) :=
  [⟨Rect.unit (s := S2x640x64) ![1, 0, 0] S1x640x64.size inb_S2x640x64_S1x640x64_1_0_0, k0_pay77 (k0_pay76 (kv1 K) (kr1 K) (ke1 K))⟩,
   ⟨Rect.unit (s := S2x640x64) ![0, 0, 0] S1x640x64.size inb_S2x640x64_S1x640x64_0_0_0, k0_pay64 (kv0 K) (kinv0 K)⟩]
/-- The pieces of the key scales, one column per lane (scratch). -/
def L_arg13 (K : Vec F S1x640x128 .bf16) : List (View.Piece (Elt F) S2x640x128 .f32) :=
  [⟨Rect.unit (s := S2x640x128) ![1, 0, 0] S1x640x128.size inb_S2x640x128_S1x640x128_1_0_0, k0_pay78 (k0_pay72 (kr1 K) (ke1 K))⟩,
   ⟨Rect.unit (s := S2x640x128) ![0, 0, 0] S1x640x128.size inb_S2x640x128_S1x640x128_0_0_0, k0_pay65 (ksc0 K)⟩]
/-- The pieces of the value scales (scratch). -/
def L_arg14 (V : Vec F S1x640x128 .bf16) : List (View.Piece (Elt F) S2x1x128 .f32) :=
  [⟨Rect.unit (s := S2x1x128) ![1, 0, 0] S1x1x128.size inb_S2x1x128_S1x1x128_1_0_0, k0_pay2 (k0_pay91 (vsc V))⟩,
   ⟨Rect.unit (s := S2x1x128) ![0, 0, 0] S1x1x128.size inb_S2x1x128_S1x1x128_0_0_0, k0_pay89 (vsc V)⟩]

/-- `X` is what the buffer `a`, holding `d` before, reads as after the pieces `L` are written. -/
def Left {s : Shape} {e : EltTy} (a : Memref sig .tc .vmem s e) (d : Vec F s e) (L : List (View.Piece (Elt F) s e)) (X : Vec F s e) : Prop :=
  ∃ f : BufTy.Contents (Elt F) a.view.ty, X = a.view.read (Elt F) (a.view.writes (Elt F) f L) ∧ ((∀ y, ∃ p ∈ L, y ∈ p.1.set) ∨ a.view.read (Elt F) f = d)

/-- A whole buffer loaded whole reads back what it holds. -/
theorem readAt_whole3 (a : Memref sig .tc .vmem S1x640x128 .bf16) (ha : a.IsWhole) (x : Vec F S1x640x128 .bf16) :
    View.readAt (Elt F) a.view (Rect.unit (s := S1x640x128) ![0, 0, 0] S1x640x128.size inb_S1x640x128_S1x640x128_0_0_0).toLoadRect (ha.unread x) = x :=
  (View.readAt_full (Val := Elt F) a.view (ha.unread x) _).trans (ha.read_unread x)

/-- Two pieces, one per head, cover a block of two heads' codes. -/
theorem cover_2x64x640 (v1 v0 : Vec F S1x1x64x640 .fp8e4m3) (y : S1x2x64x640.Idx) :
    ∃ p ∈ ([⟨Rect.unit (s := S1x2x64x640) ![0, 1, 0, 0] S1x1x64x640.size inb_S1x2x64x640_S1x1x64x640_0_1_0_0, v1⟩,
      ⟨Rect.unit (s := S1x2x64x640) ![0, 0, 0, 0] S1x1x64x640.size inb_S1x2x64x640_S1x1x64x640_0_0_0_0, v0⟩] : List (View.Piece (Elt F) S1x2x64x640 .fp8e4m3)), y ∈ p.1.set := by
  have b0 : (y 0).val < 1 := (y 0).isLt
  have b1 : (y 1).val < 2 := (y 1).isLt
  have b2 : (y 2).val < 64 := (y 2).isLt
  have b3 : (y 3).val < 640 := (y 3).isLt
  rcases Nat.lt_or_ge (y 1).val 1 with h | h
  · refine ⟨_, List.mem_cons_of_mem _ List.mem_cons_self, ?_⟩
    rw [Rect.mem_set_unit]; intro a
    match a with
    | ⟨0, _⟩ => exact ⟨Nat.zero_le _, b0⟩
    | ⟨1, _⟩ => exact ⟨Nat.zero_le _, h⟩
    | ⟨2, _⟩ => exact ⟨Nat.zero_le _, by show (y 2).val < 0 + 64; omega⟩
    | ⟨3, _⟩ => exact ⟨Nat.zero_le _, by show (y 3).val < 0 + 640; omega⟩
  · refine ⟨_, List.mem_cons_self, ?_⟩
    rw [Rect.mem_set_unit]; intro a
    match a with
    | ⟨0, _⟩ => exact ⟨Nat.zero_le _, b0⟩
    | ⟨1, _⟩ => exact ⟨h, b1⟩
    | ⟨2, _⟩ => exact ⟨Nat.zero_le _, by show (y 2).val < 0 + 64; omega⟩
    | ⟨3, _⟩ => exact ⟨Nat.zero_le _, by show (y 3).val < 0 + 640; omega⟩

set_option maxHeartbeats 2000000 in
/-- The body's run: from whole input buffers at `x0`, `x1`, `x2`, the output buffers at any contents, it ends with the
    inputs as they were and each output buffer with the listed pieces written. -/
theorem bodyRun (c : Dev nD) (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole)
    (x0 : Vec F S1x640x768 .bf16) (x1 : Vec F S1x640x128 .bf16) (x2 : Vec F S1x640x128 .bf16)
    (d5 : Vec F S1x640x768 .bf16) (d6 : Vec F S1x12x64x640 .fp8e4m3) (d7 : Vec F S1x48x640 .f32) (d8 : Vec F S1x2x64x640 .fp8e4m3) (d9 : Vec F S1x8x640 .f32) (d10 : Vec F S1x2x64x640 .fp8e4m3) (d11 : Vec F S1x8x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ (∃ X, ⌜Left arg5 d5 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (harg2.unread x0) (arg10.view.writes (Elt F) arg10.view.junk (L_arg10 x2)) (arg12.view.writes (Elt F) arg12.view.junk (L_arg12 x1)) (arg13.view.writes (Elt F) arg13.view.junk (L_arg13 x1)) (arg14.view.writes (Elt F) arg14.view.junk (L_arg14 x2)) 6).1 X⌝ ∗ owns (c : Thread nD τ) arg5 fullShare X) ∗ (∃ X, ⌜Left arg6 d6 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (harg2.unread x0) (arg10.view.writes (Elt F) arg10.view.junk (L_arg10 x2)) (arg12.view.writes (Elt F) arg12.view.junk (L_arg12 x1)) (arg13.view.writes (Elt F) arg13.view.junk (L_arg13 x1)) (arg14.view.writes (Elt F) arg14.view.junk (L_arg14 x2)) 6).2.1 X⌝ ∗ owns (c : Thread nD τ) arg6 fullShare X) ∗ (∃ X, ⌜Left arg7 d7 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (harg2.unread x0) (arg10.view.writes (Elt F) arg10.view.junk (L_arg10 x2)) (arg12.view.writes (Elt F) arg12.view.junk (L_arg12 x1)) (arg13.view.writes (Elt F) arg13.view.junk (L_arg13 x1)) (arg14.view.writes (Elt F) arg14.view.junk (L_arg14 x2)) 6).2.2 X⌝ ∗ owns (c : Thread nD τ) arg7 fullShare X) ∗ (∃ X, ⌜Left arg8 d8 (L_arg8 x1) X⌝ ∗ owns (c : Thread nD τ) arg8 fullShare X) ∗ (∃ X, ⌜Left arg9 d9 (L_arg9 i x1) X⌝ ∗ owns (c : Thread nD τ) arg9 fullShare X) ∗ (∃ X, ⌜Left arg10 d10 (L_arg10 x2) X⌝ ∗ owns (c : Thread nD τ) arg10 fullShare X) ∗ (∃ X, ⌜Left arg11 d11 (L_arg11 i x2) X⌝ ∗ owns (c : Thread nD τ) arg11 fullShare X) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_sage_fp8_attn i arg2 harg2 arg3 harg3 arg4 harg4 arg5 harg5 arg6 harg6 arg7 harg7 arg8 harg8 arg9 harg9 arg10 harg10 arg11 harg11 arg12 harg12 arg13 harg13 arg14 harg14) K := by
  simp only [cc0_sage_fp8_attn_eq_skeleton]; unfold cc0_sage_fp8_attn_skel
  simp only [k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec
  sl_step
  have h3 := readAt_whole3 (F := F) arg3 harg3 x1
  have h4 := readAt_whole3 (F := F) arg4 harg4 x2
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexists _; isplitr; swap; · iexact H3
      ipureintro; rfl
    ipureintro
    rw [show L_arg10 x2 = L_arg10 (View.readAt (Elt F) arg4.view (Rect.unit (s := S1x640x128) ![0, 0, 0] S1x640x128.size inb_S1x640x128_S1x640x128_0_0_0).toLoadRect (harg4.unread x2)) from by rw [h4], show L_arg12 x1 = L_arg12 (View.readAt (Elt F) arg3.view (Rect.unit (s := S1x640x128) ![0, 0, 0] S1x640x128.size inb_S1x640x128_S1x640x128_0_0_0).toLoadRect (harg3.unread x1)) from by rw [h3], show L_arg13 x1 = L_arg13 (View.readAt (Elt F) arg3.view (Rect.unit (s := S1x640x128) ![0, 0, 0] S1x640x128.size inb_S1x640x128_S1x640x128_0_0_0).toLoadRect (harg3.unread x1)) from by rw [h3], show L_arg14 x2 = L_arg14 (View.readAt (Elt F) arg4.view (Rect.unit (s := S1x640x128) ![0, 0, 0] S1x640x128.size inb_S1x640x128_S1x640x128_0_0_0).toLoadRect (harg4.unread x2)) from by rw [h4]]
    exact ⟨_, rfl, Or.inr hf3⟩
  isplitl [H4]
  · iexists _; isplitr; swap
    · iexists _; isplitr; swap; · iexact H4
      ipureintro; rfl
    ipureintro
    rw [show L_arg10 x2 = L_arg10 (View.readAt (Elt F) arg4.view (Rect.unit (s := S1x640x128) ![0, 0, 0] S1x640x128.size inb_S1x640x128_S1x640x128_0_0_0).toLoadRect (harg4.unread x2)) from by rw [h4], show L_arg12 x1 = L_arg12 (View.readAt (Elt F) arg3.view (Rect.unit (s := S1x640x128) ![0, 0, 0] S1x640x128.size inb_S1x640x128_S1x640x128_0_0_0).toLoadRect (harg3.unread x1)) from by rw [h3], show L_arg13 x1 = L_arg13 (View.readAt (Elt F) arg3.view (Rect.unit (s := S1x640x128) ![0, 0, 0] S1x640x128.size inb_S1x640x128_S1x640x128_0_0_0).toLoadRect (harg3.unread x1)) from by rw [h3], show L_arg14 x2 = L_arg14 (View.readAt (Elt F) arg4.view (Rect.unit (s := S1x640x128) ![0, 0, 0] S1x640x128.size inb_S1x640x128_S1x640x128_0_0_0).toLoadRect (harg4.unread x2)) from by rw [h4]]
    exact ⟨_, rfl, Or.inr hf4⟩
  isplitl [H5]
  · iexists _; isplitr; swap
    · iexists _; isplitr; swap; · iexact H5
      ipureintro; rfl
    ipureintro
    rw [show L_arg10 x2 = L_arg10 (View.readAt (Elt F) arg4.view (Rect.unit (s := S1x640x128) ![0, 0, 0] S1x640x128.size inb_S1x640x128_S1x640x128_0_0_0).toLoadRect (harg4.unread x2)) from by rw [h4], show L_arg12 x1 = L_arg12 (View.readAt (Elt F) arg3.view (Rect.unit (s := S1x640x128) ![0, 0, 0] S1x640x128.size inb_S1x640x128_S1x640x128_0_0_0).toLoadRect (harg3.unread x1)) from by rw [h3], show L_arg13 x1 = L_arg13 (View.readAt (Elt F) arg3.view (Rect.unit (s := S1x640x128) ![0, 0, 0] S1x640x128.size inb_S1x640x128_S1x640x128_0_0_0).toLoadRect (harg3.unread x1)) from by rw [h3], show L_arg14 x2 = L_arg14 (View.readAt (Elt F) arg4.view (Rect.unit (s := S1x640x128) ![0, 0, 0] S1x640x128.size inb_S1x640x128_S1x640x128_0_0_0).toLoadRect (harg4.unread x2)) from by rw [h4]]
    exact ⟨_, rfl, Or.inr hf5⟩
  isplitl [H6]
  · iexists _; isplitr; swap
    · iexists _; isplitr; swap; · iexact H6
      ipureintro; rfl
    ipureintro
    rw [show L_arg8 x1 = L_arg8 (View.readAt (Elt F) arg3.view (Rect.unit (s := S1x640x128) ![0, 0, 0] S1x640x128.size inb_S1x640x128_S1x640x128_0_0_0).toLoadRect (harg3.unread x1)) from by rw [h3]]
    exact ⟨_, rfl, Or.inl (cover_2x64x640 _ _)⟩
  isplitl [H7]
  · iexists _; isplitr; swap
    · iexists _; isplitr; swap; · iexact H7
      ipureintro; rfl
    ipureintro
    rw [show L_arg9 i x1 = L_arg9 i (View.readAt (Elt F) arg3.view (Rect.unit (s := S1x640x128) ![0, 0, 0] S1x640x128.size inb_S1x640x128_S1x640x128_0_0_0).toLoadRect (harg3.unread x1)) from by rw [h3]]
    exact ⟨_, rfl, Or.inr hf7⟩
  isplitl [H8]
  · iexists _; isplitr; swap
    · iexists _; isplitr; swap; · iexact H8
      ipureintro; rfl
    ipureintro
    rw [show L_arg10 x2 = L_arg10 (View.readAt (Elt F) arg4.view (Rect.unit (s := S1x640x128) ![0, 0, 0] S1x640x128.size inb_S1x640x128_S1x640x128_0_0_0).toLoadRect (harg4.unread x2)) from by rw [h4]]
    exact ⟨_, rfl, Or.inl (cover_2x64x640 _ _)⟩
  isplitl [H9]
  · iexists _; isplitr; swap
    · iexists _; isplitr; swap; · iexact H9
      ipureintro; rfl
    ipureintro
    rw [show L_arg11 i x2 = L_arg11 i (View.readAt (Elt F) arg4.view (Rect.unit (s := S1x640x128) ![0, 0, 0] S1x640x128.size inb_S1x640x128_S1x640x128_0_0_0).toLoadRect (harg4.unread x2)) from by rw [h4]]
    exact ⟨_, rfl, Or.inr hf9⟩
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Gen

end
-- ==== Proof.KPay.lean ====
/- What the kernel's quantiser of the keys writes, read at one index. -/
module

public import proofs.«01_k».proof.Proof.Words
public import proofs.«01_k».proof.Proof.BodyRun
public import Idealize.ShloMosaic.Lib.Pointwise

@[expose] public section

set_option maxRecDepth 16384

noncomputable section

namespace Cert.KernelIdeal.Gen

open Idealize.ShloMosaic Idealize.ShloMosaic.TcCoe Cert.KernelIdeal Cert.Quant

/-- One search step of the kernel, at an index. -/
theorem sel_stp {s : Shape} (r : FVec Ideal s .f32) (e : IVec s 32) (b : BitVec 32) (j : s.Idx) :
    select (cmpf .oge r (bitcastToFloat .f32 (shli (addi e (broadcast s b)) (broadcast s 23#32))))
      (addi e (broadcast s b)) e j = stp (r j) b (e j) := by
  pointwise
  rfl

/-- The last step of the search: the word of a magnitude below the normals. -/
theorem sel_word {s : Shape} (e : IVec s 32) (j : s.Idx) :
    select (cmpi .eq e (broadcast s 0#32)) (broadcast s 126#32) e j = if e j = 0#32 then 126#32 else e j := by
  pointwise
  simp only [Scalar.select, IntOp.cmpi]
  by_cases h : e j = 0#32
  · simp [h]
  · have h' : (e j == 0#32) = false := by simpa using h
    simp [h, h']

/-- One search step on a vector. -/
def vstp {s : Shape} (r : FVec Ideal s .f32) (b : BitVec 32) (e : IVec s 32) : IVec s 32 :=
  select (cmpf .oge r (bitcastToFloat .f32 (shli (addi e (broadcast s b)) (broadcast s 23#32))))
    (addi e (broadcast s b)) e

/-- The search on a vector. -/
def vword {s : Shape} (r : FVec Ideal s .f32) : IVec s 32 :=
  let w := vstp r 1#32 (vstp r 2#32 (vstp r 4#32 (vstp r 8#32 (vstp r 16#32 (vstp r 32#32 (vstp r 64#32
    (vstp r 128#32 (broadcast s 0#32))))))))
  select (cmpi .eq w (broadcast s 0#32)) (broadcast s 126#32) w

theorem vstp_apply {s : Shape} (r : FVec Ideal s .f32) (e : IVec s 32) (b : BitVec 32) (j : s.Idx) :
    vstp r b e j = stp (r j) b (e j) := sel_stp r e b j

theorem vword_apply {s : Shape} (r : FVec Ideal s .f32) (j : s.Idx) : vword r j = word (r j) := by
  unfold vword
  rw [sel_word]
  simp only [vstp_apply]
  rfl

theorem pay58_apply (K : Vec Ideal S1x640x128 .bf16) (j : S1x640.Idx) :
    k0_pay58 (k0_pay54 K) (k0_pay55 K) (k0_pay56 K) (k0_pay57 K) j = word (k0_pay54 K j) := by
  rw [← vword_apply]; rfl

theorem pay71_apply (r : FVec Ideal S1x640 .f32) (j : S1x640.Idx) :
    k0_pay71 r (k0_pay70 r k0_pay68 k0_pay69) j = word (r j) := by
  rw [← vword_apply]; rfl

theorem pay82_apply (V : Vec Ideal S1x640x128 .bf16) (j : S1x128.Idx) :
    k0_pay82 (k0_pay80 V) (k0_pay81 V) 16#32 j = word (k0_pay80 V j) := by
  rw [← vword_apply]; rfl

/-- A key entry less the mean of its lane over the positions. -/
def ctr (K : Vec Ideal S1x640x128 .bf16) (e : Fin 128) (s : Fin 640) : EReal :=
  K (ix3 (0 : Fin 1) s e) - Ideal.div (∑ t : Fin 640, K (ix3 (0 : Fin 1) t e)) (Ideal.ofBits .f32 0x44200000#32)

/-- The greatest magnitude of a column, over `448`. -/
def amx {n : ℕ} (c : Fin n → EReal) : EReal :=
  Finset.univ.fold max (Ideal.ofBits .f32 0xFF800000#32) (fun d => max (c d) (-c d)) * ((1 / 448 : ℝ) : EReal)

/-- The code of an entry by the inverse scale. -/
def code (v I : EReal) : EReal := min (max (v * I) ((-448 : ℝ) : EReal)) ((448 : ℝ) : EReal)

theorem c448 : Ideal.ofBits .f32 0x43E00000#32 = ((448 : ℝ) : EReal) := by
  simp [Ideal.ofBits, Ideal.ieee, -EReal.coe_mul]; norm_num
theorem cm448 : Ideal.ofBits .f32 0xC3E00000#32 = ((-448 : ℝ) : EReal) := by
  simp [Ideal.ofBits, Ideal.ieee, -EReal.coe_mul, -EReal.coe_neg]; norm_num
theorem b448 : Ideal.ofBits .bf16 0x43E0#16 = ((448 : ℝ) : EReal) := by
  simp [Ideal.ofBits, Ideal.ieee, -EReal.coe_mul]; norm_num
theorem bm448 : Ideal.ofBits .bf16 0xC3E0#16 = ((-448 : ℝ) : EReal) := by
  simp [Ideal.ofBits, Ideal.ieee, -EReal.coe_mul, -EReal.coe_neg]; norm_num
theorem nfp8 : Named.named (F := Ideal) κ "inv_fp8_max" (φ := .f32) 0x3B124925#32 = ((1 / 448 : ℝ) : EReal) := rfl

theorem pay52_apply (K : Vec Ideal S1x640x128 .bf16) (e : Fin 128) (s : Fin 640) :
    k0_pay52 K (ix2 e s) = ctr K e s := by
  pointwise [k0_pay52, ctr]

theorem pay53_apply (K : Vec Ideal S1x640x128 .bf16) (d : Fin 64) (s : Fin 640) :
    k0_pay53 K (ix2 d s) = ctr K ⟨d.val, by omega⟩ s := by
  rw [← pay52_apply]
  pointwise [k0_pay53]

theorem pay66_apply (r : FVec Ideal S128x640 .f32) (d : Fin 64) (s : Fin 640) :
    k0_pay66 r (ix2 d s) = r (ix2 ⟨64 + d.val, by omega⟩ s) := by
  pointwise [k0_pay66]

theorem pay54_apply (K : Vec Ideal S1x640x128 .bf16) (s : Fin 640) :
    k0_pay54 K (ix2 (0 : Fin 1) s) = amx fun d => k0_pay53 K (ix2 d s) := by
  pointwise [k0_pay54, amx]
  rfl

theorem pay67_apply (r : FVec Ideal S128x640 .f32) (s : Fin 640) :
    k0_pay67 r (ix2 (0 : Fin 1) s) = amx fun d => k0_pay66 r (ix2 d s) := by
  pointwise [k0_pay67, amx]
  rfl

theorem pay80_apply (V : Vec Ideal S1x640x128 .bf16) (e : Fin 128) :
    k0_pay80 V (ix2 (0 : Fin 1) e) = amx fun s : Fin 640 => V (ix3 (0 : Fin 1) s e) := by
  pointwise [k0_pay80, k0_pay79, amx]
  rfl

/-! The written values of the keys, head by head. -/

theorem ksc0_apply (K : Vec Ideal S1x640x128 .bf16) (s : Fin 640) :
    ksc0 K (ix2 (0 : Fin 1) s) = kerS (k0_pay54 K (ix2 (0 : Fin 1) s)) := by
  rw [kerS, ← pay58_apply]
  pointwise [ksc0, k0_pay59]

theorem kinv0_apply (K : Vec Ideal S1x640x128 .bf16) (d : Fin 64) (s : Fin 640) :
    kinv0 K (ix2 d s) = kerI (k0_pay54 K (ix2 (0 : Fin 1) s)) := by
  rw [kerI, ← pay58_apply]
  pointwise [kinv0, k0_pay60]

theorem pay61_apply (v w : FVec Ideal S64x640 .f32) (d : Fin 64) (s : Fin 640) :
    k0_pay61 v w (ix2 d s) = code (v (ix2 d s)) (w (ix2 d s)) := by
  rw [code, ← c448, ← cm448]
  pointwise [k0_pay61]

theorem pay62_apply (v w : FVec Ideal S64x640 .f32) (d : Fin 64) (s : Fin 640) :
    k0_pay62 v w (ix4 (0 : Fin 1) (0 : Fin 1) d s) = code (v (ix2 d s)) (w (ix2 d s)) := by
  rw [← pay61_apply]
  pointwise [k0_pay62]

theorem pay63_apply (v : FVec Ideal S1x640 .f32) (s : Fin 640) :
    k0_pay63 v (ix3 (0 : Fin 1) (0 : Fin 1) s) = v (ix2 (0 : Fin 1) s) := by
  pointwise [k0_pay63]

/-- The exponent search of the second head up to its last step. -/
abbrev ke1' (r : FVec Ideal S1x640 .f32) : IVec S1x640 32 := k0_pay70 r k0_pay68 k0_pay69

theorem pay73_apply (v : FVec Ideal S64x640 .f32) (r : FVec Ideal S1x640 .f32) (d : Fin 64) (s : Fin 640) :
    k0_pay73 v r (ke1' r) (ix2 d s) = code (v (ix2 d s)) (kerI (r (ix2 (0 : Fin 1) s))) := by
  rw [code, kerI, ← pay71_apply, ← c448, ← cm448]
  pointwise [k0_pay73]

theorem pay74_apply (v : FVec Ideal S64x640 .f32) (r : FVec Ideal S1x640 .f32) (e : IVec S1x640 32) (d : Fin 64) (s : Fin 640) :
    k0_pay74 v r e (ix4 (0 : Fin 1) (0 : Fin 1) d s) = k0_pay73 v r e (ix2 d s) := by
  pointwise [k0_pay74]

theorem pay75_apply (r : FVec Ideal S1x640 .f32) (e : IVec S1x640 32) (s : Fin 640) :
    k0_pay75 r e (ix3 (0 : Fin 1) (0 : Fin 1) s) = k0_pay72 r e (ix2 (0 : Fin 1) s) := by
  pointwise [k0_pay75]

theorem pay83_apply (V : Vec Ideal S1x640x128 .bf16) (e : Fin 128) :
    k0_pay83 (k0_pay80 V) (k0_pay81 V) 16#32 (ix2 (0 : Fin 1) e) = kerS (k0_pay80 V (ix2 (0 : Fin 1) e)) := by
  rw [kerS, ← pay82_apply]
  pointwise [k0_pay83]

theorem pay85_apply (V : Vec Ideal S1x640x128 .bf16) (e : Fin 128) (s : Fin 640) :
    k0_pay85 (k0_pay79 V) (k0_pay84 (k0_pay80 V) (k0_pay81 V) 16#32) (ix2 e s)
      = code (V (ix3 (0 : Fin 1) s e)) (kerI (k0_pay80 V (ix2 (0 : Fin 1) e))) := by
  rw [code, kerI, ← pay82_apply, ← b448, ← bm448]
  pointwise [k0_pay85, k0_pay84, k0_pay79]

theorem pay86_apply (v : FVec Ideal S640x128 .bf16) (w : IVec S1x128 32) (d : Fin 64) (s : Fin 640) :
    k0_pay86 v w (ix4 (0 : Fin 1) (0 : Fin 1) d s) = k0_pay85 v w (ix2 ⟨d.val, by omega⟩ s) := by
  pointwise [k0_pay86]

theorem pay90_apply (v : FVec Ideal S640x128 .bf16) (w : IVec S1x128 32) (d : Fin 64) (s : Fin 640) :
    k0_pay90 v w (ix4 (0 : Fin 1) (0 : Fin 1) d s) = k0_pay85 v w (ix2 ⟨64 + d.val, by omega⟩ s) := by
  pointwise [k0_pay90]

theorem pay88_apply (v : FVec Ideal S1x128 .f32) (d : Fin 64) :
    k0_pay88 v (ix3 (0 : Fin 1) (0 : Fin 1) d) = v (ix2 (0 : Fin 1) ⟨d.val, by omega⟩) := by
  pointwise [k0_pay88, k0_pay87]

theorem pay1_apply (v : FVec Ideal S1x128 .f32) (d : Fin 64) :
    k0_pay1 (k0_pay91 v) (ix3 (0 : Fin 1) (0 : Fin 1) d) = v (ix2 (0 : Fin 1) ⟨64 + d.val, by omega⟩) := by
  pointwise [k0_pay1, k0_pay91]

theorem pay72_apply (r : FVec Ideal S1x640 .f32) (s : Fin 640) :
    k0_pay72 r (ke1' r) (ix2 (0 : Fin 1) s) = kerS (r (ix2 (0 : Fin 1) s)) := by
  rw [kerS, ← pay71_apply]
  pointwise [k0_pay72, ke1']

end Cert.KernelIdeal.Gen

end
-- ==== Proof.Trip.lean ====
/- What one trip of the query loop writes into the query codes and the query scales. -/
module

public import proofs.«01_k».proof.Proof.Gen.KernelIdeal.Loops

@[expose] public section

set_option maxRecDepth 16384

noncomputable section

namespace Cert.KernelIdeal.Gen

open Idealize.ShloMosaic Idealize.ShloMosaic.TcCoe Cert.KernelIdeal

variable {F : FTy → Type} [FloatOps F] [Named F]

/-- The exponent search of the first query head up to its fifth step. -/
abbrev qe0 (P : Vec F S1x640x128 .bf16) : IVec S1x640 32 := k0_pay10 (k0_pay6 P) k0_pay7 k0_pay8 (k0_pay9 P)
abbrev qf0 (P : Vec F S1x640x128 .bf16) : IVec S1x640 32 := k0_pay11 (k0_pay6 P) k0_pay7 k0_pay8 (k0_pay9 P)

/-- The scales and codes of the two query heads of a trip, by the queries it loads. -/
def qsc0 (P : Vec F S1x640x128 .bf16) : FVec F S1x640 .f32 := k0_pay14 (k0_pay6 P) (qe0 P) (qf0 P) k0_pay12
def qcd0 (P : Vec F S1x640x128 .bf16) : FVec F S64x640 .fp8e4m3 := k0_pay15 (k0_pay5 P) (k0_pay6 P) (qe0 P) (qf0 P) k0_pay12
def qsc1 (P : Vec F S1x640x128 .bf16) : FVec F S1x640 .f32 := k0_pay24 (k0_pay20 (k0_pay4 P)) (k0_pay21 (k0_pay4 P)) (k0_pay22 (k0_pay4 P))
def qcd1 (P : Vec F S1x640x128 .bf16) : FVec F S64x640 .bf16 := k0_pay25 (k0_pay19 (k0_pay4 P)) (k0_pay20 (k0_pay4 P)) (k0_pay21 (k0_pay4 P)) (k0_pay22 (k0_pay4 P))

/-- The queries a trip loads. -/
abbrev qld (arg2 : Memref sig .tc .vmem S1x640x768 .bf16) (X_arg2 : BufTy.Contents (Elt F) arg2.view.ty) (k : Fin k0_t1_loop.trips) : Vec F S1x640x128 .bf16 :=
  arg2.view.readAt (Elt F) (Rect.unit (s := S1x640x768) (k0_off3 k) S1x640x128.size (k0_off3_inb k)).toLoadRect X_arg2

set_option maxHeartbeats 1000000 in
theorem trip_arg6 (𝒱 : Variants) (c : Dev nD) (bd : Option 𝒱.V) (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt F) arg2.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).2.1 = [⟨Rect.unit (k0_off4 k 1#32) S1x1x64x640.size (k0_off4_inb k 1), k0_pay27 (Scalar.ofBits .bf16 0x43E0#16) (qcd1 (qld arg2 X_arg2 k))⟩, ⟨Rect.unit (k0_off4 k 0#32) S1x1x64x640.size (k0_off4_inb k 0), shapeCast S1x1x64x640 (qcd0 (qld arg2 X_arg2 k)) shapeCasts_S64x640_S1x1x64x640⟩] := by
  unfold trip_k0_t1
  rfl

set_option maxHeartbeats 1000000 in
theorem trip_arg7 (𝒱 : Variants) (c : Dev nD) (bd : Option 𝒱.V) (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt F) arg2.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).2.2.1 = [⟨Rect.unit (k0_off5 i k 1#32) S1x1x640.size (k0_off5_inb i k 1), k0_pay28 (qsc1 (qld arg2 X_arg2 k))⟩, ⟨Rect.unit (k0_off5 i k 0#32) S1x1x640.size (k0_off5_inb i k 0), shapeCast S1x1x640 (qsc0 (qld arg2 X_arg2 k)) shapeCasts_S1x640_S1x1x640⟩] := by
  unfold trip_k0_t1
  rfl

end Cert.KernelIdeal.Gen

end
-- ==== Proof.QPay.lean ====
/- What the query loop writes, read at one index. -/
module

public import proofs.«01_k».proof.Proof.KPay
public import proofs.«01_k».proof.Proof.Trip

@[expose] public section

set_option maxRecDepth 16384

noncomputable section

namespace Cert.KernelIdeal.Gen

open Idealize.ShloMosaic Idealize.ShloMosaic.TcCoe Cert.KernelIdeal Cert.Quant

/-- The greatest of sixty-four, taken as the kernel does: four quarters lane by lane, then sixteen. -/
theorem fold_quarters (b : EReal) (f : Fin 64 → EReal) :
    (Finset.univ : Finset (Fin 16)).fold max b (fun x => max (max (f ⟨x.val, by omega⟩) (f ⟨16 + x.val, by omega⟩))
      (max (f ⟨32 + x.val, by omega⟩) (f ⟨48 + x.val, by omega⟩))) = (Finset.univ : Finset (Fin 64)).fold max b f := by
  refine eq_of_forall_ge_iff fun c => ?_
  rw [Finset.fold_max_le, Finset.fold_max_le]
  refine and_congr_right fun _ => ?_
  simp only [Finset.mem_univ, true_imp_iff, forall_true_left, max_le_iff]
  constructor
  · intro h x
    have hx := x.isLt
    by_cases h1 : x.val < 16
    · exact (h ⟨x.val, h1⟩).1.1
    by_cases h2 : x.val < 32
    · have := (h ⟨x.val - 16, by omega⟩).1.2
      rwa [show (⟨16 + (x.val - 16), by omega⟩ : Fin 64) = x from Fin.ext (by simp; omega)] at this
    by_cases h3 : x.val < 48
    · have := (h ⟨x.val - 32, by omega⟩).2.1
      rwa [show (⟨32 + (x.val - 32), by omega⟩ : Fin 64) = x from Fin.ext (by simp; omega)] at this
    · have := (h ⟨x.val - 48, by omega⟩).2.2
      rwa [show (⟨48 + (x.val - 48), by omega⟩ : Fin 64) = x from Fin.ext (by simp; omega)] at this
  · exact fun h x => ⟨⟨h _, h _⟩, ⟨h _, h _⟩⟩

theorem pay5_apply (P : Vec Ideal S1x640x128 .bf16) (d : Fin 64) (s : Fin 640) :
    k0_pay5 P (ix2 d s) = P (ix3 (0 : Fin 1) s ⟨d.val, by omega⟩) := by
  pointwise [k0_pay5, k0_pay4]

theorem pay19_apply (P : Vec Ideal S1x640x128 .bf16) (d : Fin 64) (s : Fin 640) :
    k0_pay19 (k0_pay4 P) (ix2 d s) = P (ix3 (0 : Fin 1) s ⟨64 + d.val, by omega⟩) := by
  pointwise [k0_pay19, k0_pay4]

theorem pay6_apply (P : Vec Ideal S1x640x128 .bf16) (s : Fin 640) :
    k0_pay6 P (ix2 (0 : Fin 1) s) = amx fun d => k0_pay5 P (ix2 d s) := by
  rw [amx, ← fold_quarters]
  pointwise [k0_pay6]
  rfl

theorem pay20_apply (Q : FVec Ideal S128x640 .bf16) (s : Fin 640) :
    k0_pay20 Q (ix2 (0 : Fin 1) s) = amx fun d => k0_pay19 Q (ix2 d s) := by
  rw [amx, ← fold_quarters]
  pointwise [k0_pay20]
  rfl

theorem pay13_apply (P : Vec Ideal S1x640x128 .bf16) (j : S1x640.Idx) :
    k0_pay13 (k0_pay6 P) (qe0 P) (qf0 P) k0_pay12 j = word (k0_pay6 P j) := by
  rw [← vword_apply]; rfl

theorem pay23_apply (Q : FVec Ideal S128x640 .bf16) (j : S1x640.Idx) :
    k0_pay23 (k0_pay20 Q) (k0_pay21 Q) (k0_pay22 Q) j = word (k0_pay20 Q j) := by
  rw [← vword_apply]; rfl

theorem qsc0_apply (P : Vec Ideal S1x640x128 .bf16) (s : Fin 640) :
    qsc0 P (ix2 (0 : Fin 1) s) = kerS (k0_pay6 P (ix2 (0 : Fin 1) s)) := by
  rw [kerS, ← pay13_apply]
  pointwise [qsc0, k0_pay14]

theorem qsc1_apply (P : Vec Ideal S1x640x128 .bf16) (s : Fin 640) :
    qsc1 P (ix2 (0 : Fin 1) s) = kerS (k0_pay20 (k0_pay4 P) (ix2 (0 : Fin 1) s)) := by
  rw [kerS, ← pay23_apply]
  pointwise [qsc1, k0_pay24]

theorem qcd0_apply (P : Vec Ideal S1x640x128 .bf16) (d : Fin 64) (s : Fin 640) :
    qcd0 P (ix2 d s) = code (k0_pay5 P (ix2 d s)) (kerI (k0_pay6 P (ix2 (0 : Fin 1) s))) := by
  rw [code, kerI, ← pay13_apply, ← b448, ← bm448]
  pointwise [qcd0, k0_pay15]

theorem pay26_apply (P : Vec Ideal S1x640x128 .bf16) (d : Fin 64) (s : Fin 640) :
    k0_pay26 (Scalar.ofBits .bf16 0x43E0#16) (qcd1 P) (ix2 d s)
      = code (k0_pay19 (k0_pay4 P) (ix2 d s)) (kerI (k0_pay20 (k0_pay4 P) (ix2 (0 : Fin 1) s))) := by
  rw [code, kerI, ← pay23_apply, ← b448, ← bm448]
  pointwise [qcd1, k0_pay25, k0_pay26]

theorem pay27_apply (c : Ideal .bf16) (v : FVec Ideal S64x640 .bf16) (d : Fin 64) (s : Fin 640) :
    k0_pay27 c v (ix4 (0 : Fin 1) (0 : Fin 1) d s) = k0_pay26 c v (ix2 d s) := by
  pointwise [k0_pay27]

theorem pay28_apply (v : FVec Ideal S1x640 .f32) (s : Fin 640) :
    k0_pay28 v (ix3 (0 : Fin 1) (0 : Fin 1) s) = v (ix2 (0 : Fin 1) s) := by
  pointwise [k0_pay28]

theorem cast4_apply (v : FVec Ideal S64x640 .fp8e4m3) (d : Fin 64) (s : Fin 640) :
    shapeCast S1x1x64x640 v shapeCasts_S64x640_S1x1x64x640 (ix4 (0 : Fin 1) (0 : Fin 1) d s) = v (ix2 d s) := by
  pointwise

theorem cast3_apply (v : FVec Ideal S1x640 .f32) (s : Fin 640) :
    shapeCast S1x1x640 v shapeCasts_S1x640_S1x1x640 (ix3 (0 : Fin 1) (0 : Fin 1) s) = v (ix2 (0 : Fin 1) s) := by
  pointwise

end Cert.KernelIdeal.Gen

end
-- ==== Proof.AttMath.lean ====
/- Masked attention of one query over the reals: the kernel's form, to base two and scaled by the greatest code, and the
   reference's, to base `e`, have one value. -/
module

public import Idealize.ShloMosaic.PureOps.Ideal.Laws

@[expose] public section

set_option maxRecDepth 16384

noncomputable section

namespace Cert.Quant

open Idealize.ShloMosaic
open scoped BigOperators

/-- The logarithm to base two of the greatest code. -/
def logmax : EReal := ((Real.log 448 * (Real.log 2)⁻¹ : ℝ) : EReal)

/-- The greatest score. -/
def top {n : ℕ} (S : Fin n → EReal) : EReal := Finset.univ.fold max (Ideal.ofBits .f32 0xFF800000#32) S

/-- The weight of key `t`: its scaled score less the greatest one, to base two, in units where the greatest is `448`. -/
def wgt {n : ℕ} (S : Fin n → EReal) (c : EReal) (t : Fin n) : EReal :=
  Ideal.exp2 (S t * c - (top S * c - logmax))

/-- The weighted mean of the value codes: the weights are themselves saturated codes in the numerator. -/
def wmean {n : ℕ} (w v : Fin n → EReal) : EReal :=
  (∑ t, v t * min (max (w t) ((-448 : ℝ) : EReal)) ((448 : ℝ) : EReal)) * Ideal.div 1 (∑ t, w t)

/-- The reference's weight: `e` to the score less the greatest one. -/
def rwgt {n : ℕ} (S : Fin n → EReal) (t : Fin n) : EReal := Ideal.exp (S t - top S)

/-- The reference's weighted mean: the weights are coded in the numerator, and the result scaled back. -/
def rmean {n : ℕ} (w v : Fin n → EReal) (vs : EReal) : EReal :=
  Ideal.div ((∑ t, min ((448 : ℝ) : EReal) (max 0 (w t * ((448 : ℝ) : EReal))) * v t) * ((1 / 448 : ℝ) : EReal) * vs) (∑ t, w t)

/-- Scores with the later keys masked off. -/
def msk {n : ℕ} (s : ℕ) (g : ℕ → ℝ) (t : Fin n) : EReal := if t.val ≤ s then ((g t.val : ℝ) : EReal) else ⊥

theorem cbot' : Ideal.ofBits .f32 0xFF800000#32 = ⊥ := by
  simp [Ideal.ofBits, Ideal.ieee]

theorem coe_sum (r : ℕ → ℝ) (A : Finset ℕ) : ((∑ t ∈ A, r t : ℝ) : EReal) = ∑ t ∈ A, ((r t : ℝ) : EReal) :=
  map_sum (⟨⟨Real.toEReal, EReal.coe_zero⟩, EReal.coe_add⟩ : ℝ →+ EReal) r A

theorem top_msk {n : ℕ} (s : ℕ) (hs : s < n) (g : ℕ → ℝ) (u : ℕ) (hu : u ≤ s) (h : ∀ t ≤ s, g t ≤ g u) :
    top (msk (n := n) s g) = ((g u : ℝ) : EReal) := by
  unfold top
  apply le_antisymm
  · rw [Finset.fold_max_le, cbot']
    refine ⟨bot_le, fun t _ => ?_⟩
    unfold msk
    split
    · exact EReal.coe_le_coe_iff.2 (h _ (by assumption))
    · exact bot_le
  · rw [Finset.le_fold_max]
    refine Or.inr ⟨⟨u, by omega⟩, Finset.mem_univ _, ?_⟩
    unfold msk
    rw [if_pos hu]

theorem sum_msk {n : ℕ} (s : ℕ) (hs : s < n) (f : ℕ → ℝ) (F : Fin n → EReal)
    (h : ∀ t : Fin n, F t = if t.val ≤ s then ((f t.val : ℝ) : EReal) else 0) :
    ∑ t, F t = ((∑ t ∈ Finset.range (s + 1), f t : ℝ) : EReal) := by
  rw [Finset.sum_congr rfl fun t _ => h t, Fin.sum_univ_eq_sum_range (fun t => if t ≤ s then ((f t : ℝ) : EReal) else 0) n,
    ← Finset.sum_filter, coe_sum]
  refine Finset.sum_congr ?_ fun _ _ => rfl
  ext t
  simp only [Finset.mem_filter, Finset.mem_range]
  omega

/-- The weight of a key over the reals, as a part of the greatest. -/
def part (z : ℕ → ℝ) (Q : ℝ) (u t : ℕ) : ℝ := Real.exp ((z t - z u) * (Q / 8))

theorem part_pos (z : ℕ → ℝ) (Q : ℝ) (u t : ℕ) : 0 < part z Q u t := Real.exp_pos _

theorem part_le (z : ℕ → ℝ) (Q : ℝ) (hQ : 0 < Q) (u t : ℕ) (h : z t ≤ z u) : part z Q u t ≤ 1 := by
  unfold part
  rw [Real.exp_le_one_iff]
  exact mul_nonpos_of_nonpos_of_nonneg (by linarith) (by linarith)

/-- The value both sides have. -/
def mean (z v : ℕ → ℝ) (Q vs : ℝ) (u s : ℕ) : ℝ :=
  (∑ t ∈ Finset.range (s + 1), v t * part z Q u t) / (∑ t ∈ Finset.range (s + 1), part z Q u t) * vs

theorem sum_pos (z : ℕ → ℝ) (Q : ℝ) (u s : ℕ) : 0 < ∑ t ∈ Finset.range (s + 1), part z Q u t :=
  Finset.sum_pos (fun t _ => part_pos z Q u t) ⟨0, by simp⟩

theorem wgt_msk {n : ℕ} (s : ℕ) (hs : s < n) (z : ℕ → ℝ) (Q : ℝ) (hQ : 0 < Q) (u : ℕ) (hu : u ≤ s) (h : ∀ t ≤ s, z t ≤ z u)
    (t : Fin n) : wgt (msk (n := n) s z) ((Q * (1 / 8 * (Real.log 2)⁻¹) : ℝ) : EReal) t
      = if t.val ≤ s then ((448 * part z Q u t.val : ℝ) : EReal) else 0 := by
  have h2 : 0 < Real.log 2 := Real.log_pos (by norm_num)
  unfold wgt logmax
  rw [top_msk s hs z u hu h, ← EReal.coe_mul, ← EReal.coe_sub]
  by_cases ht : t.val ≤ s
  · rw [if_pos ht]
    unfold msk
    rw [if_pos ht, ← EReal.coe_mul, ← EReal.coe_sub, Ideal.exp2_coe]
    refine congrArg _ ?_
    show (2 : ℝ) ^ (_ : ℝ) = _
    rw [Real.rpow_def_of_pos (by norm_num)]
    unfold part
    have e : Real.log 2 * (z t.val * (Q * (1 / 8 * (Real.log 2)⁻¹)) - (z u * (Q * (1 / 8 * (Real.log 2)⁻¹)) - Real.log 448 * (Real.log 2)⁻¹))
        = Real.log 448 + (z t.val - z u) * (Q / 8) := by
      field_simp
      ring
    rw [e, Real.exp_add, Real.exp_log (by norm_num)]
  · rw [if_neg ht]
    unfold msk
    rw [if_neg ht, EReal.bot_mul_coe_of_pos (by positivity), EReal.bot_sub]
    exact Ideal.exp2_bot

theorem rwgt_msk {n : ℕ} (s : ℕ) (hs : s < n) (z : ℕ → ℝ) (Q : ℝ) (hQ : 0 < Q) (u : ℕ) (hu : u ≤ s) (h : ∀ t ≤ s, z t ≤ z u)
    (t : Fin n) : rwgt (msk (n := n) s fun t => z t * (Q / 8)) t
      = if t.val ≤ s then ((part z Q u t.val : ℝ) : EReal) else 0 := by
  unfold rwgt
  rw [top_msk s hs _ u hu fun t ht => mul_le_mul_of_nonneg_right (h t ht) (by linarith)]
  unfold msk
  by_cases ht : t.val ≤ s
  · rw [if_pos ht, if_pos ht, ← EReal.coe_sub, Ideal.exp_coe]
    unfold part
    rw [sub_mul]
  · rw [if_neg ht, if_neg ht, EReal.bot_sub]
    exact Ideal.exp_bot

theorem kmean_msk {n : ℕ} (s : ℕ) (hs : s < n) (z v : ℕ → ℝ) (Q vs : ℝ) (hQ : 0 < Q) (u : ℕ) (hu : u ≤ s) (h : ∀ t ≤ s, z t ≤ z u) :
    wmean (wgt (msk (n := n) s z) ((Q * (1 / 8 * (Real.log 2)⁻¹) : ℝ) : EReal)) (fun t => ((v t.val : ℝ) : EReal)) * ((vs : ℝ) : EReal)
      = ((mean z v Q vs u s : ℝ) : EReal) := by
  have hp := sum_pos z Q u s
  unfold wmean mean
  rw [sum_msk s hs (fun t => 448 * part z Q u t) _ (wgt_msk s hs z Q hQ u hu h),
    sum_msk s hs (fun t => v t * (448 * part z Q u t)) _ fun t => ?_]
  · rw [← Finset.mul_sum, Ideal.div_coe (by positivity), one_mul, ← EReal.coe_mul, ← EReal.coe_mul]
    refine congrArg _ (congrArg (· * vs) ?_)
    rw [Finset.sum_congr rfl fun t _ => mul_left_comm (v t) 448 (part z Q u t), ← Finset.mul_sum]
    field_simp
  · rw [wgt_msk s hs z Q hQ u hu h]
    by_cases ht : t.val ≤ s
    · have h0 := part_pos z Q u t.val
      have h1 := part_le z Q hQ u t.val (h _ ht)
      rw [if_pos ht, if_pos ht, max_eq_left (EReal.coe_le_coe_iff.2 (by linarith)), min_eq_left (EReal.coe_le_coe_iff.2 (by linarith)),
        ← EReal.coe_mul]
    · rw [if_neg ht, if_neg ht, max_eq_left (by rw [← EReal.coe_zero]; exact EReal.coe_le_coe_iff.2 (by norm_num)),
        min_eq_left (by rw [← EReal.coe_zero]; exact EReal.coe_le_coe_iff.2 (by norm_num)), mul_zero]

theorem rmean_msk {n : ℕ} (s : ℕ) (hs : s < n) (z v : ℕ → ℝ) (Q vs : ℝ) (hQ : 0 < Q) (u : ℕ) (hu : u ≤ s) (h : ∀ t ≤ s, z t ≤ z u) :
    rmean (rwgt (msk (n := n) s fun t => z t * (Q / 8))) (fun t => ((v t.val : ℝ) : EReal)) ((vs : ℝ) : EReal)
      = ((mean z v Q vs u s : ℝ) : EReal) := by
  have hp := sum_pos z Q u s
  unfold rmean mean
  rw [sum_msk s hs (fun t => part z Q u t) _ (rwgt_msk s hs z Q hQ u hu h),
    sum_msk s hs (fun t => 448 * (v t * part z Q u t)) _ fun t => ?_]
  · rw [← Finset.mul_sum, Ideal.div_coe hp.ne', ← EReal.coe_mul, ← EReal.coe_mul, ← EReal.coe_mul]
    refine congrArg _ ?_
    field_simp
  · rw [rwgt_msk s hs z Q hQ u hu h]
    by_cases ht : t.val ≤ s
    · have h0 := part_pos z Q u t.val
      have h1 := part_le z Q hQ u t.val (h _ ht)
      rw [if_pos ht, if_pos ht, ← EReal.coe_mul, max_eq_right (by rw [← EReal.coe_zero]; exact EReal.coe_le_coe_iff.2 (by linarith)),
        min_eq_right (EReal.coe_le_coe_iff.2 (by linarith)), ← EReal.coe_mul]
      refine congrArg _ (by ring)
    · rw [if_neg ht, if_neg ht, zero_mul, max_self, min_eq_right (by rw [← EReal.coe_zero]; exact EReal.coe_le_coe_iff.2 (by norm_num)), zero_mul]

/-- Both sides agree. -/
theorem mean_eq {n k : ℕ} (s : ℕ) (hs : s < n) (hk : s < k) (z v : ℕ → ℝ) (Q vs : ℝ) (hQ : 0 < Q) :
    wmean (wgt (msk (n := n) s z) ((Q * (1 / 8 * (Real.log 2)⁻¹) : ℝ) : EReal)) (fun t => ((v t.val : ℝ) : EReal)) * ((vs : ℝ) : EReal)
      = rmean (rwgt (msk (n := k) s fun t => z t * (Q / 8))) (fun t => ((v t.val : ℝ) : EReal)) ((vs : ℝ) : EReal) := by
  obtain ⟨u, hu, h⟩ := Finset.exists_max_image (Finset.range (s + 1)) z ⟨0, by simp⟩
  have hu' : u ≤ s := by have := Finset.mem_range.1 hu; omega
  have h' : ∀ t ≤ s, z t ≤ z u := fun t ht => h t (Finset.mem_range.2 (by omega))
  rw [kmean_msk s hs z v Q vs hQ u hu' h', rmean_msk s hk z v Q vs hQ u hu' h']

/-- One lane of the attention of one query over `n` keys, of which those up to `s` count: key codes `kc`, query codes `q`,
    key scales `ks`, the scaled query scale `C`, value codes `v`. -/
def att (n : ℕ) (kc : Fin n → Fin 64 → EReal) (q : Fin 64 → EReal) (ks : Fin n → EReal) (C : EReal) (v : Fin n → EReal) (s : ℕ) : EReal :=
  wmean (wgt (fun t => if t.val ≤ s then (∑ e : Fin 64, kc t e * q e) * ks t else Ideal.ofBits .f32 0xFF800000#32) C) v

end Cert.Quant

end
-- ==== Proof.Spec.lean ====
/- The results as functions of the three arguments, in the form the kernel computes them: block scales are the word the
   binary search finds, codes are saturated quotients. -/
module

public import proofs.«01_k».proof.Proof.QPay
public import proofs.«01_k».proof.Proof.AttMath

@[expose] public section

set_option maxRecDepth 16384

noncomputable section

namespace Cert.KernelIdeal.Gen

open Idealize.ShloMosaic Idealize.ShloMosaic.TcCoe Cert.KernelIdeal Cert.Quant

/-- The queries of one head at one position. -/
def qrow (x : Vec Ideal S3x640x3072 .bf16) (b : Fin 3) (h : Fin 48) (s : Fin 640) (d : Fin 64) : EReal :=
  x (ix3 b s ⟨64 * h.val + d.val, by omega⟩)

/-- The keys of one head at one position, less their mean over the positions. -/
def krow (k : Vec Ideal S3x640x512 .bf16) (b : Fin 3) (j : Fin 8) (s : Fin 640) (d : Fin 64) : EReal :=
  k (ix3 b s ⟨64 * j.val + d.val, by omega⟩)
    - Ideal.div (∑ t : Fin 640, k (ix3 b t ⟨64 * j.val + d.val, by omega⟩)) (Ideal.ofBits .f32 0x44200000#32)

/-- One lane of the values of one head, over the positions. -/
def vcol (v : Vec Ideal S3x640x512 .bf16) (b : Fin 3) (j : Fin 8) (d : Fin 64) (s : Fin 640) : EReal :=
  v (ix3 b s ⟨64 * j.val + d.val, by omega⟩)

/-- The query codes. -/
def sQC (x : Vec Ideal S3x640x3072 .bf16) (b : Fin 3) (h : Fin 48) (d : Fin 64) (s : Fin 640) : EReal :=
  code (qrow x b h s d) (kerI (amx (qrow x b h s)))
/-- The query scales. -/
def sQS (x : Vec Ideal S3x640x3072 .bf16) (b : Fin 3) (h : Fin 48) (s : Fin 640) : EReal := kerS (amx (qrow x b h s))
/-- The key codes. -/
def sKC (k : Vec Ideal S3x640x512 .bf16) (b : Fin 3) (j : Fin 8) (d : Fin 64) (s : Fin 640) : EReal :=
  code (krow k b j s d) (kerI (amx (krow k b j s)))
/-- The key scales. -/
def sKS (k : Vec Ideal S3x640x512 .bf16) (b : Fin 3) (j : Fin 8) (s : Fin 640) : EReal := kerS (amx (krow k b j s))
/-- The value codes. -/
def sVC (v : Vec Ideal S3x640x512 .bf16) (b : Fin 3) (j : Fin 8) (d : Fin 64) (s : Fin 640) : EReal :=
  code (vcol v b j d s) (kerI (amx (vcol v b j d)))
/-- The value scales. -/
def sVS (v : Vec Ideal S3x640x512 .bf16) (b : Fin 3) (j : Fin 8) (d : Fin 64) : EReal := kerS (amx (vcol v b j d))

/-- The attention output of head `h` (its keys and values are those of head `h / 6`), computed over the first `n` keys. -/
def sO (x : Vec Ideal S3x640x3072 .bf16) (k v : Vec Ideal S3x640x512 .bf16) (b : Fin 3) (h : Fin 48) (n : ℕ) (hn : n ≤ 640)
    (s : Fin 640) (d : Fin 64) : EReal :=
  att n (fun t e => sKC k b ⟨h.val / 6, by omega⟩ e ⟨t.val, lt_of_lt_of_le t.isLt hn⟩) (fun e => sQC x b h e s)
      (fun t => sKS k b ⟨h.val / 6, by omega⟩ ⟨t.val, lt_of_lt_of_le t.isLt hn⟩)
      (sQS x b h s * (((1 / 8) * (Real.log 2)⁻¹ : ℝ) : EReal))
      (fun t => sVC v b ⟨h.val / 6, by omega⟩ d ⟨t.val, lt_of_lt_of_le t.isLt hn⟩) s.val
    * sVS v b ⟨h.val / 6, by omega⟩ d

/-- The batch of a grid point. -/
abbrev bOf (t : Fin cfg0.N) : Fin 3 := ⟨t.val / 4, by have : t.val < 12 := t.isLt; omega⟩

section

def P3 (x : Vec Ideal S3x640x3072 .bf16) (k v : Vec Ideal S3x640x512 .bf16) (t : Fin cfg0.N) (X : Vec Ideal S1x640x768 .bf16) : Prop :=
  ∀ (s : Fin 640) (e : Fin 768), X (ix3 0 s e)
    = sO x k v (bOf t) ⟨12 * (t.val % 4) + e.val / 64, by omega⟩ (128 * (s.val / 128 + 1)) (by omega) s ⟨e.val % 64, by omega⟩
def P4 (x : Vec Ideal S3x640x3072 .bf16) (k v : Vec Ideal S3x640x512 .bf16) (t : Fin cfg0.N) (X : Vec Ideal S1x12x64x640 .fp8e4m3) : Prop :=
  ∀ (h : Fin 12) (d : Fin 64) (s : Fin 640), X (ix4 0 h d s) = sQC x (bOf t) ⟨12 * (t.val % 4) + h.val, by omega⟩ d s
def P5 (x : Vec Ideal S3x640x3072 .bf16) (k v : Vec Ideal S3x640x512 .bf16) (t : Fin cfg0.N) (X : Vec Ideal S1x48x640 .f32) : Prop :=
  ∀ (h : Fin 48) (s : Fin 640), h.val < 12 * (t.val % 4 + 1) → X (ix3 0 h s) = sQS x (bOf t) h s
def P6 (x : Vec Ideal S3x640x3072 .bf16) (k v : Vec Ideal S3x640x512 .bf16) (t : Fin cfg0.N) (X : Vec Ideal S1x2x64x640 .fp8e4m3) : Prop :=
  ∀ (j : Fin 2) (d : Fin 64) (s : Fin 640), X (ix4 0 j d s) = sKC k (bOf t) ⟨2 * (t.val % 4) + j.val, by omega⟩ d s
def P7 (x : Vec Ideal S3x640x3072 .bf16) (k v : Vec Ideal S3x640x512 .bf16) (t : Fin cfg0.N) (X : Vec Ideal S1x8x640 .f32) : Prop :=
  ∀ (j : Fin 8) (s : Fin 640), j.val < 2 * (t.val % 4 + 1) → X (ix3 0 j s) = sKS k (bOf t) j s
def P8 (x : Vec Ideal S3x640x3072 .bf16) (k v : Vec Ideal S3x640x512 .bf16) (t : Fin cfg0.N) (X : Vec Ideal S1x2x64x640 .fp8e4m3) : Prop :=
  ∀ (j : Fin 2) (d : Fin 64) (s : Fin 640), X (ix4 0 j d s) = sVC v (bOf t) ⟨2 * (t.val % 4) + j.val, by omega⟩ d s
def P9 (x : Vec Ideal S3x640x3072 .bf16) (k v : Vec Ideal S3x640x512 .bf16) (t : Fin cfg0.N) (X : Vec Ideal S1x8x64 .f32) : Prop :=
  ∀ (j : Fin 8) (d : Fin 64), j.val < 2 * (t.val % 4 + 1) → X (ix3 0 j d) = sVS v (bOf t) j d
end

end Cert.KernelIdeal.Gen

end
-- ==== Proof.LeavesKV.lean ====
/- What the body leaves of the keys and of the values: codes and scales of the point's two heads. -/
module

public import proofs.«01_k».proof.Proof.Spec
public import proofs.«01_k».proof.Proof.Gen.KernelIdeal.Frame
public import Idealize.ShloMosaic.Lib.Pipeline.ValueKit.Geometry

@[expose] public section

set_option maxRecDepth 16384

noncomputable section

namespace Cert.KernelIdeal.Gen

open Idealize.ShloMosaic Idealize.ShloMosaic.TcCoe Cert.KernelIdeal Cert.Quant

variable (m : (ℓ : Loc nD τ sig) → Buf (Elt Ideal) ℓ) (c : Dev nD) (t : Fin cfg0.N)

/-- The queries as launched. -/
abbrev xin : Vec Ideal S3x640x3072 .bf16 := V m c main_arg0
/-- The keys as launched. -/
abbrev kin : Vec Ideal S3x640x512 .bf16 := V m c main_arg1
/-- The values as launched. -/
abbrev vin : Vec Ideal S3x640x512 .bf16 := V m c main_arg2

theorem idx0 : ∀ t : Fin cfg0.N, win0_0.index t 0 = t.val / 4 ∧ win0_0.index t 1 = 0 ∧ win0_0.index t 2 = t.val % 4 := by
  decide +kernel
theorem idx1 : ∀ t : Fin cfg0.N, win0_1.index t 0 = t.val / 4 ∧ win0_1.index t 1 = 0 ∧ win0_1.index t 2 = t.val % 4 := by
  decide +kernel
theorem idx2 : ∀ t : Fin cfg0.N, win0_2.index t 0 = t.val / 4 ∧ win0_2.index t 1 = 0 ∧ win0_2.index t 2 = t.val % 4 := by
  decide +kernel
theorem coords1 : ∀ t : Fin cfg0.N, (grid0.coords t 1).val = t.val % 4 := by decide +kernel

theorem iblk0_apply (s : Fin 640) (e : Fin 768) :
    iblk m c 0 t (ix3 (n0 := 1) 0 s e) = xin m c (ix3 (bOf t) s ⟨768 * (t.val % 4) + e.val, by omega⟩) := by
  obtain ⟨e0, e1, e2⟩ := idx0 t
  refine (show iblk m c 0 t (ix3 (n0 := 1) 0 s e) = xin m c ((win0_0.blk t).view.emb (ix3 (n0 := 1) 0 s e)) from rfl).trans ?_
  refine congrArg (xin m c) (funext fun a => Fin.ext ?_)
  match a with
  | ⟨0, _⟩ => show _ = t.val / 4; blk_simp [e0] <;> omega
  | ⟨1, _⟩ => show _ = s.val; blk_simp [e1] <;> omega
  | ⟨2, _⟩ => show _ = 768 * (t.val % 4) + e.val; blk_simp [e2] <;> omega

theorem iblk1_apply (s : Fin 640) (e : Fin 128) :
    iblk m c 1 t (ix3 (n0 := 1) 0 s e) = kin m c (ix3 (bOf t) s ⟨128 * (t.val % 4) + e.val, by omega⟩) := by
  obtain ⟨e0, e1, e2⟩ := idx1 t
  refine (show iblk m c 1 t (ix3 (n0 := 1) 0 s e) = kin m c ((win0_1.blk t).view.emb (ix3 (n0 := 1) 0 s e)) from rfl).trans ?_
  refine congrArg (kin m c) (funext fun a => Fin.ext ?_)
  match a with
  | ⟨0, _⟩ => show _ = t.val / 4; blk_simp [e0] <;> omega
  | ⟨1, _⟩ => show _ = s.val; blk_simp [e1] <;> omega
  | ⟨2, _⟩ => show _ = 128 * (t.val % 4) + e.val; blk_simp [e2] <;> omega

theorem iblk2_apply (s : Fin 640) (e : Fin 128) :
    iblk m c 2 t (ix3 (n0 := 1) 0 s e) = vin m c (ix3 (bOf t) s ⟨128 * (t.val % 4) + e.val, by omega⟩) := by
  obtain ⟨e0, e1, e2⟩ := idx2 t
  refine (show iblk m c 2 t (ix3 (n0 := 1) 0 s e) = vin m c ((win0_2.blk t).view.emb (ix3 (n0 := 1) 0 s e)) from rfl).trans ?_
  refine congrArg (vin m c) (funext fun a => Fin.ext ?_)
  match a with
  | ⟨0, _⟩ => show _ = t.val / 4; blk_simp [e0] <;> omega
  | ⟨1, _⟩ => show _ = s.val; blk_simp [e1] <;> omega
  | ⟨2, _⟩ => show _ = 128 * (t.val % 4) + e.val; blk_simp [e2] <;> omega

/-- The point's head `r` of the eight. -/
abbrev jOf (r : Fin 2) : Fin 8 := ⟨2 * (t.val % 4) + r.val, by omega⟩

theorem ctr_iblk (r : Fin 2) (d : Fin 64) (s : Fin 640) (e : Fin 128) (he : e.val = 64 * r.val + d.val) :
    ctr (iblk m c 1 t) e s = krow (kin m c) (bOf t) (jOf t r) s d := by
  unfold ctr krow
  have h : (⟨128 * (t.val % 4) + e.val, by omega⟩ : Fin 512) = ⟨64 * (jOf t r).val + d.val, by omega⟩ := Fin.ext (by simp only; omega)
  rw [iblk1_apply, h]
  refine congrArg (fun z => _ - Ideal.div z _) (Finset.sum_congr rfl fun u _ => ?_)
  rw [iblk1_apply, h]

theorem kv0_val (d : Fin 64) (s : Fin 640) : kv0 (iblk m c 1 t) (ix2 d s) = krow (kin m c) (bOf t) (jOf t 0) s d := by
  unfold kv0; rw [pay53_apply]; exact ctr_iblk m c t 0 d s _ (by simp)
theorem kv1_val (d : Fin 64) (s : Fin 640) : kv1 (iblk m c 1 t) (ix2 d s) = krow (kin m c) (bOf t) (jOf t 1) s d := by
  unfold kv1; rw [pay66_apply, pay52_apply]; exact ctr_iblk m c t 1 d s _ (by simp)
theorem kr0_val (s : Fin 640) : k0_pay54 (iblk m c 1 t) (ix2 (0 : Fin 1) s) = amx (krow (kin m c) (bOf t) (jOf t 0) s) := by
  rw [pay54_apply]; exact congrArg amx (funext fun d => kv0_val m c t d s)
theorem kr1_val (s : Fin 640) : kr1 (iblk m c 1 t) (ix2 (0 : Fin 1) s) = amx (krow (kin m c) (bOf t) (jOf t 1) s) := by
  unfold kr1; rw [pay67_apply]; exact congrArg amx (funext fun d => kv1_val m c t d s)
theorem vcol_val (r : Fin 2) (d : Fin 64) (s : Fin 640) (e : Fin 128) (he : e.val = 64 * r.val + d.val) :
    iblk m c 2 t (ix3 (0 : Fin 1) s e) = vcol (vin m c) (bOf t) (jOf t r) d s := by
  have h : (⟨128 * (t.val % 4) + e.val, by omega⟩ : Fin 512) = ⟨64 * (jOf t r).val + d.val, by omega⟩ := Fin.ext (by simp only; omega)
  unfold vcol; rw [iblk2_apply, h]
theorem vr_val (r : Fin 2) (d : Fin 64) (e : Fin 128) (he : e.val = 64 * r.val + d.val) :
    k0_pay80 (iblk m c 2 t) (ix2 (0 : Fin 1) e) = amx (vcol (vin m c) (bOf t) (jOf t r) d) := by
  rw [pay80_apply]; exact congrArg amx (funext fun s => vcol_val m c t r d s e he)

/-! ## The stored values -/

theorem kc0_val (d : Fin 64) (s : Fin 640) : k0_pay61 (kv0 (iblk m c 1 t)) (kinv0 (iblk m c 1 t)) (ix2 d s) = sKC (kin m c) (bOf t) (jOf t 0) d s := by
  rw [pay61_apply, kinv0_apply, kv0_val, kr0_val]; rfl
theorem kc1_val (d : Fin 64) (s : Fin 640) :
    k0_pay73 (kv1 (iblk m c 1 t)) (kr1 (iblk m c 1 t)) (ke1 (iblk m c 1 t)) (ix2 d s) = sKC (kin m c) (bOf t) (jOf t 1) d s := by
  refine (pay73_apply _ _ d s).trans ?_
  rw [kv1_val, kr1_val]; rfl
theorem ks0_val (s : Fin 640) : ksc0 (iblk m c 1 t) (ix2 (0 : Fin 1) s) = sKS (kin m c) (bOf t) (jOf t 0) s := by
  rw [ksc0_apply, kr0_val]; rfl
theorem ks1_val (s : Fin 640) : k0_pay72 (kr1 (iblk m c 1 t)) (ke1 (iblk m c 1 t)) (ix2 (0 : Fin 1) s) = sKS (kin m c) (bOf t) (jOf t 1) s := by
  refine (pay72_apply _ s).trans ?_
  rw [kr1_val]; rfl
theorem vs_val (r : Fin 2) (d : Fin 64) (e : Fin 128) (he : e.val = 64 * r.val + d.val) :
    vsc (iblk m c 2 t) (ix2 (0 : Fin 1) e) = sVS (vin m c) (bOf t) (jOf t r) d := by
  unfold vsc; rw [pay83_apply, vr_val m c t r d e he]; rfl
theorem vc_val (r : Fin 2) (d : Fin 64) (s : Fin 640) (e : Fin 128) (he : e.val = 64 * r.val + d.val) :
    k0_pay85 (k0_pay79 (iblk m c 2 t)) (vinv (iblk m c 2 t)) (ix2 e s) = sVC (vin m c) (bOf t) (jOf t r) d s := by
  unfold vinv; rw [pay85_apply, vr_val m c t r d e he, vcol_val m c t r d s e he]; rfl

/-! ## The four windows -/

theorem unit_emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

/-- A piece that fills one plane of the second axis, read at its place: rank four, -/
theorem piece4 {α : Type} {n a b : ℕ} (r : Fin n) (off : Fin 4 → ℕ) (hoff : off = ![0, r.val, 0, 0])
    (inb : ∀ k, off k + (![1, 1, a, b] : Fin 4 → ℕ) k ≤ (⟨4, ![1, n, a, b]⟩ : Shape).size k)
    (w : (Rect.unit (s := ⟨4, ![1, n, a, b]⟩) off ![1, 1, a, b] inb).shape.Idx → α) (G : (⟨4, ![1, n, a, b]⟩ : Shape).Idx → α)
    (h : ∀ (d : Fin a) (s : Fin b), w (ix4 (n0 := 1) (n1 := 1) 0 0 d s) = G (ix4 0 r d s)) (x) :
    w x = G ((Rect.unit (s := ⟨4, ![1, n, a, b]⟩) off ![1, 1, a, b] inb).emb x) := by
  subst hoff
  have h0 : (x 0).val < 1 := (x 0).isLt
  have h1 : (x 1).val < 1 := (x 1).isLt
  have hx : x = ix4 (n0 := 1) (n1 := 1) (n2 := a) (n3 := b) 0 0 (x 2) (x 3) := by
    funext k
    match k with
    | ⟨0, _⟩ => exact Fin.ext (by show (x 0).val = 0; omega)
    | ⟨1, _⟩ => exact Fin.ext (by show (x 1).val = 0; omega)
    | ⟨2, _⟩ => rfl
    | ⟨3, _⟩ => rfl
  have he : (Rect.unit (s := ⟨4, ![1, n, a, b]⟩) ![0, r.val, 0, 0] ![1, 1, a, b] inb).emb x = ix4 (n0 := 1) (n1 := n) (n2 := a) (n3 := b) 0 r (x 2) (x 3) := by
    funext k
    match k with
    | ⟨0, _⟩ => exact Fin.ext ((unit_emb_val _ _ inb x _).trans (by show 0 + (x 0).val = 0; omega))
    | ⟨1, _⟩ => exact Fin.ext ((unit_emb_val _ _ inb x _).trans (by show r.val + (x 1).val = r.val; omega))
    | ⟨2, _⟩ => exact Fin.ext ((unit_emb_val _ _ inb x _).trans (by show 0 + (x 2).val = (x 2).val; omega))
    | ⟨3, _⟩ => exact Fin.ext ((unit_emb_val _ _ inb x _).trans (by show 0 + (x 3).val = (x 3).val; omega))
  rw [he]
  exact (congrArg w hx).trans (h _ _)

/-- and its indices are those of that plane. -/
theorem mem4 {n a b : ℕ} (r : ℕ) (off : Fin 4 → ℕ) (hoff : off = ![0, r, 0, 0])
    (inb : ∀ k, off k + (![1, 1, a, b] : Fin 4 → ℕ) k ≤ (⟨4, ![1, n, a, b]⟩ : Shape).size k) (j : Fin n) (d : Fin a) (s : Fin b) :
    ix4 (n0 := 1) 0 j d s ∈ (Rect.unit (s := ⟨4, ![1, n, a, b]⟩) off ![1, 1, a, b] inb).set ↔ j.val = r := by
  subst hoff
  rw [Rect.mem_set_unit]
  constructor
  · intro h
    have h1 := h 1
    have e0 : r ≤ j.val := h1.1
    have e1 : j.val < r + 1 := h1.2
    omega
  · intro h k
    match k with
    | ⟨0, _⟩ => exact ⟨Nat.le_refl _, by show 0 < 0 + 1; omega⟩
    | ⟨1, _⟩ => exact ⟨by show r ≤ j.val; omega, by show j.val < r + 1; omega⟩
    | ⟨2, _⟩ => exact ⟨Nat.zero_le _, by show d.val < 0 + a; omega⟩
    | ⟨3, _⟩ => exact ⟨Nat.zero_le _, by show s.val < 0 + b; omega⟩

/-- Rank three. -/
theorem piece3 {α : Type} {n a : ℕ} (r : Fin n) (off : Fin 3 → ℕ) (hoff : off = ![0, r.val, 0])
    (inb : ∀ k, off k + (![1, 1, a] : Fin 3 → ℕ) k ≤ (⟨3, ![1, n, a]⟩ : Shape).size k)
    (w : (Rect.unit (s := ⟨3, ![1, n, a]⟩) off ![1, 1, a] inb).shape.Idx → α) (G : (⟨3, ![1, n, a]⟩ : Shape).Idx → α)
    (h : ∀ (d : Fin a), w (ix3 (n0 := 1) (n1 := 1) 0 0 d) = G (ix3 0 r d)) (x) :
    w x = G ((Rect.unit (s := ⟨3, ![1, n, a]⟩) off ![1, 1, a] inb).emb x) := by
  subst hoff
  have h0 : (x 0).val < 1 := (x 0).isLt
  have h1 : (x 1).val < 1 := (x 1).isLt
  have hx : x = ix3 (n0 := 1) (n1 := 1) (n2 := a) 0 0 (x 2) := by
    funext k
    match k with
    | ⟨0, _⟩ => exact Fin.ext (by show (x 0).val = 0; omega)
    | ⟨1, _⟩ => exact Fin.ext (by show (x 1).val = 0; omega)
    | ⟨2, _⟩ => rfl
  have he : (Rect.unit (s := ⟨3, ![1, n, a]⟩) ![0, r.val, 0] ![1, 1, a] inb).emb x = ix3 (n0 := 1) (n1 := n) (n2 := a) 0 r (x 2) := by
    funext k
    match k with
    | ⟨0, _⟩ => exact Fin.ext ((unit_emb_val _ _ inb x _).trans (by show 0 + (x 0).val = 0; omega))
    | ⟨1, _⟩ => exact Fin.ext ((unit_emb_val _ _ inb x _).trans (by show r.val + (x 1).val = r.val; omega))
    | ⟨2, _⟩ => exact Fin.ext ((unit_emb_val _ _ inb x _).trans (by show 0 + (x 2).val = (x 2).val; omega))
  rw [he]
  exact (congrArg w hx).trans (h _)

theorem mem3 {n a : ℕ} (r : ℕ) (off : Fin 3 → ℕ) (hoff : off = ![0, r, 0])
    (inb : ∀ k, off k + (![1, 1, a] : Fin 3 → ℕ) k ≤ (⟨3, ![1, n, a]⟩ : Shape).size k) (j : Fin n) (d : Fin a) :
    ix3 (n0 := 1) 0 j d ∈ (Rect.unit (s := ⟨3, ![1, n, a]⟩) off ![1, 1, a] inb).set ↔ j.val = r := by
  subst hoff
  rw [Rect.mem_set_unit]
  constructor
  · intro h
    have h1 := h 1
    have e0 : r ≤ j.val := h1.1
    have e1 : j.val < r + 1 := h1.2
    omega
  · intro h k
    match k with
    | ⟨0, _⟩ => exact ⟨Nat.le_refl _, by show 0 < 0 + 1; omega⟩
    | ⟨1, _⟩ => exact ⟨by show r ≤ j.val; omega, by show j.val < r + 1; omega⟩
    | ⟨2, _⟩ => exact ⟨Nat.zero_le _, by show d.val < 0 + a; omega⟩

theorem leaf6 (arg8 : Memref sig .tc .vmem S1x2x64x640 .fp8e4m3) (d X : Vec Ideal S1x2x64x640 .fp8e4m3)
    (h : Left arg8 d (L_arg8 (iblk m c 1 t)) X) : P6 (xin m c) (kin m c) (vin m c) t X := by
  obtain ⟨f, rfl, -⟩ := h
  intro j d s
  refine View.read_writes_apply_of_pieces arg8.view f (fun y : S1x2x64x640.Idx => sKC (kin m c) (bOf t) (jOf t (y 1)) (y 2) (y 3)) _ ?_
    (ix4 0 j d s) ?_
  · unfold L_arg8
    refine List.forall_mem_cons.2 ⟨?_, List.forall_mem_singleton.2 ?_⟩
    · exact piece4 1 _ rfl inb_S1x2x64x640_S1x1x64x640_0_1_0_0 _ (fun y : S1x2x64x640.Idx => sKC (kin m c) (bOf t) (jOf t (y 1)) (y 2) (y 3)) fun d s => (pay74_apply _ _ _ _ _).trans (kc1_val m c t _ _)
    · exact piece4 0 _ rfl inb_S1x2x64x640_S1x1x64x640_0_0_0_0 _ (fun y : S1x2x64x640.Idx => sKC (kin m c) (bOf t) (jOf t (y 1)) (y 2) (y 3)) fun d s => (pay62_apply _ _ _ _).trans ((pay61_apply _ _ _ _).symm.trans (kc0_val m c t _ _))
  · unfold L_arg8
    by_cases hj : j.val = 1
    · refine ⟨_, List.mem_cons_self, ?_⟩; exact (mem4 1 _ rfl inb_S1x2x64x640_S1x1x64x640_0_1_0_0 j d s).2 hj
    · exact ⟨_, List.mem_cons_of_mem _ List.mem_cons_self, (mem4 0 _ rfl inb_S1x2x64x640_S1x1x64x640_0_0_0_0 j d s).2 (by omega)⟩

theorem leaf8 (arg10 : Memref sig .tc .vmem S1x2x64x640 .fp8e4m3) (d X : Vec Ideal S1x2x64x640 .fp8e4m3)
    (h : Left arg10 d (L_arg10 (iblk m c 2 t)) X) : P8 (xin m c) (kin m c) (vin m c) t X := by
  obtain ⟨f, rfl, -⟩ := h
  intro j d s
  refine View.read_writes_apply_of_pieces arg10.view f (fun y : S1x2x64x640.Idx => sVC (vin m c) (bOf t) (jOf t (y 1)) (y 2) (y 3)) _ ?_
    (ix4 0 j d s) ?_
  · unfold L_arg10
    refine List.forall_mem_cons.2 ⟨?_, List.forall_mem_singleton.2 ?_⟩
    · exact piece4 1 _ rfl inb_S1x2x64x640_S1x1x64x640_0_1_0_0 _ (fun y : S1x2x64x640.Idx => sVC (vin m c) (bOf t) (jOf t (y 1)) (y 2) (y 3)) fun d s => (pay90_apply _ _ d s).trans (vc_val m c t 1 d s _ (by simp))
    · exact piece4 0 _ rfl inb_S1x2x64x640_S1x1x64x640_0_0_0_0 _ (fun y : S1x2x64x640.Idx => sVC (vin m c) (bOf t) (jOf t (y 1)) (y 2) (y 3)) fun d s => (pay86_apply _ _ d s).trans (vc_val m c t 0 d s _ (by simp))
  · unfold L_arg10
    by_cases hj : j.val = 1
    · refine ⟨_, List.mem_cons_self, ?_⟩; exact (mem4 1 _ rfl inb_S1x2x64x640_S1x1x64x640_0_1_0_0 j d s).2 hj
    · exact ⟨_, List.mem_cons_of_mem _ List.mem_cons_self, (mem4 0 _ rfl inb_S1x2x64x640_S1x1x64x640_0_0_0_0 j d s).2 (by omega)⟩

theorem off1 (r : Fin 2) : k0_off1 (grid0.coords t) (BitVec.ofNat 32 r.val) = ![0, (jOf t r).val, 0] := by
  rw [k0_off1_eq, coords1]
theorem off2 (r : Fin 2) : k0_off2 (grid0.coords t) (BitVec.ofNat 32 r.val) = ![0, (jOf t r).val, 0] := by
  rw [k0_off2_eq, coords1]

theorem leaf7 (arg9 : Memref sig .tc .vmem S1x8x640 .f32) (d X : Vec Ideal S1x8x640 .f32)
    (h : Left arg9 d (L_arg9 (grid0.coords t) (iblk m c 1 t)) X)
    (hd : t.val % 4 ≠ 0 → P7 (xin m c) (kin m c) (vin m c) ⟨t.val - 1, Nat.lt_of_le_of_lt (Nat.sub_le _ _) t.isLt⟩ d) :
    P7 (xin m c) (kin m c) (vin m c) t X := by
  obtain ⟨f, rfl, hf⟩ := h
  intro j s hj
  by_cases hn : 2 * (t.val % 4) ≤ j.val
  · refine View.read_writes_apply_of_pieces arg9.view f (fun y : S1x8x640.Idx => sKS (kin m c) (bOf t) (y 1) (y 2)) _ ?_
      (ix3 0 j s) ?_
    · unfold L_arg9
      refine List.forall_mem_cons.2 ⟨?_, List.forall_mem_singleton.2 ?_⟩
      · exact piece3 (jOf t 1) _ (off1 t 1) (k0_off1_inb _ 1) _ (fun y : S1x8x640.Idx => sKS (kin m c) (bOf t) (y 1) (y 2)) fun s => (pay75_apply _ _ _).trans (ks1_val m c t _)
      · exact piece3 (jOf t 0) _ (off1 t 0) (k0_off1_inb _ 0) _ (fun y : S1x8x640.Idx => sKS (kin m c) (bOf t) (y 1) (y 2)) fun s => (pay63_apply _ _).trans (ks0_val m c t _)
    · unfold L_arg9
      by_cases hj' : j.val = 2 * (t.val % 4) + 1
      · refine ⟨_, List.mem_cons_self, ?_⟩; exact (mem3 _ _ (off1 t 1) (k0_off1_inb _ 1) j s).2 hj'
      · exact ⟨_, List.mem_cons_of_mem _ List.mem_cons_self, (mem3 _ _ (off1 t 0) (k0_off1_inb _ 0) j s).2 (by show j.val = 2 * (t.val % 4) + 0; omega)⟩
  · have hnot : ∀ p ∈ L_arg9 (grid0.coords t) (iblk m c 1 t), ix3 (n0 := 1) 0 j s ∉ p.1.set := by
      unfold L_arg9
      refine List.forall_mem_cons.2 ⟨?_, List.forall_mem_singleton.2 ?_⟩
      · intro h
        have h' : j.val = 2 * (t.val % 4) + 1 := (mem3 _ _ (off1 t 1) (k0_off1_inb _ 1) j s).1 h
        omega
      · intro h
        have h' : j.val = 2 * (t.val % 4) + 0 := (mem3 _ _ (off1 t 0) (k0_off1_inb _ 0) j s).1 h
        omega
    rw [View.read_writes_apply_of_forall_not_mem _ _ _ _ hnot]
    rcases hf with hc | hr
    · obtain ⟨p, hp, hm⟩ := hc (ix3 0 j s)
      exact absurd hm (hnot p hp)
    · rw [hr]
      have ht : t.val % 4 ≠ 0 := by omega
      have hb : bOf ⟨t.val - 1, Nat.lt_of_le_of_lt (Nat.sub_le _ _) t.isLt⟩ = bOf t := Fin.ext (by show (t.val - 1) / 4 = t.val / 4; omega)
      have := hd ht j s (by show j.val < 2 * ((t.val - 1) % 4 + 1); omega)
      rw [hb] at this
      exact this

theorem leaf9 (arg11 : Memref sig .tc .vmem S1x8x64 .f32) (d X : Vec Ideal S1x8x64 .f32)
    (h : Left arg11 d (L_arg11 (grid0.coords t) (iblk m c 2 t)) X)
    (hd : t.val % 4 ≠ 0 → P9 (xin m c) (kin m c) (vin m c) ⟨t.val - 1, Nat.lt_of_le_of_lt (Nat.sub_le _ _) t.isLt⟩ d) :
    P9 (xin m c) (kin m c) (vin m c) t X := by
  obtain ⟨f, rfl, hf⟩ := h
  intro j s hj
  by_cases hn : 2 * (t.val % 4) ≤ j.val
  · refine View.read_writes_apply_of_pieces arg11.view f (fun y : S1x8x64.Idx => sVS (vin m c) (bOf t) (y 1) (y 2)) _ ?_
      (ix3 0 j s) ?_
    · unfold L_arg11
      refine List.forall_mem_cons.2 ⟨?_, List.forall_mem_singleton.2 ?_⟩
      · exact piece3 (jOf t 1) _ (off2 t 1) (k0_off2_inb _ 1) _ (fun y : S1x8x64.Idx => sVS (vin m c) (bOf t) (y 1) (y 2)) fun s => (pay1_apply _ s).trans (vs_val m c t 1 s _ (by simp))
      · exact piece3 (jOf t 0) _ (off2 t 0) (k0_off2_inb _ 0) _ (fun y : S1x8x64.Idx => sVS (vin m c) (bOf t) (y 1) (y 2)) fun s => (pay88_apply _ s).trans (vs_val m c t 0 s _ (by simp))
    · unfold L_arg11
      by_cases hj' : j.val = 2 * (t.val % 4) + 1
      · refine ⟨_, List.mem_cons_self, ?_⟩; exact (mem3 _ _ (off2 t 1) (k0_off2_inb _ 1) j s).2 hj'
      · exact ⟨_, List.mem_cons_of_mem _ List.mem_cons_self, (mem3 _ _ (off2 t 0) (k0_off2_inb _ 0) j s).2 (by show j.val = 2 * (t.val % 4) + 0; omega)⟩
  · have hnot : ∀ p ∈ L_arg11 (grid0.coords t) (iblk m c 2 t), ix3 (n0 := 1) 0 j s ∉ p.1.set := by
      unfold L_arg11
      refine List.forall_mem_cons.2 ⟨?_, List.forall_mem_singleton.2 ?_⟩
      · intro h
        have h' : j.val = 2 * (t.val % 4) + 1 := (mem3 _ _ (off2 t 1) (k0_off2_inb _ 1) j s).1 h
        omega
      · intro h
        have h' : j.val = 2 * (t.val % 4) + 0 := (mem3 _ _ (off2 t 0) (k0_off2_inb _ 0) j s).1 h
        omega
    rw [View.read_writes_apply_of_forall_not_mem _ _ _ _ hnot]
    rcases hf with hc | hr
    · obtain ⟨p, hp, hm⟩ := hc (ix3 0 j s)
      exact absurd hm (hnot p hp)
    · rw [hr]
      have ht : t.val % 4 ≠ 0 := by omega
      have hb : bOf ⟨t.val - 1, Nat.lt_of_le_of_lt (Nat.sub_le _ _) t.isLt⟩ = bOf t := Fin.ext (by show (t.val - 1) / 4 = t.val / 4; omega)
      have := hd ht j s (by show j.val < 2 * ((t.val - 1) % 4 + 1); omega)
      rw [hb] at this
      exact this

end Cert.KernelIdeal.Gen

end
-- ==== Proof.LeavesQ.lean ====
/- What the body leaves of the queries: the loop over the six head pairs stores codes and scales of twelve heads. -/
module

public import proofs.«01_k».proof.Proof.LeavesKV

@[expose] public section

set_option maxRecDepth 16384

noncomputable section

namespace Cert.KernelIdeal.Gen

open Idealize.ShloMosaic Idealize.ShloMosaic.TcCoe Cert.KernelIdeal Cert.Quant

variable (m : (ℓ : Loc nD τ sig) → Buf (Elt Ideal) ℓ) (c : Dev nD) (t : Fin cfg0.N)

theorem trips6 : k0_t1_loop.trips = 6 := by decide +kernel
theorem trip_lt (k : Fin k0_t1_loop.trips) : k.val < 6 := lt_of_lt_of_eq k.isLt trips6

/-- A load through a unit rectangle, at an index. -/
theorem readAt_unit_apply {sp : Space} {s : Shape} {e : EltTy} (a : Memref sig .tc sp s e) (off size : Fin s.rank → ℕ)
    (inb : ∀ k, off k + size k ≤ s.size k) (f : BufTy.Contents (Elt Ideal) a.view.ty) (x : (Rect.unit off size inb).shape.Idx) (y : s.Idx)
    (h : ∀ k, (y k).val = off k + (x k).val) :
    View.readAt (Elt Ideal) a.view (Rect.unit off size inb).toLoadRect f x = a.view.read (Elt Ideal) f y := by
  show a.view.read (Elt Ideal) f ((Rect.unit off size inb).toLoadRect.idx x) = _
  refine congrArg _ (funext fun k => Fin.ext ?_)
  rw [h k]
  show off k + 1 * (x k).val = _
  omega

/-- Every piece the loop leaves is one of a trip's, -/
theorem pb_all5 (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt Ideal) arg2.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (Q : View.Piece (Elt Ideal) S1x640x768 .bf16 → Prop)
    (h : ∀ k : Fin k0_t1_loop.trips, ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).1, Q p) :
    ∀ n, n ≤ 6 → ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 n).1, Q p := by
  intro n
  induction n with
  | zero => intro _ p hp; exact absurd hp List.not_mem_nil
  | succ n ih =>
    intro hn p hp
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 ⟨n, lt_of_lt_of_eq (by omega) trips6.symm⟩
    rw [show n + 1 = (⟨n, lt_of_lt_of_eq (by omega) trips6.symm⟩ : Fin k0_t1_loop.trips).val + 1 from rfl, e] at hp
    rcases List.mem_append.1 hp with hp | hp
    · exact h _ p hp
    · exact ih (by omega) p hp

/-- and every piece of a trip is there. -/
theorem pb_sub5 (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt Ideal) arg2.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips) (p : View.Piece (Elt Ideal) S1x640x768 .bf16)
    (h : p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).1) :
    ∀ n, k.val < n → n ≤ 6 → p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 n).1 := by
  intro n
  induction n with
  | zero => intro hk; omega
  | succ n ih =>
    intro hk hn
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 ⟨n, lt_of_lt_of_eq (by omega) trips6.symm⟩
    rw [show n + 1 = (⟨n, lt_of_lt_of_eq (by omega) trips6.symm⟩ : Fin k0_t1_loop.trips).val + 1 from rfl, e]
    refine List.mem_append.2 ?_
    by_cases hkn : k.val = n
    · left
      have : k = ⟨n, lt_of_lt_of_eq (by omega) trips6.symm⟩ := Fin.ext hkn
      rw [← this]; exact h
    · right; exact ih (by omega) (by omega)

/-- Every piece the loop leaves is one of a trip's, -/
theorem pb_all6 (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt Ideal) arg2.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (Q : View.Piece (Elt Ideal) S1x12x64x640 .fp8e4m3 → Prop)
    (h : ∀ k : Fin k0_t1_loop.trips, ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).2.1, Q p) :
    ∀ n, n ≤ 6 → ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 n).2.1, Q p := by
  intro n
  induction n with
  | zero => intro _ p hp; exact absurd hp List.not_mem_nil
  | succ n ih =>
    intro hn p hp
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 ⟨n, lt_of_lt_of_eq (by omega) trips6.symm⟩
    rw [show n + 1 = (⟨n, lt_of_lt_of_eq (by omega) trips6.symm⟩ : Fin k0_t1_loop.trips).val + 1 from rfl, e] at hp
    rcases List.mem_append.1 hp with hp | hp
    · exact h _ p hp
    · exact ih (by omega) p hp

/-- and every piece of a trip is there. -/
theorem pb_sub6 (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt Ideal) arg2.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips) (p : View.Piece (Elt Ideal) S1x12x64x640 .fp8e4m3)
    (h : p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).2.1) :
    ∀ n, k.val < n → n ≤ 6 → p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 n).2.1 := by
  intro n
  induction n with
  | zero => intro hk; omega
  | succ n ih =>
    intro hk hn
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 ⟨n, lt_of_lt_of_eq (by omega) trips6.symm⟩
    rw [show n + 1 = (⟨n, lt_of_lt_of_eq (by omega) trips6.symm⟩ : Fin k0_t1_loop.trips).val + 1 from rfl, e]
    refine List.mem_append.2 ?_
    by_cases hkn : k.val = n
    · left
      have : k = ⟨n, lt_of_lt_of_eq (by omega) trips6.symm⟩ := Fin.ext hkn
      rw [← this]; exact h
    · right; exact ih (by omega) (by omega)

/-- Every piece the loop leaves is one of a trip's, -/
theorem pb_all7 (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt Ideal) arg2.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (Q : View.Piece (Elt Ideal) S1x48x640 .f32 → Prop)
    (h : ∀ k : Fin k0_t1_loop.trips, ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).2.2.1, Q p) :
    ∀ n, n ≤ 6 → ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 n).2.2, Q p := by
  intro n
  induction n with
  | zero => intro _ p hp; exact absurd hp List.not_mem_nil
  | succ n ih =>
    intro hn p hp
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 ⟨n, lt_of_lt_of_eq (by omega) trips6.symm⟩
    rw [show n + 1 = (⟨n, lt_of_lt_of_eq (by omega) trips6.symm⟩ : Fin k0_t1_loop.trips).val + 1 from rfl, e] at hp
    rcases List.mem_append.1 hp with hp | hp
    · exact h _ p hp
    · exact ih (by omega) p hp

/-- and every piece of a trip is there. -/
theorem pb_sub7 (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt Ideal) arg2.view.ty) (X_arg10 : BufTy.Contents (Elt Ideal) arg10.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips) (p : View.Piece (Elt Ideal) S1x48x640 .f32)
    (h : p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).2.2.1) :
    ∀ n, k.val < n → n ≤ 6 → p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 n).2.2 := by
  intro n
  induction n with
  | zero => intro hk; omega
  | succ n ih =>
    intro hk hn
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 ⟨n, lt_of_lt_of_eq (by omega) trips6.symm⟩
    rw [show n + 1 = (⟨n, lt_of_lt_of_eq (by omega) trips6.symm⟩ : Fin k0_t1_loop.trips).val + 1 from rfl, e]
    refine List.mem_append.2 ?_
    by_cases hkn : k.val = n
    · left
      have : k = ⟨n, lt_of_lt_of_eq (by omega) trips6.symm⟩ := Fin.ext hkn
      rw [← this]; exact h
    · right; exact ih (by omega) (by omega)

/-- The twelve heads of the point: head `r` of trip `k`. -/
abbrev hOf (k : Fin k0_t1_loop.trips) (r : Fin 2) : Fin 48 := ⟨12 * (t.val % 4) + 2 * k.val + r.val, by have := trip_lt k; omega⟩
/-- The head among the point's twelve. -/
abbrev hIn (k : Fin k0_t1_loop.trips) (r : Fin 2) : Fin 12 := ⟨2 * k.val + r.val, by have := trip_lt k; omega⟩

/-- The queries a trip loads, by head and lane. -/
theorem qld_val (arg2 : Memref sig .tc .vmem S1x640x768 .bf16) (harg2 : arg2.IsWhole) (k : Fin k0_t1_loop.trips) (r : Fin 2) (d : Fin 64)
    (s : Fin 640) (e : Fin 128) (he : e.val = 64 * r.val + d.val) :
    qld arg2 (harg2.unread (iblk m c 0 t)) k (ix3 (0 : Fin 1) s e) = qrow (xin m c) (bOf t) (hOf t k r) s d := by
  have hk := trip_lt k
  refine (readAt_unit_apply arg2 _ _ (k0_off3_inb k) _ _ (ix3 (n0 := 1) 0 s ⟨128 * k.val + e.val, by omega⟩) ?_).trans ?_
  · intro a
    refine Eq.trans ?_ (congrArg (· + (ix3 (0 : Fin 1) s e a).val) (congrFun (k0_off3_eq k) a).symm)
    match a with
    | ⟨0, _⟩ => rfl
    | ⟨1, _⟩ => show s.val = 0 + s.val; omega
    | ⟨2, _⟩ => rfl
  · rw [harg2.read_unread, iblk0_apply]
    unfold qrow
    refine congrArg (xin m c) ?_
    have : (⟨768 * (t.val % 4) + (⟨128 * k.val + e.val, by omega⟩ : Fin 768).val, by have := trip_lt k; simp only; omega⟩ : Fin 3072)
      = ⟨64 * (hOf t k r).val + d.val, by have := (hOf t k r).isLt; omega⟩ := Fin.ext (by simp only; omega)
    rw [this]

section
variable (arg2 : Memref sig .tc .vmem S1x640x768 .bf16) (harg2 : arg2.IsWhole) (k : Fin k0_t1_loop.trips) (d : Fin 64) (s : Fin 640)

theorem qr0_val : k0_pay6 (qld arg2 (harg2.unread (iblk m c 0 t)) k) (ix2 (0 : Fin 1) s) = amx (qrow (xin m c) (bOf t) (hOf t k 0) s) := by
  rw [pay6_apply]
  refine congrArg amx (funext fun d => ?_)
  rw [pay5_apply]; exact qld_val m c t arg2 harg2 k 0 d s _ (by simp)
theorem qr1_val : k0_pay20 (k0_pay4 (qld arg2 (harg2.unread (iblk m c 0 t)) k)) (ix2 (0 : Fin 1) s) = amx (qrow (xin m c) (bOf t) (hOf t k 1) s) := by
  rw [pay20_apply]
  refine congrArg amx (funext fun d => ?_)
  rw [pay19_apply]; exact qld_val m c t arg2 harg2 k 1 d s _ (by simp)
theorem qsc0_val : qsc0 (qld arg2 (harg2.unread (iblk m c 0 t)) k) (ix2 (0 : Fin 1) s) = sQS (xin m c) (bOf t) (hOf t k 0) s := by
  rw [qsc0_apply, qr0_val]; rfl
theorem qsc1_val : qsc1 (qld arg2 (harg2.unread (iblk m c 0 t)) k) (ix2 (0 : Fin 1) s) = sQS (xin m c) (bOf t) (hOf t k 1) s := by
  rw [qsc1_apply, qr1_val]; rfl
theorem qcd0_val : qcd0 (qld arg2 (harg2.unread (iblk m c 0 t)) k) (ix2 d s) = sQC (xin m c) (bOf t) (hOf t k 0) d s := by
  rw [qcd0_apply, qr0_val, pay5_apply, qld_val m c t arg2 harg2 k 0 d s _ (by simp)]; rfl
theorem qcd1_val : k0_pay26 (Scalar.ofBits .bf16 0x43E0#16) (qcd1 (qld arg2 (harg2.unread (iblk m c 0 t)) k)) (ix2 d s)
    = sQC (xin m c) (bOf t) (hOf t k 1) d s := by
  rw [pay26_apply, qr1_val, pay19_apply, qld_val m c t arg2 harg2 k 1 d s _ (by simp)]; rfl
end

theorem off4 (k : Fin k0_t1_loop.trips) (r : Fin 2) : k0_off4 k (BitVec.ofNat 32 r.val) = ![0, (hIn k r).val, 0, 0] := k0_off4_eq k r
theorem off5 (k : Fin k0_t1_loop.trips) (r : Fin 2) : k0_off5 (grid0.coords t) k (BitVec.ofNat 32 r.val) = ![0, (hOf t k r).val, 0] := by
  rw [k0_off5_eq, coords1]

theorem leaf4 (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (d X : Vec Ideal S1x12x64x640 .fp8e4m3)
    (h : Left arg6 d (pb_k0_t1 (F := Ideal) Variants.none c none (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) 6).2.1 X) : P4 (xin m c) (kin m c) (vin m c) t X := by
  obtain ⟨f, rfl, -⟩ := h
  intro j d s
  refine View.read_writes_apply_of_pieces arg6.view f (fun y : S1x12x64x640.Idx => sQC (xin m c) (bOf t) ⟨12 * (t.val % 4) + (y 1).val, by have : (y 1).val < 12 := (y 1).isLt; omega⟩ (y 2) (y 3)) _ ?_ (ix4 0 j d s) ?_
  · refine pb_all6 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) (fun p => ∀ x, p.2 x = (fun y : S1x12x64x640.Idx => sQC (xin m c) (bOf t) ⟨12 * (t.val % 4) + (y 1).val, by have : (y 1).val < 12 := (y 1).isLt; omega⟩ (y 2) (y 3)) (p.1.emb x)) ?_ 6 (Nat.le_refl _)
    intro k
    rw [trip_arg6]
    refine List.forall_mem_cons.2 ⟨?_, List.forall_mem_singleton.2 ?_⟩
    · exact piece4 (hIn k 1) _ (off4 k 1) (k0_off4_inb k 1) _ (fun y : S1x12x64x640.Idx => sQC (xin m c) (bOf t) ⟨12 * (t.val % 4) + (y 1).val, by have : (y 1).val < 12 := (y 1).isLt; omega⟩ (y 2) (y 3)) fun d s =>
        (pay27_apply _ _ d s).trans ((qcd1_val m c t arg2 harg2 k d s).trans (by
          show sQC _ _ _ _ _ = sQC _ _ _ _ _
          congr 1))
    · exact piece4 (hIn k 0) _ (off4 k 0) (k0_off4_inb k 0) _ (fun y : S1x12x64x640.Idx => sQC (xin m c) (bOf t) ⟨12 * (t.val % 4) + (y 1).val, by have : (y 1).val < 12 := (y 1).isLt; omega⟩ (y 2) (y 3)) fun d s =>
        (cast4_apply _ d s).trans ((qcd0_val m c t arg2 harg2 k d s).trans (by
          rfl))
  · have hk : j.val / 2 < k0_t1_loop.trips := lt_of_lt_of_eq (by omega) trips6.symm
    by_cases hj : j.val % 2 = 1
    · refine ⟨_, pb_sub6 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨j.val / 2, hk⟩ _ (by rw [trip_arg6]; exact List.mem_cons_self) 6 (by show j.val / 2 < 6; omega) (Nat.le_refl _), ?_⟩
      exact (mem4 _ _ (off4 ⟨j.val / 2, hk⟩ 1) (k0_off4_inb _ 1) j d s).2 (by show j.val = 2 * (j.val / 2) + 1; omega)
    · refine ⟨_, pb_sub6 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨j.val / 2, hk⟩ _ (by rw [trip_arg6]; exact List.mem_cons_of_mem _ List.mem_cons_self) 6 (by show j.val / 2 < 6; omega) (Nat.le_refl _), ?_⟩
      exact (mem4 _ _ (off4 ⟨j.val / 2, hk⟩ 0) (k0_off4_inb _ 0) j d s).2 (by show j.val = 2 * (j.val / 2) + 0; omega)

theorem leaf5 (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (d X : Vec Ideal S1x48x640 .f32)
    (h : Left arg7 d (pb_k0_t1 (F := Ideal) Variants.none c none (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) 6).2.2 X)
    (hd : t.val % 4 ≠ 0 → P5 (xin m c) (kin m c) (vin m c) ⟨t.val - 1, Nat.lt_of_le_of_lt (Nat.sub_le _ _) t.isLt⟩ d) :
    P5 (xin m c) (kin m c) (vin m c) t X := by
  obtain ⟨f, rfl, hf⟩ := h
  intro j s hj
  by_cases hn : 12 * (t.val % 4) ≤ j.val
  · refine View.read_writes_apply_of_pieces arg7.view f (fun y : S1x48x640.Idx => sQS (xin m c) (bOf t) (y 1) (y 2)) _ ?_ (ix3 0 j s) ?_
    · refine pb_all7 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) (fun p => ∀ x, p.2 x = (fun y : S1x48x640.Idx => sQS (xin m c) (bOf t) (y 1) (y 2)) (p.1.emb x)) ?_ 6 (Nat.le_refl _)
      intro k
      rw [trip_arg7]
      refine List.forall_mem_cons.2 ⟨?_, List.forall_mem_singleton.2 ?_⟩
      · exact piece3 (hOf t k 1) _ (off5 t k 1) (k0_off5_inb _ k 1) _ (fun y : S1x48x640.Idx => sQS (xin m c) (bOf t) (y 1) (y 2)) fun s => (pay28_apply _ s).trans (qsc1_val m c t arg2 harg2 k s)
      · exact piece3 (hOf t k 0) _ (off5 t k 0) (k0_off5_inb _ k 0) _ (fun y : S1x48x640.Idx => sQS (xin m c) (bOf t) (y 1) (y 2)) fun s => (cast3_apply _ s).trans (qsc0_val m c t arg2 harg2 k s)
    · have hk : (j.val - 12 * (t.val % 4)) / 2 < k0_t1_loop.trips := lt_of_lt_of_eq (by omega) trips6.symm
      by_cases hj' : j.val % 2 = 1
      · refine ⟨_, pb_sub7 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨(j.val - 12 * (t.val % 4)) / 2, hk⟩ _ (by rw [trip_arg7]; exact List.mem_cons_self) 6 (by show (j.val - 12 * (t.val % 4)) / 2 < 6; omega) (Nat.le_refl _), ?_⟩
        exact (mem3 _ _ (off5 t ⟨(j.val - 12 * (t.val % 4)) / 2, hk⟩ 1) (k0_off5_inb _ _ 1) j s).2 (by show j.val = 12 * (t.val % 4) + 2 * ((j.val - 12 * (t.val % 4)) / 2) + 1; omega)
      · refine ⟨_, pb_sub7 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨(j.val - 12 * (t.val % 4)) / 2, hk⟩ _ (by rw [trip_arg7]; exact List.mem_cons_of_mem _ List.mem_cons_self) 6 (by show (j.val - 12 * (t.val % 4)) / 2 < 6; omega) (Nat.le_refl _), ?_⟩
        exact (mem3 _ _ (off5 t ⟨(j.val - 12 * (t.val % 4)) / 2, hk⟩ 0) (k0_off5_inb _ _ 0) j s).2 (by show j.val = 12 * (t.val % 4) + 2 * ((j.val - 12 * (t.val % 4)) / 2) + 0; omega)
  · have hnot : ∀ p ∈ (pb_k0_t1 (F := Ideal) Variants.none c none (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) 6).2.2, ix3 (n0 := 1) 0 j s ∉ p.1.set := by
      refine pb_all7 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) (fun p => ix3 (n0 := 1) 0 j s ∉ p.1.set) ?_ 6 (Nat.le_refl _)
      intro k
      rw [trip_arg7]
      refine List.forall_mem_cons.2 ⟨?_, List.forall_mem_singleton.2 ?_⟩
      · intro h
        have h' : j.val = 12 * (t.val % 4) + 2 * k.val + 1 := (mem3 _ _ (off5 t k 1) (k0_off5_inb _ k 1) j s).1 h
        omega
      · intro h
        have h' : j.val = 12 * (t.val % 4) + 2 * k.val + 0 := (mem3 _ _ (off5 t k 0) (k0_off5_inb _ k 0) j s).1 h
        omega
    rw [View.read_writes_apply_of_forall_not_mem _ _ _ _ hnot]
    rcases hf with hc | hr
    · obtain ⟨p, hp, hm⟩ := hc (ix3 0 j s)
      exact absurd hm (hnot p hp)
    · rw [hr]
      have ht : t.val % 4 ≠ 0 := by omega
      have hb : bOf ⟨t.val - 1, Nat.lt_of_le_of_lt (Nat.sub_le _ _) t.isLt⟩ = bOf t := Fin.ext (by show (t.val - 1) / 4 = t.val / 4; omega)
      have := hd ht j s (by show j.val < 12 * ((t.val - 1) % 4 + 1); omega)
      rw [hb] at this
      exact this

end Cert.KernelIdeal.Gen

end
-- ==== Proof.Loads.lean ====
/- What the attention loads of the keys and of the values: codes and scales of the head that the trip's queries share. -/
module

public import proofs.«01_k».proof.Proof.LeavesQ

@[expose] public section

set_option maxRecDepth 16384

noncomputable section

namespace Cert.KernelIdeal.Gen

open Idealize.ShloMosaic Idealize.ShloMosaic.TcCoe Cert.KernelIdeal Cert.Quant

variable (m : (ℓ : Loc nD τ sig) → Buf (Elt Ideal) ℓ) (c : Dev nD) (t : Fin cfg0.N)

/-! ## The stored planes -/

theorem pay64_apply (v w : FVec Ideal S64x640 .f32) (s : Fin 640) (d : Fin 64) :
    k0_pay64 v w (ix3 (0 : Fin 1) s d) = k0_pay61 v w (ix2 d s) := by
  pointwise [k0_pay64]

theorem pay76_apply (v : FVec Ideal S64x640 .f32) (r : FVec Ideal S1x640 .f32) (e : IVec S1x640 32) (s : Fin 640) (d : Fin 64) :
    k0_pay77 (k0_pay76 v r e) (ix3 (0 : Fin 1) s d) = k0_pay73 v r e (ix2 d s) := by
  pointwise [k0_pay77, k0_pay76]

theorem pay65_apply (v : FVec Ideal S1x640 .f32) (s : Fin 640) (l : Fin 128) : k0_pay65 v (ix3 (0 : Fin 1) s l) = v (ix2 (0 : Fin 1) s) := by
  pointwise [k0_pay65]

theorem pay78_apply (v : FVec Ideal S1x640 .f32) (s : Fin 640) (l : Fin 128) : k0_pay78 v (ix3 (0 : Fin 1) s l) = v (ix2 (0 : Fin 1) s) := by
  pointwise [k0_pay78]

theorem twice_lo (x : FVec Ideal S1x64 .f32) (d : Fin 64) :
    k0_pay2 x (ix3 (0 : Fin 1) (0 : Fin 1) ⟨d.val, by omega⟩) = x (ix2 (0 : Fin 1) d) := by
  pointwise [k0_pay2]

theorem twice_hi (x : FVec Ideal S1x64 .f32) (d : Fin 64) :
    k0_pay2 x (ix3 (0 : Fin 1) (0 : Fin 1) ⟨64 + d.val, by omega⟩) = x (ix2 (0 : Fin 1) d) := by
  pointwise [k0_pay2]

theorem twice_apply (x : FVec Ideal S1x64 .f32) (l : Fin 128) :
    k0_pay2 x (ix3 (0 : Fin 1) (0 : Fin 1) l) = x (ix2 (0 : Fin 1) ⟨l.val % 64, Nat.mod_lt _ (by decide)⟩) := by
  by_cases hl : l.val < 64
  · refine Eq.trans ?_ ((twice_lo x ⟨l.val % 64, Nat.mod_lt _ (by decide)⟩))
    exact congrArg (fun z : Fin 128 => k0_pay2 x (ix3 (0 : Fin 1) (0 : Fin 1) z)) (Fin.ext (by show l.val = l.val % 64; omega))
  · refine Eq.trans ?_ ((twice_hi x ⟨l.val % 64, Nat.mod_lt _ (by decide)⟩))
    exact congrArg (fun z : Fin 128 => k0_pay2 x (ix3 (0 : Fin 1) (0 : Fin 1) z)) (Fin.ext (by show l.val = 64 + l.val % 64; omega))

theorem pay91_apply (v : FVec Ideal S1x128 .f32) (d : Fin 64) : k0_pay91 v (ix2 (0 : Fin 1) d) = v (ix2 (0 : Fin 1) ⟨64 + d.val, by omega⟩) := by
  pointwise [k0_pay91]

theorem pay87_apply (v : FVec Ideal S1x128 .f32) (d : Fin 64) : k0_pay87 v (ix2 (0 : Fin 1) d) = v (ix2 (0 : Fin 1) ⟨d.val, by omega⟩) := by
  pointwise [k0_pay87]

/-- A piece that fills one plane of the first axis, read at its place, -/
theorem pieceA {α : Type} {n a b : ℕ} (r : Fin n) (off : Fin 3 → ℕ) (hoff : off = ![r.val, 0, 0])
    (inb : ∀ k, off k + (![1, a, b] : Fin 3 → ℕ) k ≤ (⟨3, ![n, a, b]⟩ : Shape).size k)
    (w : (Rect.unit (s := ⟨3, ![n, a, b]⟩) off ![1, a, b] inb).shape.Idx → α) (G : (⟨3, ![n, a, b]⟩ : Shape).Idx → α)
    (h : ∀ (d : Fin a) (s : Fin b), w (ix3 (n0 := 1) 0 d s) = G (ix3 r d s)) (x) :
    w x = G ((Rect.unit (s := ⟨3, ![n, a, b]⟩) off ![1, a, b] inb).emb x) := by
  subst hoff
  have h0 : (x 0).val < 1 := (x 0).isLt
  have hx : x = ix3 (n0 := 1) (n1 := a) (n2 := b) 0 (x 1) (x 2) := by
    funext k
    match k with
    | ⟨0, _⟩ => exact Fin.ext (by show (x 0).val = 0; omega)
    | ⟨1, _⟩ => rfl
    | ⟨2, _⟩ => rfl
  have he : (Rect.unit (s := ⟨3, ![n, a, b]⟩) ![r.val, 0, 0] ![1, a, b] inb).emb x = ix3 (n0 := n) (n1 := a) (n2 := b) r (x 1) (x 2) := by
    funext k
    match k with
    | ⟨0, _⟩ => exact Fin.ext ((unit_emb_val _ _ inb x _).trans (by show r.val + (x 0).val = r.val; omega))
    | ⟨1, _⟩ => exact Fin.ext ((unit_emb_val _ _ inb x _).trans (by show 0 + (x 1).val = (x 1).val; omega))
    | ⟨2, _⟩ => exact Fin.ext ((unit_emb_val _ _ inb x _).trans (by show 0 + (x 2).val = (x 2).val; omega))
  rw [he]
  exact (congrArg w hx).trans (h _ _)

/-- and its indices are those of that plane. -/
theorem memA {n a b : ℕ} (r : ℕ) (off : Fin 3 → ℕ) (hoff : off = ![r, 0, 0])
    (inb : ∀ k, off k + (![1, a, b] : Fin 3 → ℕ) k ≤ (⟨3, ![n, a, b]⟩ : Shape).size k) (j : Fin n) (d : Fin a) (s : Fin b) (h : j.val = r) :
    ix3 j d s ∈ (Rect.unit (s := ⟨3, ![n, a, b]⟩) off ![1, a, b] inb).set := by
  subst hoff
  rw [Rect.mem_set_unit]
  intro k
  match k with
  | ⟨0, _⟩ => exact ⟨by show r ≤ j.val; omega, by show j.val < r + 1; omega⟩
  | ⟨1, _⟩ => exact ⟨Nat.zero_le _, by show d.val < 0 + a; omega⟩
  | ⟨2, _⟩ => exact ⟨Nat.zero_le _, by show s.val < 0 + b; omega⟩

/-! ## The four buffers, at an index -/

theorem read12 (arg12 : Memref sig .tc .vmem S2x640x64 .fp8e4m3) (j : Fin 2) (s : Fin 640) (d : Fin 64) :
    arg12.view.read (Elt Ideal) (arg12.view.writes (Elt Ideal) arg12.view.junk (L_arg12 (iblk m c 1 t))) (ix3 j s d)
      = sKC (kin m c) (bOf t) (jOf t j) d s := by
  refine View.read_writes_apply_of_pieces (Val := Elt Ideal) arg12.view _ (fun y : S2x640x64.Idx => sKC (kin m c) (bOf t) (jOf t (y 0)) (y 2) (y 1) : S2x640x64.Idx → Elt Ideal .fp8e4m3) _ ?_ (ix3 j s d) ?_
  · unfold L_arg12
    refine List.forall_mem_cons.2 ⟨?_, List.forall_mem_singleton.2 ?_⟩
    · exact pieceA 1 _ rfl inb_S2x640x64_S1x640x64_1_0_0 _ (fun y : S2x640x64.Idx => sKC (kin m c) (bOf t) (jOf t (y 0)) (y 2) (y 1)) fun s d => (pay76_apply _ _ _ s d).trans (kc1_val m c t d s)
    · exact pieceA 0 _ rfl inb_S2x640x64_S1x640x64_0_0_0 _ (fun y : S2x640x64.Idx => sKC (kin m c) (bOf t) (jOf t (y 0)) (y 2) (y 1)) fun s d => (pay64_apply _ _ s d).trans (kc0_val m c t d s)
  · unfold L_arg12
    by_cases hj : j.val = 1
    · refine ⟨_, List.mem_cons_self, ?_⟩; exact memA 1 _ rfl inb_S2x640x64_S1x640x64_1_0_0 j s d hj
    · exact ⟨_, List.mem_cons_of_mem _ List.mem_cons_self, memA 0 _ rfl inb_S2x640x64_S1x640x64_0_0_0 j s d (by omega)⟩

theorem read13 (arg13 : Memref sig .tc .vmem S2x640x128 .f32) (j : Fin 2) (s : Fin 640) (l : Fin 128) :
    arg13.view.read (Elt Ideal) (arg13.view.writes (Elt Ideal) arg13.view.junk (L_arg13 (iblk m c 1 t))) (ix3 j s l)
      = sKS (kin m c) (bOf t) (jOf t j) s := by
  refine View.read_writes_apply_of_pieces (Val := Elt Ideal) arg13.view _ (fun y : S2x640x128.Idx => sKS (kin m c) (bOf t) (jOf t (y 0)) (y 1) : S2x640x128.Idx → Elt Ideal .f32) _ ?_ (ix3 j s l) ?_
  · unfold L_arg13
    refine List.forall_mem_cons.2 ⟨?_, List.forall_mem_singleton.2 ?_⟩
    · exact pieceA 1 _ rfl inb_S2x640x128_S1x640x128_1_0_0 _ (fun y : S2x640x128.Idx => sKS (kin m c) (bOf t) (jOf t (y 0)) (y 1)) fun s l => (pay78_apply _ s l).trans (ks1_val m c t s)
    · exact pieceA 0 _ rfl inb_S2x640x128_S1x640x128_0_0_0 _ (fun y : S2x640x128.Idx => sKS (kin m c) (bOf t) (jOf t (y 0)) (y 1)) fun s l => (pay65_apply _ s l).trans (ks0_val m c t s)
  · unfold L_arg13
    by_cases hj : j.val = 1
    · refine ⟨_, List.mem_cons_self, ?_⟩; exact memA 1 _ rfl inb_S2x640x128_S1x640x128_1_0_0 j s l hj
    · exact ⟨_, List.mem_cons_of_mem _ List.mem_cons_self, memA 0 _ rfl inb_S2x640x128_S1x640x128_0_0_0 j s l (by omega)⟩

theorem read14 (arg14 : Memref sig .tc .vmem S2x1x128 .f32) (j : Fin 2) (l : Fin 128) :
    arg14.view.read (Elt Ideal) (arg14.view.writes (Elt Ideal) arg14.view.junk (L_arg14 (iblk m c 2 t))) (ix3 j (0 : Fin 1) l)
      = sVS (vin m c) (bOf t) (jOf t j) ⟨l.val % 64, Nat.mod_lt _ (by decide)⟩ := by
  refine View.read_writes_apply_of_pieces (Val := Elt Ideal) arg14.view _
    (fun y : S2x1x128.Idx => sVS (vin m c) (bOf t) (jOf t (y 0)) ⟨(y 2).val % 64, Nat.mod_lt _ (by decide)⟩ : S2x1x128.Idx → Elt Ideal .f32) _ ?_ (ix3 j (0 : Fin 1) l) ?_
  · unfold L_arg14
    refine List.forall_mem_cons.2 ⟨?_, List.forall_mem_singleton.2 ?_⟩
    · refine pieceA 1 _ rfl inb_S2x1x128_S1x1x128_1_0_0 _ (fun y : S2x1x128.Idx => sVS (vin m c) (bOf t) (jOf t (y 0)) ⟨(y 2).val % 64, Nat.mod_lt _ (by decide)⟩) fun s l => ?_
      obtain rfl : s = 0 := Subsingleton.elim _ _
      exact (twice_apply _ l).trans ((pay91_apply _ _).trans (vs_val m c t 1 _ _ (by simp)))
    · refine pieceA 0 _ rfl inb_S2x1x128_S1x1x128_0_0_0 _ (fun y : S2x1x128.Idx => sVS (vin m c) (bOf t) (jOf t (y 0)) ⟨(y 2).val % 64, Nat.mod_lt _ (by decide)⟩) fun s l => ?_
      obtain rfl : s = 0 := Subsingleton.elim _ _
      exact (twice_apply (k0_pay87 (vsc (iblk m c 2 t))) l).trans ((pay87_apply _ _).trans (vs_val m c t 0 _ _ (by simp)))
  · unfold L_arg14
    by_cases hj : j.val = 1
    · refine ⟨_, List.mem_cons_self, ?_⟩; exact memA 1 _ rfl inb_S2x1x128_S1x1x128_1_0_0 j 0 l hj
    · exact ⟨_, List.mem_cons_of_mem _ List.mem_cons_self, memA 0 _ rfl inb_S2x1x128_S1x1x128_0_0_0 j 0 l (by omega)⟩

theorem read10 (arg10 : Memref sig .tc .vmem S1x2x64x640 .fp8e4m3) (j : Fin 2) (d : Fin 64) (s : Fin 640) :
    arg10.view.read (Elt Ideal) (arg10.view.writes (Elt Ideal) arg10.view.junk (L_arg10 (iblk m c 2 t))) (ix4 (0 : Fin 1) j d s)
      = sVC (vin m c) (bOf t) (jOf t j) d s := by
  refine View.read_writes_apply_of_pieces (Val := Elt Ideal) arg10.view _ (fun y : S1x2x64x640.Idx => sVC (vin m c) (bOf t) (jOf t (y 1)) (y 2) (y 3) : S1x2x64x640.Idx → Elt Ideal .fp8e4m3) _ ?_ (ix4 0 j d s) ?_
  · unfold L_arg10
    refine List.forall_mem_cons.2 ⟨?_, List.forall_mem_singleton.2 ?_⟩
    · exact piece4 1 _ rfl inb_S1x2x64x640_S1x1x64x640_0_1_0_0 _ (fun y : S1x2x64x640.Idx => sVC (vin m c) (bOf t) (jOf t (y 1)) (y 2) (y 3)) fun d s => (pay90_apply _ _ d s).trans (vc_val m c t 1 d s _ (by simp))
    · exact piece4 0 _ rfl inb_S1x2x64x640_S1x1x64x640_0_0_0_0 _ (fun y : S1x2x64x640.Idx => sVC (vin m c) (bOf t) (jOf t (y 1)) (y 2) (y 3)) fun d s => (pay86_apply _ _ d s).trans (vc_val m c t 0 d s _ (by simp))
  · unfold L_arg10
    by_cases hj : j.val = 1
    · refine ⟨_, List.mem_cons_self, ?_⟩; exact (mem4 1 _ rfl inb_S1x2x64x640_S1x1x64x640_0_1_0_0 j d s).2 hj
    · exact ⟨_, List.mem_cons_of_mem _ List.mem_cons_self, (mem4 0 _ rfl inb_S1x2x64x640_S1x1x64x640_0_0_0_0 j d s).2 (by omega)⟩

/-! ## The loads -/

section
variable {n : ℕ} (hn : n ≤ 640) (j : Fin 2)

theorem ld12 (arg12 : Memref sig .tc .vmem S2x640x64 .fp8e4m3) (off : Fin 3 → ℕ) (hoff : off = ![j.val, 0, 0])
    (inb : ∀ a, off a + (![1, n, 64] : Fin 3 → ℕ) a ≤ S2x640x64.size a) (s : Fin n) (d : Fin 64) :
    View.readAt (Elt Ideal) arg12.view (Rect.unit (s := S2x640x64) off ![1, n, 64] inb).toLoadRect
        (arg12.view.writes (Elt Ideal) arg12.view.junk (L_arg12 (iblk m c 1 t))) (ix3 (n0 := 1) 0 s d)
      = sKC (kin m c) (bOf t) (jOf t j) d ⟨s.val, lt_of_lt_of_le s.isLt hn⟩ := by
  subst hoff
  refine (readAt_unit_apply arg12 _ _ inb _ _ (ix3 j ⟨s.val, lt_of_lt_of_le s.isLt hn⟩ d) ?_).trans (read12 m c t arg12 j _ d)
  intro a
  match a with
  | ⟨0, _⟩ => rfl
  | ⟨1, _⟩ => exact (Nat.zero_add _).symm
  | ⟨2, _⟩ => exact (Nat.zero_add _).symm

theorem ld13 (arg13 : Memref sig .tc .vmem S2x640x128 .f32) (off : Fin 3 → ℕ) (hoff : off = ![j.val, 0, 0])
    (inb : ∀ a, off a + (![1, n, 128] : Fin 3 → ℕ) a ≤ S2x640x128.size a) (s : Fin n) (l : Fin 128) :
    View.readAt (Elt Ideal) arg13.view (Rect.unit (s := S2x640x128) off ![1, n, 128] inb).toLoadRect
        (arg13.view.writes (Elt Ideal) arg13.view.junk (L_arg13 (iblk m c 1 t))) (ix3 (n0 := 1) 0 s l)
      = sKS (kin m c) (bOf t) (jOf t j) ⟨s.val, lt_of_lt_of_le s.isLt hn⟩ := by
  subst hoff
  refine (readAt_unit_apply arg13 _ _ inb _ _ (ix3 j ⟨s.val, lt_of_lt_of_le s.isLt hn⟩ l) ?_).trans (read13 m c t arg13 j _ l)
  intro a
  match a with
  | ⟨0, _⟩ => rfl
  | ⟨1, _⟩ => exact (Nat.zero_add _).symm
  | ⟨2, _⟩ => exact (Nat.zero_add _).symm

theorem ld14 (arg14 : Memref sig .tc .vmem S2x1x128 .f32) (off : Fin 3 → ℕ) (hoff : off = ![j.val, 0, 0])
    (inb : ∀ a, off a + (![1, 1, 128] : Fin 3 → ℕ) a ≤ S2x1x128.size a) (l : Fin 128) :
    View.readAt (Elt Ideal) arg14.view (Rect.unit (s := S2x1x128) off ![1, 1, 128] inb).toLoadRect
        (arg14.view.writes (Elt Ideal) arg14.view.junk (L_arg14 (iblk m c 2 t))) (ix3 (n0 := 1) (n1 := 1) 0 0 l)
      = sVS (vin m c) (bOf t) (jOf t j) ⟨l.val % 64, Nat.mod_lt _ (by decide)⟩ := by
  subst hoff
  refine (readAt_unit_apply arg14 _ _ inb _ _ (ix3 j (0 : Fin 1) l) ?_).trans (read14 m c t arg14 j l)
  intro a
  match a with
  | ⟨0, _⟩ => rfl
  | ⟨1, _⟩ => rfl
  | ⟨2, _⟩ => exact (Nat.zero_add _).symm

theorem ld10 (arg10 : Memref sig .tc .vmem S1x2x64x640 .fp8e4m3) (off : Fin 4 → ℕ) (hoff : off = ![0, j.val, 0, 0])
    (inb : ∀ a, off a + (![1, 1, 64, n] : Fin 4 → ℕ) a ≤ S1x2x64x640.size a) (d : Fin 64) (s : Fin n) :
    View.readAt (Elt Ideal) arg10.view (Rect.unit (s := S1x2x64x640) off ![1, 1, 64, n] inb).toLoadRect
        (arg10.view.writes (Elt Ideal) arg10.view.junk (L_arg10 (iblk m c 2 t))) (ix4 (n0 := 1) (n1 := 1) 0 0 d s)
      = sVC (vin m c) (bOf t) (jOf t j) d ⟨s.val, lt_of_lt_of_le s.isLt hn⟩ := by
  subst hoff
  refine (readAt_unit_apply arg10 _ _ inb _ _ (ix4 (0 : Fin 1) j d ⟨s.val, lt_of_lt_of_le s.isLt hn⟩) ?_).trans (read10 m c t arg10 j d _)
  intro a
  match a with
  | ⟨0, _⟩ => rfl
  | ⟨1, _⟩ => rfl
  | ⟨2, _⟩ => exact (Nat.zero_add _).symm
  | ⟨3, _⟩ => exact (Nat.zero_add _).symm
end

end Cert.KernelIdeal.Gen

end
-- ==== Proof.Att.lean ====
/- One block of the kernel's attention, for any number of keys: what each vector of it holds at one index. -/
module

public import proofs.«01_k».proof.Proof.QPay
public import proofs.«01_k».proof.Proof.AttMath
public import Idealize.ShloMosaic.Lib.MatmulPlain
public import Idealize.ShloMosaic.Lib.ValueLayout

@[expose] public section

set_option maxRecDepth 16384

noncomputable section

namespace Cert.KernelIdeal.Gen

open Idealize.ShloMosaic Idealize.ShloMosaic.TcCoe Cert.KernelIdeal Cert.Quant

/-- The matrix shape. -/
abbrev Mat (a b : ℕ) : Shape := ⟨2, ![a, b]⟩

variable {n m : ℕ}

def vmax (M : FVec Ideal (Mat n 256) .f32) (hr : (Mat n 256).Reduces [0] S256) : FVec Ideal S1x256 .f32 :=
  shapeCast S1x256 (multiReduction .maximumf [0] S256 M 0xFF800000#32 hr (.inl rfl) rfl) shapeCasts_S256_S1x256

def vsum (M : FVec Ideal (Mat n 256) .f32) (hr : (Mat n 256).Reduces [0] S256) : FVec Ideal S1x256 .f32 :=
  shapeCast S1x256 (multiReduction .add [0] S256 M 0x00000000#32 hr (.inl rfl) rfl) shapeCasts_S256_S1x256

/-- The weights. -/
def vwgt (M : FVec Ideal (Mat n 256) .f32) (C : FVec Ideal S1x256 .f32) (hr : (Mat n 256).Reduces [0] S256)
    (hb : S1x256.Broadcasts (Mat n 256)) : FVec Ideal (Mat n 256) .f32 :=
  exp2 (subf (mulf M (broadcastTo (Mat n 256) C hb))
    (broadcastTo (Mat n 256) (subf (mulf (vmax M hr) C)
      (broadcast S1x256 (Named.named (F := Ideal) κ "log2_fp8_max" (φ := .f32) 0x410CEAED#32))) hb))

/-- The output of a block, still transposed. -/
def vout (V : FVec Ideal (Mat 64 n) .fp8e4m3) (E : FVec Ideal (Mat n 256) .f32) (hr : (Mat n 256).Reduces [0] S256) :
    FVec Ideal S64x256 .bf16 :=
  truncf .bf16 (mulf
    (matmul (DotDims.plain 64 n 256) none V
      (truncf .fp8e4m3 (minimumf (maximumf E (broadcast (Mat n 256) (Scalar.ofBits (F := Ideal) .f32 0xC3E00000#32)))
        (broadcast (Mat n 256) (Scalar.ofBits (F := Ideal) .f32 0x43E00000#32))) bitsLt_fp8e4m3_f32)
      (constant S64x256 .f32 0x00000000#32))
    (broadcastTo S64x256 (divf (broadcast S1x256 (Scalar.ofBits (F := Ideal) .f32 0x3F800000#32)) (vsum E hr))
      broadcasts_S1x256_S64x256)) bitsLt_bf16_f32

/-- The block as it is stored. -/
def vfin (O : FVec Ideal S64x256 .bf16) (vs : FVec Ideal S1x128 .bf16) : FVec Ideal S1x128x128 .bf16 :=
  shapeCast S1x128x128 (mulf (transpose S128x128 [1, 0]
    (concatenate S128x128 0 [⟨S64x128, extractStridedSlice S64x128 ![0, 0] O slices_S64x256_o0_0_S64x128⟩,
      ⟨S64x128, extractStridedSlice S64x128 ![0, 128] O slices_S64x256_o0_128_S64x128⟩]
      concatenates_S64x128_S64x128_S128x128_d0) transposes_S128x128_p1_0_S128x128)
    (broadcastTo S128x128 vs broadcasts_S1x128_S128x128)) shapeCasts_S128x128_S1x128x128

/-- The scores. -/
def vsco (kc : Vec Ideal (⟨3, ![1, n, 64]⟩ : Shape) .fp8e4m3) (kb : Vec Ideal (⟨3, ![1, n, 128]⟩ : Shape) .f32)
    (qp : FVec Ideal S64x256 .fp8e4m3) (h₁ : (⟨3, ![1, n, 64]⟩ : Shape).ShapeCasts (Mat n 64))
    (h₂ : (⟨3, ![1, n, 128]⟩ : Shape).ShapeCasts (Mat n 128))
    (h₃ : Shape.Concatenates [Mat n 128, Mat n 128] (Mat n 256) 1) : FVec Ideal (Mat n 256) .f32 :=
  mulf (matmul (F := Ideal) (φ₁ := .fp8e4m3) (φ₂ := .fp8e4m3) (DotDims.plain n 64 256) none (shapeCast (Mat n 64) kc h₁) qp (constant (Mat n 256) .f32 0x00000000#32))
    (concatenate (Mat n 256) 1 [⟨Mat n 128, shapeCast (Mat n 128) kb h₂⟩, ⟨Mat n 128, shapeCast (Mat n 128) kb h₂⟩] h₃)

/-- The queries of the two heads in one block. -/
def vqry (o : ℕ) (q₀ q₁ : FVec Ideal S64x640 .fp8e4m3) (h : S64x640.Slices ![0, o] S64x128) : FVec Ideal S64x256 .fp8e4m3 :=
  concatenate S64x256 1 [⟨S64x128, extractStridedSlice S64x128 ![0, o] q₀ h⟩, ⟨S64x128, extractStridedSlice S64x128 ![0, o] q₁ h⟩]
    concatenates_S64x128_S64x128_S64x256_d1

/-- The query scales of the two heads in one block. -/
def vqsc (o : ℕ) (q₀ q₁ : FVec Ideal S1x640 .f32) (h : S1x640.Slices ![0, o] S1x128) : FVec Ideal S1x256 .f32 :=
  concatenate S1x256 1 [⟨S1x128, extractStridedSlice S1x128 ![0, o] q₀ h⟩, ⟨S1x128, extractStridedSlice S1x128 ![0, o] q₁ h⟩]
    concatenates_S1x128_S1x128_S1x256_d1

/-- The masked scores: the last 128 keys are those of the block itself. -/
def vmsk (W : FVec Ideal (Mat n 256) .f32) (h₁ : (Mat n 256).Slices ![0, 0] (Mat m 256))
    (h₂ : (Mat n 256).Slices ![m, 0] S128x256) (h₃ : Shape.Concatenates [Mat m 256, S128x256] (Mat n 256) 0) :
    FVec Ideal (Mat n 256) .f32 :=
  concatenate (Mat n 256) 0 [⟨Mat m 256, extractStridedSlice (Mat m 256) ![0, 0] W h₁⟩,
    ⟨S128x256, select k0_pay3 (extractStridedSlice S128x256 ![m, 0] W h₂)
      (broadcast S128x256 (Scalar.ofBits (F := Ideal) .f32 0xFF800000#32))⟩] h₃

theorem vmax_apply (M : FVec Ideal (Mat n 256) .f32) (hr : (Mat n 256).Reduces [0] S256) (c : Fin 256) :
    vmax M hr (ix2 (0 : Fin 1) c) = top fun t => M (ix2 t c) := by
  pointwise [vmax, top]

theorem vsum_apply (M : FVec Ideal (Mat n 256) .f32) (hr : (Mat n 256).Reduces [0] S256) (c : Fin 256) :
    vsum M hr (ix2 (0 : Fin 1) c) = ∑ t, M (ix2 t c) := by
  pointwise [vsum]

theorem vwgt_apply (M : FVec Ideal (Mat n 256) .f32) (C : FVec Ideal S1x256 .f32) (hr : (Mat n 256).Reduces [0] S256)
    (hb : S1x256.Broadcasts (Mat n 256)) (t : Fin n) (c : Fin 256) :
    vwgt M C hr hb (ix2 t c) = wgt (fun t => M (ix2 t c)) (C (ix2 (0 : Fin 1) c)) t := by
  have h₁ := ValueIdx.broadcastTo_1b_ab_apply (a := n) C hb t c
  have h₂ := ValueIdx.broadcastTo_1b_ab_apply (a := n) (subf (mulf (vmax M hr) C)
      (broadcast S1x256 (Named.named (F := Ideal) κ "log2_fp8_max" (φ := .f32) 0x410CEAED#32))) hb t c
  have h₃ := vmax_apply M hr c
  unfold wgt
  rw [← h₃]
  refine Eq.trans ?_ (congrArg₂ (fun x y => Ideal.exp2 (M (ix2 t c) * x - y)) h₁ h₂)
  rfl

theorem one_word : Ideal.ofBits .f32 0x3F800000#32 = (1 : EReal) := by
  simp [Ideal.ofBits, Ideal.ieee, -EReal.coe_mul]
  norm_num

theorem vout_apply (V : FVec Ideal (Mat 64 n) .fp8e4m3) (E : FVec Ideal (Mat n 256) .f32)
    (hr : (Mat n 256).Reduces [0] S256) (d : Fin 64) (c : Fin 256) :
    vout V E hr (ix2 d c) = wmean (fun t => E (ix2 t c)) (fun t => V (ix2 d t)) := by
  have h₁ := ValueIdx.broadcastTo_1b_ab_apply (a := 64) (divf (broadcast S1x256 (Scalar.ofBits (F := Ideal) .f32 0x3F800000#32)) (vsum E hr))
    broadcasts_S1x256_S64x256 d c
  have h₂ := Ideal.matmul_plain_apply (M := 64) (K := n) (N := 256) none V
      (truncf .fp8e4m3 (minimumf (maximumf E (broadcast (Mat n 256) (Scalar.ofBits (F := Ideal) .f32 0xC3E00000#32)))
        (broadcast (Mat n 256) (Scalar.ofBits (F := Ideal) .f32 0x43E00000#32))) bitsLt_fp8e4m3_f32)
      (constant S64x256 .f32 0x00000000#32) d c
  have h₃ := vsum_apply E hr c
  have h0 : (constant (F := Ideal) S64x256 .f32 0x00000000#32) (ix2 d c) = (0 : EReal) := by pointwise []
  have h₄ := h₂.trans ((congrArg (· + _) h0).trans (zero_add _))
  refine (congrArg₂ (· * ·) h₄ h₁).trans ?_
  unfold wmean
  rw [← h₃, ← c448, ← cm448, ← one_word]
  rfl

theorem vfin_lo (O : FVec Ideal S64x256 .bf16) (vs : FVec Ideal S1x128 .bf16) (r : Fin 128) (e : Fin 64) :
    vfin O vs (ix3 (0 : Fin 1) r ⟨e.val, by omega⟩) = O (ix2 e ⟨r.val, by omega⟩) * vs (ix2 (0 : Fin 1) ⟨e.val, by omega⟩) := by
  pointwise [vfin]

theorem vfin_hi (O : FVec Ideal S64x256 .bf16) (vs : FVec Ideal S1x128 .bf16) (r : Fin 128) (e : Fin 64) :
    vfin O vs (ix3 (0 : Fin 1) r ⟨64 + e.val, by omega⟩)
      = O (ix2 e ⟨128 + r.val, by omega⟩) * vs (ix2 (0 : Fin 1) ⟨64 + e.val, by omega⟩) := by
  pointwise [vfin]

theorem vqry_lo (o : ℕ) (q₀ q₁ : FVec Ideal S64x640 .fp8e4m3) (h : S64x640.Slices ![0, o] S64x128) (ho : o + 128 ≤ 640)
    (d : Fin 64) (r : Fin 128) : vqry o q₀ q₁ h (ix2 d ⟨r.val, by omega⟩) = q₀ (ix2 d ⟨o + r.val, by omega⟩) := by
  refine (concatenate_pair_apply_left (t := S64x256) (s₁ := S64x128) (s₂ := S64x128) 1 _ _ _ _ rfl (ix2 d r) ?_).trans ?_
  · intro b; fin_cases b <;> rfl
  · exact extractStridedSlice_apply _ _ _ _ _ (by intro a; fin_cases a <;> simp [ix2])

theorem vqry_hi (o : ℕ) (q₀ q₁ : FVec Ideal S64x640 .fp8e4m3) (h : S64x640.Slices ![0, o] S64x128) (ho : o + 128 ≤ 640)
    (d : Fin 64) (r : Fin 128) : vqry o q₀ q₁ h (ix2 d ⟨128 + r.val, by omega⟩) = q₁ (ix2 d ⟨o + r.val, by omega⟩) := by
  refine (concatenate_pair_apply_right (t := S64x256) (s₁ := S64x128) (s₂ := S64x128) 1 _ _ _ _ rfl rfl (ix2 d r) ?_ ?_).trans ?_
  · intro b hb; fin_cases b
    · rfl
    · exact absurd rfl hb
  · show r.val + 128 = 128 + r.val
    omega
  · exact extractStridedSlice_apply _ _ _ _ _ (by intro a; fin_cases a <;> simp [ix2])

theorem vqsc_lo (o : ℕ) (q₀ q₁ : FVec Ideal S1x640 .f32) (h : S1x640.Slices ![0, o] S1x128) (ho : o + 128 ≤ 640)
    (r : Fin 128) : vqsc o q₀ q₁ h (ix2 (0 : Fin 1) ⟨r.val, by omega⟩) = q₀ (ix2 (0 : Fin 1) ⟨o + r.val, by omega⟩) := by
  refine (concatenate_pair_apply_left (t := S1x256) (s₁ := S1x128) (s₂ := S1x128) 1 _ _ _ _ rfl (ix2 (0 : Fin 1) r) ?_).trans ?_
  · intro b; fin_cases b <;> rfl
  · exact extractStridedSlice_apply _ _ _ _ _ (by intro a; fin_cases a <;> simp [ix2])

theorem vqsc_hi (o : ℕ) (q₀ q₁ : FVec Ideal S1x640 .f32) (h : S1x640.Slices ![0, o] S1x128) (ho : o + 128 ≤ 640)
    (r : Fin 128) : vqsc o q₀ q₁ h (ix2 (0 : Fin 1) ⟨128 + r.val, by omega⟩) = q₁ (ix2 (0 : Fin 1) ⟨o + r.val, by omega⟩) := by
  refine (concatenate_pair_apply_right (t := S1x256) (s₁ := S1x128) (s₂ := S1x128) 1 _ _ _ _ rfl rfl (ix2 (0 : Fin 1) r) ?_ ?_).trans ?_
  · intro b hb; fin_cases b
    · rfl
    · exact absurd rfl hb
  · show r.val + 128 = 128 + r.val
    omega
  · exact extractStridedSlice_apply _ _ _ _ _ (by intro a; fin_cases a <;> simp [ix2])

/-- The mask of a block: keys up to the query. -/
theorem pay3_lo (t r : Fin 128) :
    k0_pay3 (ix2 t (⟨r.val, by omega⟩ : Fin 256)) = IntOp.cmpi .sle (BitVec.ofNat 32 t.val) (BitVec.ofNat 32 r.val) := by
  pointwise [k0_pay3]

theorem pay3_hi (t r : Fin 128) :
    k0_pay3 (ix2 t (⟨128 + r.val, by omega⟩ : Fin 256)) = IntOp.cmpi .sle (BitVec.ofNat 32 t.val) (BitVec.ofNat 32 r.val) := by
  pointwise [k0_pay3]

/-- Small numbers compare as words as they do as numbers. -/
theorem sle_small (a b : ℕ) (ha : a < 1024) (hb : b < 1024) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    exact decide_eq_decide.2 Int.ofNat_le
  simp only [IntOp.cmpi]
  rw [h]
  by_cases hab : a ≤ b
  · simp [hab]
  · simp [hab]

theorem pay3_apply (t : Fin 128) (c : Fin 256) :
    k0_pay3 (ix2 t c) = if t.val ≤ c.val % 128 then 1#1 else 0#1 := by
  by_cases hc : c.val < 128
  · have h := pay3_lo t ⟨c.val, hc⟩
    rw [sle_small _ _ (by omega) (by omega)] at h
    rw [Nat.mod_eq_of_lt hc]
    exact h
  · have h := pay3_hi t ⟨c.val % 128, Nat.mod_lt _ (by decide)⟩
    rw [sle_small _ _ (by omega) (by omega)] at h
    have e : (⟨128 + c.val % 128, by omega⟩ : Fin 256) = c := Fin.ext (by show 128 + c.val % 128 = c.val; omega)
    exact (congrArg (fun c' : Fin 256 => k0_pay3 (ix2 t c')) e).symm.trans h

theorem vsco_kb (kb : Vec Ideal (⟨3, ![1, n, 128]⟩ : Shape) .f32) (h₂ : (⟨3, ![1, n, 128]⟩ : Shape).ShapeCasts (Mat n 128))
    (h₃ : Shape.Concatenates [Mat n 128, Mat n 128] (Mat n 256) 1) (t : Fin n) (c : Fin 256) :
    concatenate (Mat n 256) 1 [⟨Mat n 128, shapeCast (Mat n 128) kb h₂⟩, ⟨Mat n 128, shapeCast (Mat n 128) kb h₂⟩] h₃ (ix2 t c)
      = kb (ix3 (0 : Fin 1) t ⟨c.val % 128, Nat.mod_lt _ (by decide)⟩) := by
  by_cases hc : c.val < 128
  · refine (concatenate_pair_apply_left (t := Mat n 256) (s₁ := Mat n 128) (s₂ := Mat n 128) 1 _ _ _ _ rfl (ix2 t ⟨c.val % 128, Nat.mod_lt _ (by decide)⟩) ?_).trans ?_
    · intro b; fin_cases b
      · rfl
      · exact Nat.mod_eq_of_lt hc
    · exact (shapeCast_dropUnit_apply ![n, 128] kb h₂ _).trans (congrArg kb (by funext a; fin_cases a <;> rfl))
  · refine (concatenate_pair_apply_right (t := Mat n 256) (s₁ := Mat n 128) (s₂ := Mat n 128) 1 _ _ _ _ rfl rfl (ix2 t ⟨c.val % 128, Nat.mod_lt _ (by decide)⟩) ?_ ?_).trans ?_
    · intro b hb; fin_cases b
      · rfl
      · exact absurd rfl hb
    · show c.val % 128 + 128 = c.val
      omega
    · exact (shapeCast_dropUnit_apply ![n, 128] kb h₂ _).trans (congrArg kb (by funext a; fin_cases a <;> rfl))

theorem vsco_apply (kc : Vec Ideal (⟨3, ![1, n, 64]⟩ : Shape) .fp8e4m3) (kb : Vec Ideal (⟨3, ![1, n, 128]⟩ : Shape) .f32)
    (qp : FVec Ideal S64x256 .fp8e4m3) (h₁ : (⟨3, ![1, n, 64]⟩ : Shape).ShapeCasts (Mat n 64))
    (h₂ : (⟨3, ![1, n, 128]⟩ : Shape).ShapeCasts (Mat n 128))
    (h₃ : Shape.Concatenates [Mat n 128, Mat n 128] (Mat n 256) 1) (t : Fin n) (c : Fin 256) :
    vsco kc kb qp h₁ h₂ h₃ (ix2 t c)
      = (∑ d : Fin 64, kc (ix3 (0 : Fin 1) t d) * qp (ix2 d c)) * kb (ix3 (0 : Fin 1) t ⟨c.val % 128, Nat.mod_lt _ (by decide)⟩) := by
  have hm := Ideal.matmul_plain_apply (M := n) (K := 64) (N := 256) (φ₁ := .fp8e4m3) (φ₂ := .fp8e4m3) none
    (shapeCast (Mat n 64) kc h₁) qp (constant (Mat n 256) .f32 0x00000000#32) t c
  have h0 : (constant (F := Ideal) (Mat n 256) .f32 0x00000000#32) (ix2 t c) = (0 : EReal) := by pointwise []
  have hm' := hm.trans ((congrArg (· + _) h0).trans (zero_add _))
  refine (congrArg₂ (· * ·) hm' (vsco_kb kb h₂ h₃ t c)).trans ?_
  refine congrArg (· * _) (Finset.sum_congr rfl fun d _ => congrArg (· * _) ?_)
  exact (shapeCast_dropUnit_apply ![n, 64] kc h₁ _).trans (congrArg kc (by funext a; fin_cases a <;> rfl))

theorem sel_pay3 (W : FVec Ideal S128x256 .f32) (t : Fin 128) (c : Fin 256) :
    select k0_pay3 W (broadcast S128x256 (Scalar.ofBits (F := Ideal) .f32 0xFF800000#32)) (ix2 t c)
      = if t.val ≤ c.val % 128 then W (ix2 t c) else Ideal.ofBits .f32 0xFF800000#32 := by
  have h : select k0_pay3 W (broadcast S128x256 (Scalar.ofBits (F := Ideal) .f32 0xFF800000#32)) (ix2 t c)
    = Scalar.select (k0_pay3 (ix2 t c)) (W (ix2 t c)) (Ideal.ofBits .f32 0xFF800000#32) := rfl
  rw [h, pay3_apply]
  by_cases ht : t.val ≤ c.val % 128
  · rw [if_pos ht, if_pos ht]; rfl
  · rw [if_neg ht, if_neg ht]; rfl

theorem vmsk_apply (W : FVec Ideal (Mat n 256) .f32) (h₁ : (Mat n 256).Slices ![0, 0] (Mat m 256))
    (h₂ : (Mat n 256).Slices ![m, 0] S128x256) (h₃ : Shape.Concatenates [Mat m 256, S128x256] (Mat n 256) 0)
    (hn : n = m + 128) (t : Fin n) (c : Fin 256) :
    vmsk W h₁ h₂ h₃ (ix2 t c) = if t.val ≤ m + c.val % 128 then W (ix2 t c) else Ideal.ofBits .f32 0xFF800000#32 := by
  by_cases ht : t.val < m
  · rw [if_pos (by omega)]
    refine (concatenate_pair_apply_left (t := Mat n 256) (s₁ := Mat m 256) (s₂ := S128x256) 0 _ _ _ _ rfl (ix2 (⟨t.val, ht⟩ : Fin m) c) ?_).trans ?_
    · intro b; fin_cases b <;> rfl
    · exact extractStridedSlice_apply _ _ _ _ _ (by intro a; fin_cases a <;> simp [ix2])
  · refine (concatenate_pair_apply_right (t := Mat n 256) (s₁ := Mat m 256) (s₂ := S128x256) 0 _ _ _ _ rfl rfl (ix2 (⟨t.val - m, by omega⟩ : Fin 128) c) ?_ ?_).trans ?_
    · intro b hb; fin_cases b
      · exact absurd rfl hb
      · rfl
    · show t.val - m + m = t.val
      omega
    · rw [sel_pay3]
      have : (t.val - m ≤ c.val % 128) ↔ (t.val ≤ m + c.val % 128) := by omega
      simp only [this]
      congr 1
      exact extractStridedSlice_apply _ _ _ _ _ (by intro a; fin_cases a <;> simp [ix2] <;> omega)

end Cert.KernelIdeal.Gen
-- ==== Proof.TripO.lean ====
/- What one trip of the query loop writes into the attention output: five blocks of 128 queries of its two heads. -/
module

public import proofs.«01_k».proof.Proof.Trip

@[expose] public section

set_option maxRecDepth 16384

noncomputable section

namespace Cert.KernelIdeal.Gen

open Idealize.ShloMosaic Idealize.ShloMosaic.TcCoe Cert.KernelIdeal

variable {F : FTy → Type} [FloatOps F] [Named F]

/-- The codes of the second head of a trip, and the scaled query scales of both. -/
abbrev qc1 (P : Vec F S1x640x128 .bf16) : FVec F S64x640 .fp8e4m3 := k0_pay26 (Scalar.ofBits .bf16 0x43E0#16) (qcd1 P)
abbrev qt0 (P : Vec F S1x640x128 .bf16) : FVec F S1x640 .f32 := k0_pay18 (qsc0 P)
abbrev qt1 (P : Vec F S1x640x128 .bf16) : FVec F S1x640 .f32 := k0_pay29 (qsc1 P)

/-! The five blocks of a trip, by the queries it loads, the value scales and the keys, key scales and values of the block. -/

def ablk0 (P : Vec F S1x640x128 .bf16) (w : Vec F S1x1x128 .f32) (kc : Vec F S1x128x64 .fp8e4m3) (kb : Vec F S1x128x128 .f32)
    (vc : Vec F S1x1x64x128 .fp8e4m3) : FVec F S1x128x128 .bf16 :=
  k0_pay34 k0_pay3 (k0_pay30 w) (k0_pay31 (qt0 P) (qsc1 P)) (k0_pay32 (qcd0 P) (Scalar.ofBits .bf16 0x43E0#16) (qcd1 P) kc kb) k0_pay33 vc
def ablk1 (P : Vec F S1x640x128 .bf16) (w : Vec F S1x1x128 .f32) (kc : Vec F S1x256x64 .fp8e4m3) (kb : Vec F S1x256x128 .f32)
    (vc : Vec F S1x1x64x256 .fp8e4m3) : FVec F S1x128x128 .bf16 :=
  k0_pay38 (k0_pay37 k0_pay3 (k0_pay30 w) (k0_pay35 (qcd0 P) (qc1 P)) (k0_pay36 (qt0 P) (qt1 P)) kc kb vc)
def ablk2 (P : Vec F S1x640x128 .bf16) (w : Vec F S1x1x128 .f32) (kc : Vec F S1x384x64 .fp8e4m3) (kb : Vec F S1x384x128 .f32)
    (vc : Vec F S1x1x64x384 .fp8e4m3) : FVec F S1x128x128 .bf16 :=
  k0_pay43 (k0_pay30 w) (k0_pay40 k0_pay3 (qcd0 P) (qt0 P) (qc1 P) (qt1 P) kc kb) (k0_pay41 k0_pay3 (qcd0 P) (qt0 P) (qc1 P) (qt1 P) kc kb) (k0_pay42 vc) (constant S64x256 .f32 0x00000000#32)
def ablk3 (P : Vec F S1x640x128 .bf16) (w : Vec F S1x1x128 .f32) (kc : Vec F S1x512x64 .fp8e4m3) (kb : Vec F S1x512x128 .f32)
    (vc : Vec F S1x1x64x512 .fp8e4m3) : FVec F S1x128x128 .bf16 :=
  k0_pay46 (k0_pay30 w) (k0_pay44 k0_pay3 (qcd0 P) (qt0 P) (qc1 P) (qt1 P) kc kb) (k0_pay45 k0_pay3 (qcd0 P) (qt0 P) (qc1 P) (qt1 P) kc kb) vc
def ablk4 (P : Vec F S1x640x128 .bf16) (w : Vec F S1x1x128 .f32) (kc : Vec F S1x640x64 .fp8e4m3) (kb : Vec F S1x640x128 .f32)
    (vc : Vec F S1x1x64x640 .fp8e4m3) : FVec F S1x128x128 .bf16 :=
  k0_pay51 (k0_pay30 w) (k0_pay47 (qt0 P) (qt1 P)) (k0_pay49 k0_pay3 (qcd0 P) (qc1 P) kc kb) (k0_pay50 (qcd0 P) (qc1 P) kc kb) vc

set_option maxHeartbeats 2000000 in
theorem trip_arg5 (𝒱 : Variants) (c : Dev nD) (bd : Option 𝒱.V) (i : grid0.Coords) (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (arg1 : BitVec 32) (X_arg2 : BufTy.Contents (Elt F) arg2.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg10 X_arg12 X_arg13 X_arg14 k).1 = [⟨Rect.unit (s := S1x640x768) (k0_off26 k) S1x128x128.size (k0_off26_inb k), ablk4 (qld arg2 X_arg2 k) (arg14.view.readAt (Elt F) (Rect.unit (s := S2x1x128) (k0_off6 k) S1x1x128.size (k0_off6_inb k)).toLoadRect X_arg14) (arg12.view.readAt (Elt F) (Rect.unit (s := S2x640x64) (k0_off23 k) S1x640x64.size (k0_off23_inb k)).toLoadRect X_arg12) (arg13.view.readAt (Elt F) (Rect.unit (s := S2x640x128) (k0_off24 k) S1x640x128.size (k0_off24_inb k)).toLoadRect X_arg13) (arg10.view.readAt (Elt F) (Rect.unit (s := S1x2x64x640) (k0_off25 k) S1x1x64x640.size (k0_off25_inb k)).toLoadRect X_arg10)⟩,
      ⟨Rect.unit (s := S1x640x768) (k0_off22 k) S1x128x128.size (k0_off22_inb k), ablk3 (qld arg2 X_arg2 k) (arg14.view.readAt (Elt F) (Rect.unit (s := S2x1x128) (k0_off6 k) S1x1x128.size (k0_off6_inb k)).toLoadRect X_arg14) (arg12.view.readAt (Elt F) (Rect.unit (s := S2x640x64) (k0_off19 k) S1x512x64.size (k0_off19_inb k)).toLoadRect X_arg12) (arg13.view.readAt (Elt F) (Rect.unit (s := S2x640x128) (k0_off20 k) S1x512x128.size (k0_off20_inb k)).toLoadRect X_arg13) (arg10.view.readAt (Elt F) (Rect.unit (s := S1x2x64x640) (k0_off21 k) S1x1x64x512.size (k0_off21_inb k)).toLoadRect X_arg10)⟩,
      ⟨Rect.unit (s := S1x640x768) (k0_off18 k) S1x128x128.size (k0_off18_inb k), ablk2 (qld arg2 X_arg2 k) (arg14.view.readAt (Elt F) (Rect.unit (s := S2x1x128) (k0_off6 k) S1x1x128.size (k0_off6_inb k)).toLoadRect X_arg14) (arg12.view.readAt (Elt F) (Rect.unit (s := S2x640x64) (k0_off15 k) S1x384x64.size (k0_off15_inb k)).toLoadRect X_arg12) (arg13.view.readAt (Elt F) (Rect.unit (s := S2x640x128) (k0_off16 k) S1x384x128.size (k0_off16_inb k)).toLoadRect X_arg13) (arg10.view.readAt (Elt F) (Rect.unit (s := S1x2x64x640) (k0_off17 k) S1x1x64x384.size (k0_off17_inb k)).toLoadRect X_arg10)⟩,
      ⟨Rect.unit (s := S1x640x768) (k0_off14 k) S1x128x128.size (k0_off14_inb k), ablk1 (qld arg2 X_arg2 k) (arg14.view.readAt (Elt F) (Rect.unit (s := S2x1x128) (k0_off6 k) S1x1x128.size (k0_off6_inb k)).toLoadRect X_arg14) (arg12.view.readAt (Elt F) (Rect.unit (s := S2x640x64) (k0_off11 k) S1x256x64.size (k0_off11_inb k)).toLoadRect X_arg12) (arg13.view.readAt (Elt F) (Rect.unit (s := S2x640x128) (k0_off12 k) S1x256x128.size (k0_off12_inb k)).toLoadRect X_arg13) (arg10.view.readAt (Elt F) (Rect.unit (s := S1x2x64x640) (k0_off13 k) S1x1x64x256.size (k0_off13_inb k)).toLoadRect X_arg10)⟩,
      ⟨Rect.unit (s := S1x640x768) (k0_off10 k) S1x128x128.size (k0_off10_inb k), ablk0 (qld arg2 X_arg2 k) (arg14.view.readAt (Elt F) (Rect.unit (s := S2x1x128) (k0_off6 k) S1x1x128.size (k0_off6_inb k)).toLoadRect X_arg14) (arg12.view.readAt (Elt F) (Rect.unit (s := S2x640x64) (k0_off7 k) S1x128x64.size (k0_off7_inb k)).toLoadRect X_arg12) (arg13.view.readAt (Elt F) (Rect.unit (s := S2x640x128) (k0_off8 k) S1x128x128.size (k0_off8_inb k)).toLoadRect X_arg13) (arg10.view.readAt (Elt F) (Rect.unit (s := S1x2x64x640) (k0_off9 k) S1x1x64x128.size (k0_off9_inb k)).toLoadRect X_arg10)⟩] := by
  unfold trip_k0_t1
  rfl

theorem off7_eq : ∀ k : Fin k0_t1_loop.trips, k0_off7 k = ![k.val / 3, 0, 0] := by decide +kernel
theorem off8_eq : ∀ k : Fin k0_t1_loop.trips, k0_off8 k = ![k.val / 3, 0, 0] := by decide +kernel
theorem off9_eq : ∀ k : Fin k0_t1_loop.trips, k0_off9 k = ![0, k.val / 3, 0, 0] := by decide +kernel
theorem off11_eq : ∀ k : Fin k0_t1_loop.trips, k0_off11 k = ![k.val / 3, 0, 0] := by decide +kernel
theorem off12_eq : ∀ k : Fin k0_t1_loop.trips, k0_off12 k = ![k.val / 3, 0, 0] := by decide +kernel
theorem off13_eq : ∀ k : Fin k0_t1_loop.trips, k0_off13 k = ![0, k.val / 3, 0, 0] := by decide +kernel
theorem off15_eq : ∀ k : Fin k0_t1_loop.trips, k0_off15 k = ![k.val / 3, 0, 0] := by decide +kernel
theorem off16_eq : ∀ k : Fin k0_t1_loop.trips, k0_off16 k = ![k.val / 3, 0, 0] := by decide +kernel
theorem off17_eq : ∀ k : Fin k0_t1_loop.trips, k0_off17 k = ![0, k.val / 3, 0, 0] := by decide +kernel
theorem off19_eq : ∀ k : Fin k0_t1_loop.trips, k0_off19 k = ![k.val / 3, 0, 0] := by decide +kernel
theorem off20_eq : ∀ k : Fin k0_t1_loop.trips, k0_off20 k = ![k.val / 3, 0, 0] := by decide +kernel
theorem off21_eq : ∀ k : Fin k0_t1_loop.trips, k0_off21 k = ![0, k.val / 3, 0, 0] := by decide +kernel
theorem off23_eq : ∀ k : Fin k0_t1_loop.trips, k0_off23 k = ![k.val / 3, 0, 0] := by decide +kernel
theorem off24_eq : ∀ k : Fin k0_t1_loop.trips, k0_off24 k = ![k.val / 3, 0, 0] := by decide +kernel
theorem off25_eq : ∀ k : Fin k0_t1_loop.trips, k0_off25 k = ![0, k.val / 3, 0, 0] := by decide +kernel
theorem off6_eq : ∀ k : Fin k0_t1_loop.trips, k0_off6 k = ![k.val / 3, 0, 0] := by decide +kernel

end Cert.KernelIdeal.Gen

end
-- ==== Proof.Blocks.lean ====
/- The five blocks of the attention output, each at one query and one lane. -/
module

public import proofs.«01_k».proof.Proof.Att
public import proofs.«01_k».proof.Proof.TripO

@[expose] public section

set_option maxRecDepth 16384

noncomputable section

namespace Cert.KernelIdeal.Gen

open Idealize.ShloMosaic Idealize.ShloMosaic.TcCoe Cert.KernelIdeal Cert.Quant

variable {n : ℕ}

section
variable (m : ℕ) (hm : m + 128 ≤ 640) (q₀ q₁ : FVec Ideal S64x640 .fp8e4m3) (C₀ C₁ : FVec Ideal S1x640 .f32)
  (h : S64x640.Slices ![0, m] S64x128) (h' : S1x640.Slices ![0, m] S1x128)
  (kc : Vec Ideal (⟨3, ![1, n, 64]⟩ : Shape) .fp8e4m3) (kb : Vec Ideal (⟨3, ![1, n, 128]⟩ : Shape) .f32)
  (h₁ : (⟨3, ![1, n, 64]⟩ : Shape).ShapeCasts (Mat n 64)) (h₂ : (⟨3, ![1, n, 128]⟩ : Shape).ShapeCasts (Mat n 128))
  (h₃ : Shape.Concatenates [Mat n 128, Mat n 128] (Mat n 256) 1)
  (M : FVec Ideal (Mat n 256) .f32)
  (hM : ∀ t c, M (ix2 t c) = if t.val ≤ m + c.val % 128 then vsco kc kb (vqry m q₀ q₁ h) h₁ h₂ h₃ (ix2 t c) else Ideal.ofBits .f32 0xFF800000#32)
  (vc : Vec Ideal (⟨4, ![1, 1, 64, n]⟩ : Shape) .fp8e4m3) (V : FVec Ideal (Mat 64 n) .fp8e4m3) (hV : ∀ d t, V (ix2 d t) = vc (ix4 0 0 d t))
  (hr : (Mat n 256).Reduces [0] S256) (hb : S1x256.Broadcasts (Mat n 256)) (vs : FVec Ideal S1x128 .bf16) (r : Fin 128) (d : Fin 64)

include hM hV in
theorem vblk_lo :
    vfin (vout V (vwgt M (vqsc m C₀ C₁ h') hr hb) hr) vs (ix3 (0 : Fin 1) r ⟨d.val, by omega⟩)
      = att n (fun t e => kc (ix3 0 t e)) (fun e => q₀ (ix2 e ⟨m + r.val, by omega⟩)) (fun t => kb (ix3 0 t r)) (C₀ (ix2 (0 : Fin 1) ⟨m + r.val, by omega⟩))
          (fun t => vc (ix4 0 0 d t)) (m + r.val) * vs (ix2 (0 : Fin 1) ⟨d.val, by omega⟩) := by
  rw [vfin_lo, vout_apply]
  refine congrArg (· * _) ?_
  unfold att
  refine congrArg₂ wmean (funext fun t => ?_) (funext fun t => hV d t)
  rw [vwgt_apply, vqsc_lo m C₀ C₁ h' hm]
  refine congrArg (fun S => wgt S _ t) (funext fun t => ?_)
  rw [hM, vsco_apply]
  have hmod : r.val % 128 = r.val := Nat.mod_eq_of_lt r.isLt
  have e1 : (∑ e : Fin 64, kc (ix3 (0 : Fin 1) t e) * vqry m q₀ q₁ h (ix2 e ⟨r.val, by omega⟩))
      = ∑ e : Fin 64, kc (ix3 0 t e) * q₀ (ix2 e ⟨m + r.val, by omega⟩) :=
    Finset.sum_congr rfl fun e _ => congrArg (_ * ·) (vqry_lo m q₀ q₁ h hm e r)
  have e2 : kb (ix3 (0 : Fin 1) t (⟨r.val % 128, Nat.mod_lt _ (by decide)⟩ : Fin 128)) = kb (ix3 0 t r) :=
    congrArg (fun z : Fin 128 => kb (ix3 (0 : Fin 1) t z)) (Fin.ext hmod)
  refine Eq.trans (congrArg (fun z : ℕ => if t.val ≤ m + z then _ else _) hmod) ?_
  exact congrArg (fun z : EReal => if t.val ≤ m + r.val then z else _) (congrArg₂ (· * ·) e1 e2)

include hM hV in
theorem vblk_hi :
    vfin (vout V (vwgt M (vqsc m C₀ C₁ h') hr hb) hr) vs (ix3 (0 : Fin 1) r ⟨64 + d.val, by omega⟩)
      = att n (fun t e => kc (ix3 0 t e)) (fun e => q₁ (ix2 e ⟨m + r.val, by omega⟩)) (fun t => kb (ix3 0 t r)) (C₁ (ix2 (0 : Fin 1) ⟨m + r.val, by omega⟩))
          (fun t => vc (ix4 0 0 d t)) (m + r.val) * vs (ix2 (0 : Fin 1) ⟨64 + d.val, by omega⟩) := by
  rw [vfin_hi, vout_apply]
  refine congrArg (· * _) ?_
  unfold att
  refine congrArg₂ wmean (funext fun t => ?_) (funext fun t => hV d t)
  rw [vwgt_apply, vqsc_hi m C₀ C₁ h' hm]
  refine congrArg (fun S => wgt S _ t) (funext fun t => ?_)
  rw [hM, vsco_apply]
  have hmod : (128 + r.val) % 128 = r.val := by omega
  have e1 : (∑ e : Fin 64, kc (ix3 (0 : Fin 1) t e) * vqry m q₀ q₁ h (ix2 e ⟨128 + r.val, by omega⟩))
      = ∑ e : Fin 64, kc (ix3 0 t e) * q₁ (ix2 e ⟨m + r.val, by omega⟩) :=
    Finset.sum_congr rfl fun e _ => congrArg (_ * ·) (vqry_hi m q₀ q₁ h hm e r)
  have e2 : kb (ix3 (0 : Fin 1) t (⟨(128 + r.val) % 128, Nat.mod_lt _ (by decide)⟩ : Fin 128)) = kb (ix3 0 t r) :=
    congrArg (fun z : Fin 128 => kb (ix3 (0 : Fin 1) t z)) (Fin.ext hmod)
  refine Eq.trans (congrArg (fun z : ℕ => if t.val ≤ m + z then _ else _) hmod) ?_
  exact congrArg (fun z : EReal => if t.val ≤ m + r.val then z else _) (congrArg₂ (· * ·) e1 e2)
end

section
variable (P : Vec Ideal S1x640x128 .bf16) (w : Vec Ideal S1x1x128 .f32) (r : Fin 128) (d : Fin 64)

section
variable (kc : Vec Ideal S1x128x64 .fp8e4m3) (kb : Vec Ideal S1x128x128 .f32) (vc : Vec Ideal S1x1x64x128 .fp8e4m3)

theorem vcast0 (d : Fin 64) (t : Fin 128) : shapeCast S64x128 vc shapeCasts_S1x1x64x128_S64x128 (ix2 d t) = vc (ix4 0 0 d t) := by
  pointwise []

theorem ablk0_eq : ablk0 P w kc kb vc
    = vfin (vout (n := 128) (shapeCast S64x128 vc shapeCasts_S1x1x64x128_S64x128)
        (vwgt (n := 128) (select k0_pay3 (vsco (n := 128) kc kb (vqry 0 (qcd0 P) (qc1 P) slices_S64x640_o0_0_S64x128) shapeCasts_S1x128x64_S128x64 shapeCasts_S1x128x128_S128x128 concatenates_S128x128_S128x128_S128x256_d1) (broadcast S128x256 (Scalar.ofBits (F := Ideal) .f32 0xFF800000#32))) (vqsc 0 (qt0 P) (qt1 P) slices_S1x640_o0_0_S1x128) reduces_S128x256_S256 broadcasts_S1x256_S128x256) reduces_S128x256_S256) (k0_pay30 w) := rfl

theorem ablk0_lo : ablk0 P w kc kb vc (ix3 (0 : Fin 1) r ⟨d.val, by omega⟩)
    = att 128 (fun t e => kc (ix3 0 t e)) (fun e => qcd0 P (ix2 e ⟨0 + r.val, by omega⟩)) (fun t => kb (ix3 0 t r)) (qt0 P (ix2 (0 : Fin 1) ⟨0 + r.val, by omega⟩))
        (fun t => vc (ix4 0 0 d t)) (0 + r.val) * k0_pay30 w (ix2 (0 : Fin 1) ⟨d.val, by omega⟩) := by
  rw [ablk0_eq]
  exact vblk_lo 0 (by decide) (qcd0 P) (qc1 P) (qt0 P) (qt1 P) _ _ kc kb _ _ _ _ (fun t c => (sel_pay3 _ t c).trans (congrArg (fun z : ℕ => if t.val ≤ z then _ else _) (Nat.zero_add _).symm)) vc _ (vcast0 vc) _ _ _ r d

theorem ablk0_hi : ablk0 P w kc kb vc (ix3 (0 : Fin 1) r ⟨64 + d.val, by omega⟩)
    = att 128 (fun t e => kc (ix3 0 t e)) (fun e => qc1 P (ix2 e ⟨0 + r.val, by omega⟩)) (fun t => kb (ix3 0 t r)) (qt1 P (ix2 (0 : Fin 1) ⟨0 + r.val, by omega⟩))
        (fun t => vc (ix4 0 0 d t)) (0 + r.val) * k0_pay30 w (ix2 (0 : Fin 1) ⟨64 + d.val, by omega⟩) := by
  rw [ablk0_eq]
  exact vblk_hi 0 (by decide) (qcd0 P) (qc1 P) (qt0 P) (qt1 P) _ _ kc kb _ _ _ _ (fun t c => (sel_pay3 _ t c).trans (congrArg (fun z : ℕ => if t.val ≤ z then _ else _) (Nat.zero_add _).symm)) vc _ (vcast0 vc) _ _ _ r d
end

section
variable (kc : Vec Ideal S1x256x64 .fp8e4m3) (kb : Vec Ideal S1x256x128 .f32) (vc : Vec Ideal S1x1x64x256 .fp8e4m3)

theorem vcast1 (d : Fin 64) (t : Fin 256) : shapeCast S64x256 vc shapeCasts_S1x1x64x256_S64x256 (ix2 d t) = vc (ix4 0 0 d t) := by
  pointwise []

theorem ablk1_eq : ablk1 P w kc kb vc
    = vfin (vout (n := 256) (shapeCast S64x256 vc shapeCasts_S1x1x64x256_S64x256)
        (vwgt (n := 256) (vmsk (n := 256) (m := 128) (vsco (n := 256) kc kb (vqry 128 (qcd0 P) (qc1 P) slices_S64x640_o0_128_S64x128) shapeCasts_S1x256x64_S256x64 shapeCasts_S1x256x128_S256x128 concatenates_S256x128_S256x128_S256x256_d1) slices_S256x256_o0_0_S128x256 slices_S256x256_o128_0_S128x256 concatenates_S128x256_S128x256_S256x256_d0) (vqsc 128 (qt0 P) (qt1 P) slices_S1x640_o0_128_S1x128) reduces_S256x256_S256 broadcasts_S1x256_S256x256) reduces_S256x256_S256) (k0_pay30 w) := rfl

theorem ablk1_lo : ablk1 P w kc kb vc (ix3 (0 : Fin 1) r ⟨d.val, by omega⟩)
    = att 256 (fun t e => kc (ix3 0 t e)) (fun e => qcd0 P (ix2 e ⟨128 + r.val, by omega⟩)) (fun t => kb (ix3 0 t r)) (qt0 P (ix2 (0 : Fin 1) ⟨128 + r.val, by omega⟩))
        (fun t => vc (ix4 0 0 d t)) (128 + r.val) * k0_pay30 w (ix2 (0 : Fin 1) ⟨d.val, by omega⟩) := by
  rw [ablk1_eq]
  exact vblk_lo 128 (by decide) (qcd0 P) (qc1 P) (qt0 P) (qt1 P) _ _ kc kb _ _ _ _ (fun t c => vmsk_apply _ _ _ _ rfl t c) vc _ (vcast1 vc) _ _ _ r d

theorem ablk1_hi : ablk1 P w kc kb vc (ix3 (0 : Fin 1) r ⟨64 + d.val, by omega⟩)
    = att 256 (fun t e => kc (ix3 0 t e)) (fun e => qc1 P (ix2 e ⟨128 + r.val, by omega⟩)) (fun t => kb (ix3 0 t r)) (qt1 P (ix2 (0 : Fin 1) ⟨128 + r.val, by omega⟩))
        (fun t => vc (ix4 0 0 d t)) (128 + r.val) * k0_pay30 w (ix2 (0 : Fin 1) ⟨64 + d.val, by omega⟩) := by
  rw [ablk1_eq]
  exact vblk_hi 128 (by decide) (qcd0 P) (qc1 P) (qt0 P) (qt1 P) _ _ kc kb _ _ _ _ (fun t c => vmsk_apply _ _ _ _ rfl t c) vc _ (vcast1 vc) _ _ _ r d
end

section
variable (kc : Vec Ideal S1x384x64 .fp8e4m3) (kb : Vec Ideal S1x384x128 .f32) (vc : Vec Ideal S1x1x64x384 .fp8e4m3)

theorem vcast2 (d : Fin 64) (t : Fin 384) : shapeCast S64x384 vc shapeCasts_S1x1x64x384_S64x384 (ix2 d t) = vc (ix4 0 0 d t) := by
  pointwise []

theorem ablk2_eq : ablk2 P w kc kb vc
    = vfin (vout (n := 384) (shapeCast S64x384 vc shapeCasts_S1x1x64x384_S64x384)
        (vwgt (n := 384) (vmsk (n := 384) (m := 256) (vsco (n := 384) kc kb (vqry 256 (qcd0 P) (qc1 P) slices_S64x640_o0_256_S64x128) shapeCasts_S1x384x64_S384x64 shapeCasts_S1x384x128_S384x128 concatenates_S384x128_S384x128_S384x256_d1) slices_S384x256_o0_0_S256x256 slices_S384x256_o256_0_S128x256 concatenates_S256x256_S128x256_S384x256_d0) (vqsc 256 (qt0 P) (qt1 P) slices_S1x640_o0_256_S1x128) reduces_S384x256_S256 broadcasts_S1x256_S384x256) reduces_S384x256_S256) (k0_pay30 w) := rfl

theorem ablk2_lo : ablk2 P w kc kb vc (ix3 (0 : Fin 1) r ⟨d.val, by omega⟩)
    = att 384 (fun t e => kc (ix3 0 t e)) (fun e => qcd0 P (ix2 e ⟨256 + r.val, by omega⟩)) (fun t => kb (ix3 0 t r)) (qt0 P (ix2 (0 : Fin 1) ⟨256 + r.val, by omega⟩))
        (fun t => vc (ix4 0 0 d t)) (256 + r.val) * k0_pay30 w (ix2 (0 : Fin 1) ⟨d.val, by omega⟩) := by
  rw [ablk2_eq]
  exact vblk_lo 256 (by decide) (qcd0 P) (qc1 P) (qt0 P) (qt1 P) _ _ kc kb _ _ _ _ (fun t c => vmsk_apply _ _ _ _ rfl t c) vc _ (vcast2 vc) _ _ _ r d

theorem ablk2_hi : ablk2 P w kc kb vc (ix3 (0 : Fin 1) r ⟨64 + d.val, by omega⟩)
    = att 384 (fun t e => kc (ix3 0 t e)) (fun e => qc1 P (ix2 e ⟨256 + r.val, by omega⟩)) (fun t => kb (ix3 0 t r)) (qt1 P (ix2 (0 : Fin 1) ⟨256 + r.val, by omega⟩))
        (fun t => vc (ix4 0 0 d t)) (256 + r.val) * k0_pay30 w (ix2 (0 : Fin 1) ⟨64 + d.val, by omega⟩) := by
  rw [ablk2_eq]
  exact vblk_hi 256 (by decide) (qcd0 P) (qc1 P) (qt0 P) (qt1 P) _ _ kc kb _ _ _ _ (fun t c => vmsk_apply _ _ _ _ rfl t c) vc _ (vcast2 vc) _ _ _ r d
end

section
variable (kc : Vec Ideal S1x512x64 .fp8e4m3) (kb : Vec Ideal S1x512x128 .f32) (vc : Vec Ideal S1x1x64x512 .fp8e4m3)

theorem vcast3 (d : Fin 64) (t : Fin 512) : shapeCast S64x512 vc shapeCasts_S1x1x64x512_S64x512 (ix2 d t) = vc (ix4 0 0 d t) := by
  pointwise []

theorem ablk3_eq : ablk3 P w kc kb vc
    = vfin (vout (n := 512) (shapeCast S64x512 vc shapeCasts_S1x1x64x512_S64x512)
        (vwgt (n := 512) (vmsk (n := 512) (m := 384) (vsco (n := 512) kc kb (vqry 384 (qcd0 P) (qc1 P) slices_S64x640_o0_384_S64x128) shapeCasts_S1x512x64_S512x64 shapeCasts_S1x512x128_S512x128 concatenates_S512x128_S512x128_S512x256_d1) slices_S512x256_o0_0_S384x256 slices_S512x256_o384_0_S128x256 concatenates_S384x256_S128x256_S512x256_d0) (vqsc 384 (qt0 P) (qt1 P) slices_S1x640_o0_384_S1x128) reduces_S512x256_S256 broadcasts_S1x256_S512x256) reduces_S512x256_S256) (k0_pay30 w) := rfl

theorem ablk3_lo : ablk3 P w kc kb vc (ix3 (0 : Fin 1) r ⟨d.val, by omega⟩)
    = att 512 (fun t e => kc (ix3 0 t e)) (fun e => qcd0 P (ix2 e ⟨384 + r.val, by omega⟩)) (fun t => kb (ix3 0 t r)) (qt0 P (ix2 (0 : Fin 1) ⟨384 + r.val, by omega⟩))
        (fun t => vc (ix4 0 0 d t)) (384 + r.val) * k0_pay30 w (ix2 (0 : Fin 1) ⟨d.val, by omega⟩) := by
  rw [ablk3_eq]
  exact vblk_lo 384 (by decide) (qcd0 P) (qc1 P) (qt0 P) (qt1 P) _ _ kc kb _ _ _ _ (fun t c => vmsk_apply _ _ _ _ rfl t c) vc _ (vcast3 vc) _ _ _ r d

theorem ablk3_hi : ablk3 P w kc kb vc (ix3 (0 : Fin 1) r ⟨64 + d.val, by omega⟩)
    = att 512 (fun t e => kc (ix3 0 t e)) (fun e => qc1 P (ix2 e ⟨384 + r.val, by omega⟩)) (fun t => kb (ix3 0 t r)) (qt1 P (ix2 (0 : Fin 1) ⟨384 + r.val, by omega⟩))
        (fun t => vc (ix4 0 0 d t)) (384 + r.val) * k0_pay30 w (ix2 (0 : Fin 1) ⟨64 + d.val, by omega⟩) := by
  rw [ablk3_eq]
  exact vblk_hi 384 (by decide) (qcd0 P) (qc1 P) (qt0 P) (qt1 P) _ _ kc kb _ _ _ _ (fun t c => vmsk_apply _ _ _ _ rfl t c) vc _ (vcast3 vc) _ _ _ r d
end

section
variable (kc : Vec Ideal S1x640x64 .fp8e4m3) (kb : Vec Ideal S1x640x128 .f32) (vc : Vec Ideal S1x1x64x640 .fp8e4m3)

theorem vcast4 (d : Fin 64) (t : Fin 640) : shapeCast S64x640 vc shapeCasts_S1x1x64x640_S64x640 (ix2 d t) = vc (ix4 0 0 d t) := by
  pointwise []

theorem ablk4_eq : ablk4 P w kc kb vc
    = vfin (vout (n := 640) (shapeCast S64x640 vc shapeCasts_S1x1x64x640_S64x640)
        (vwgt (n := 640) (vmsk (n := 640) (m := 512) (vsco (n := 640) kc kb (vqry 512 (qcd0 P) (qc1 P) slices_S64x640_o0_512_S64x128) shapeCasts_S1x640x64_S640x64 shapeCasts_S1x640x128_S640x128 concatenates_S640x128_S640x128_S640x256_d1) slices_S640x256_o0_0_S512x256 slices_S640x256_o512_0_S128x256 concatenates_S512x256_S128x256_S640x256_d0) (vqsc 512 (qt0 P) (qt1 P) slices_S1x640_o0_512_S1x128) reduces_S640x256_S256 broadcasts_S1x256_S640x256) reduces_S640x256_S256) (k0_pay30 w) := rfl

theorem ablk4_lo : ablk4 P w kc kb vc (ix3 (0 : Fin 1) r ⟨d.val, by omega⟩)
    = att 640 (fun t e => kc (ix3 0 t e)) (fun e => qcd0 P (ix2 e ⟨512 + r.val, by omega⟩)) (fun t => kb (ix3 0 t r)) (qt0 P (ix2 (0 : Fin 1) ⟨512 + r.val, by omega⟩))
        (fun t => vc (ix4 0 0 d t)) (512 + r.val) * k0_pay30 w (ix2 (0 : Fin 1) ⟨d.val, by omega⟩) := by
  rw [ablk4_eq]
  exact vblk_lo 512 (by decide) (qcd0 P) (qc1 P) (qt0 P) (qt1 P) _ _ kc kb _ _ _ _ (fun t c => vmsk_apply _ _ _ _ rfl t c) vc _ (vcast4 vc) _ _ _ r d

theorem ablk4_hi : ablk4 P w kc kb vc (ix3 (0 : Fin 1) r ⟨64 + d.val, by omega⟩)
    = att 640 (fun t e => kc (ix3 0 t e)) (fun e => qc1 P (ix2 e ⟨512 + r.val, by omega⟩)) (fun t => kb (ix3 0 t r)) (qt1 P (ix2 (0 : Fin 1) ⟨512 + r.val, by omega⟩))
        (fun t => vc (ix4 0 0 d t)) (512 + r.val) * k0_pay30 w (ix2 (0 : Fin 1) ⟨64 + d.val, by omega⟩) := by
  rw [ablk4_eq]
  exact vblk_hi 512 (by decide) (qcd0 P) (qc1 P) (qt0 P) (qt1 P) _ _ kc kb _ _ _ _ (fun t c => vmsk_apply _ _ _ _ rfl t c) vc _ (vcast4 vc) _ _ _ r d
end

end

end Cert.KernelIdeal.Gen

end
-- ==== Proof.Leaves.lean ====
/- What the body leaves of the attention output. -/
module

public import proofs.«01_k».proof.Proof.Loads
public import proofs.«01_k».proof.Proof.Blocks

@[expose] public section

set_option maxRecDepth 16384

noncomputable section

namespace Cert.KernelIdeal.Gen

open Idealize.ShloMosaic Idealize.ShloMosaic.TcCoe Cert.KernelIdeal Cert.Quant

variable (m : (ℓ : Loc nD τ sig) → Buf (Elt Ideal) ℓ) (c : Dev nD) (t : Fin cfg0.N)

/-- A piece of 128 queries by 128 lanes, read at its place, -/
theorem pieceO {α : Type} (o p : ℕ) (ho : o + 128 ≤ 640) (hp : p + 128 ≤ 768) (off : Fin 3 → ℕ) (hoff : off = ![0, o, p])
    (inb : ∀ k, off k + (![1, 128, 128] : Fin 3 → ℕ) k ≤ S1x640x768.size k)
    (w : (Rect.unit (s := S1x640x768) off ![1, 128, 128] inb).shape.Idx → α) (G : S1x640x768.Idx → α)
    (h : ∀ (r l : Fin 128), w (ix3 (n0 := 1) 0 r l) = G (ix3 (n0 := 1) 0 ⟨o + r.val, by omega⟩ ⟨p + l.val, by omega⟩)) (x) :
    w x = G ((Rect.unit (s := S1x640x768) off ![1, 128, 128] inb).emb x) := by
  subst hoff
  have h0 : (x 0).val < 1 := (x 0).isLt
  have hx : x = ix3 (n0 := 1) (n1 := 128) (n2 := 128) 0 (x 1) (x 2) := by
    funext k
    match k with
    | ⟨0, _⟩ => exact Fin.ext (by show (x 0).val = 0; omega)
    | ⟨1, _⟩ => rfl
    | ⟨2, _⟩ => rfl
  have b1 : (x 1).val < 128 := (x 1).isLt
  have b2 : (x 2).val < 128 := (x 2).isLt
  have he : (Rect.unit (s := S1x640x768) ![0, o, p] ![1, 128, 128] inb).emb x
      = ix3 (n0 := 1) (n1 := 640) (n2 := 768) 0 ⟨o + (x 1).val, by omega⟩ ⟨p + (x 2).val, by omega⟩ := by
    funext k
    match k with
    | ⟨0, _⟩ => exact Fin.ext ((unit_emb_val _ _ inb x _).trans (by show 0 + (x 0).val = 0; omega))
    | ⟨1, _⟩ => exact Fin.ext (unit_emb_val _ _ inb x _)
    | ⟨2, _⟩ => exact Fin.ext (unit_emb_val _ _ inb x _)
  rw [he]
  exact (congrArg w hx).trans (h _ _)

/-- and its indices. -/
theorem memO (o p : ℕ) (off : Fin 3 → ℕ) (hoff : off = ![0, o, p])
    (inb : ∀ k, off k + (![1, 128, 128] : Fin 3 → ℕ) k ≤ S1x640x768.size k) (s : Fin 640) (e : Fin 768)
    (h₁ : o ≤ s.val ∧ s.val < o + 128) (h₂ : p ≤ e.val ∧ e.val < p + 128) :
    ix3 (n0 := 1) 0 s e ∈ (Rect.unit (s := S1x640x768) off ![1, 128, 128] inb).set := by
  subst hoff
  rw [Rect.mem_set_unit]
  intro k
  match k with
  | ⟨0, _⟩ => exact ⟨Nat.le_refl _, by show 0 < 0 + 1; omega⟩
  | ⟨1, _⟩ => exact h₁
  | ⟨2, _⟩ => exact h₂

theorem sO_congr {x : Vec Ideal S3x640x3072 .bf16} {k v : Vec Ideal S3x640x512 .bf16} {b : Fin 3} {h h' : Fin 48} {n n' : ℕ} {hn hn'}
    {s s' : Fin 640} {d d' : Fin 64} (eh : h.val = h'.val) (en : n = n') (es : s.val = s'.val) (ed : d.val = d'.val) :
    sO x k v b h n hn s d = sO x k v b h' n' hn' s' d' := by
  obtain rfl := Fin.ext eh
  obtain rfl := Fin.ext es
  obtain rfl := Fin.ext ed
  subst en
  rfl

/-- The attention of a trip's head from what it is given. -/
theorem att_sO (k : Fin k0_t1_loop.trips) (r : Fin 2) {n : ℕ} (hn : n ≤ 640) (s : Fin 640) (d : Fin 64)
    {kc : Fin n → Fin 64 → EReal} {q : Fin 64 → EReal} {ks : Fin n → EReal} {C : EReal} {vc : Fin n → EReal} {w : EReal}
    (hkc : ∀ u e, kc u e = sKC (kin m c) (bOf t) (jOf t ⟨k.val / 3, by have := trip_lt k; omega⟩) e ⟨u.val, lt_of_lt_of_le u.isLt hn⟩)
    (hq : ∀ e, q e = sQC (xin m c) (bOf t) (hOf t k r) e s)
    (hks : ∀ u, ks u = sKS (kin m c) (bOf t) (jOf t ⟨k.val / 3, by have := trip_lt k; omega⟩) ⟨u.val, lt_of_lt_of_le u.isLt hn⟩)
    (hC : C = sQS (xin m c) (bOf t) (hOf t k r) s * (((1 / 8) * (Real.log 2)⁻¹ : ℝ) : EReal))
    (hvc : ∀ u, vc u = sVC (vin m c) (bOf t) (jOf t ⟨k.val / 3, by have := trip_lt k; omega⟩) d ⟨u.val, lt_of_lt_of_le u.isLt hn⟩)
    (hw : w = sVS (vin m c) (bOf t) (jOf t ⟨k.val / 3, by have := trip_lt k; omega⟩) d) :
    att n kc q ks C vc s.val * w = sO (xin m c) (kin m c) (vin m c) (bOf t) (hOf t k r) n hn s d := by
  have hk := trip_lt k
  have hj : (⟨(hOf t k r).val / 6, by have := (hOf t k r).isLt; omega⟩ : Fin 8) = jOf t ⟨k.val / 3, by omega⟩ :=
    Fin.ext (by show (12 * (t.val % 4) + 2 * k.val + r.val) / 6 = 2 * (t.val % 4) + k.val / 3; omega)
  obtain rfl : kc = _ := funext fun u => funext fun e => hkc u e
  obtain rfl : q = _ := funext hq
  obtain rfl : ks = _ := funext hks
  obtain rfl : vc = _ := funext hvc
  subst hC hw
  unfold sO
  rw [hj]

theorem qt0_apply (P : Vec Ideal S1x640x128 .bf16) (s : Fin 640) :
    qt0 P (ix2 (0 : Fin 1) s) = qsc0 P (ix2 (0 : Fin 1) s) * (((1 / 8) * (Real.log 2)⁻¹ : ℝ) : EReal) := rfl
theorem qt1_apply (P : Vec Ideal S1x640x128 .bf16) (s : Fin 640) :
    qt1 P (ix2 (0 : Fin 1) s) = qsc1 P (ix2 (0 : Fin 1) s) * (((1 / 8) * (Real.log 2)⁻¹ : ℝ) : EReal) := rfl
theorem pay30_apply (w : Vec Ideal S1x1x128 .f32) (l : Fin 128) : k0_pay30 w (ix2 (0 : Fin 1) l) = w (ix3 (0 : Fin 1) (0 : Fin 1) l) := by
  pointwise [k0_pay30]

section
variable (k : Fin k0_t1_loop.trips) (arg2 : Memref sig .tc .vmem S1x640x768 .bf16) (harg2 : arg2.IsWhole)
  (arg10 : Memref sig .tc .vmem S1x2x64x640 .fp8e4m3) (arg12 : Memref sig .tc .vmem S2x640x64 .fp8e4m3)
  (arg13 : Memref sig .tc .vmem S2x640x128 .f32) (arg14 : Memref sig .tc .vmem S2x1x128 .f32) (r l : Fin 128)

/-- The head of the two that a trip's key and value loads belong to. -/
abbrev kh : Fin 2 := ⟨k.val / 3, by have := trip_lt k; omega⟩

theorem blk0_val : ablk0 (qld arg2 (harg2.unread (iblk m c 0 t)) k) (arg14.view.readAt (Elt Ideal) (Rect.unit (s := S2x1x128) (k0_off6 k) S1x1x128.size (k0_off6_inb k)).toLoadRect (arg14.view.writes (Elt Ideal) arg14.view.junk (L_arg14 (iblk m c 2 t)))) (arg12.view.readAt (Elt Ideal) (Rect.unit (s := S2x640x64) (k0_off7 k) S1x128x64.size (k0_off7_inb k)).toLoadRect (arg12.view.writes (Elt Ideal) arg12.view.junk (L_arg12 (iblk m c 1 t)))) (arg13.view.readAt (Elt Ideal) (Rect.unit (s := S2x640x128) (k0_off8 k) S1x128x128.size (k0_off8_inb k)).toLoadRect (arg13.view.writes (Elt Ideal) arg13.view.junk (L_arg13 (iblk m c 1 t)))) (arg10.view.readAt (Elt Ideal) (Rect.unit (s := S1x2x64x640) (k0_off9 k) S1x1x64x128.size (k0_off9_inb k)).toLoadRect (arg10.view.writes (Elt Ideal) arg10.view.junk (L_arg10 (iblk m c 2 t)))) (ix3 (0 : Fin 1) r l)
    = sO (xin m c) (kin m c) (vin m c) (bOf t) (hOf t k ⟨l.val / 64, by omega⟩) 128 (by decide) ⟨0 + r.val, by omega⟩ ⟨l.val % 64, by omega⟩ := by
  have hd : l.val % 64 < 64 := Nat.mod_lt _ (by decide)
  by_cases hl : l.val < 64
  · have el : (⟨(⟨l.val % 64, hd⟩ : Fin 64).val, by omega⟩ : Fin 128) = l := Fin.ext (by show l.val % 64 = l.val; omega)
    refine Eq.trans (congrArg (fun z : Fin 128 => ablk0 _ _ _ _ _ (ix3 (0 : Fin 1) r z)) el.symm) ?_
    refine (ablk0_lo _ _ r ⟨l.val % 64, hd⟩ _ _ _).trans ?_
    have er : hOf t k ⟨l.val / 64, by omega⟩ = hOf t k 0 := Fin.ext (by show 12 * (t.val % 4) + 2 * k.val + l.val / 64 = 12 * (t.val % 4) + 2 * k.val + 0; omega)
    rw [er]
    exact att_sO m c t k 0 (by decide) ⟨0 + r.val, by omega⟩ ⟨l.val % 64, hd⟩
      (fun u e => ld12 m c t (by decide) (kh k) arg12 _ (off7_eq k) (k0_off7_inb k) u e)
      (fun e => qcd0_val m c t arg2 harg2 k e _)
      (fun u => ld13 m c t (by decide) (kh k) arg13 _ (off8_eq k) (k0_off8_inb k) u r)
      ((qt0_apply _ _).trans (congrArg (· * _) (qsc0_val m c t arg2 harg2 k _)))
      (fun u => ld10 m c t (by decide) (kh k) arg10 _ (off9_eq k) (k0_off9_inb k) _ u)
      (((pay30_apply _ _).trans (ld14 m c t (kh k) arg14 _ (off6_eq k) (k0_off6_inb k) _)).trans
        (congrArg (sVS (vin m c) (bOf t) (jOf t (kh k))) (Fin.ext (by show l.val % 64 % 64 = l.val % 64; omega))))
  · have el : (⟨64 + (⟨l.val % 64, hd⟩ : Fin 64).val, by omega⟩ : Fin 128) = l := Fin.ext (by show 64 + l.val % 64 = l.val; omega)
    refine Eq.trans (congrArg (fun z : Fin 128 => ablk0 _ _ _ _ _ (ix3 (0 : Fin 1) r z)) el.symm) ?_
    refine (ablk0_hi _ _ r ⟨l.val % 64, hd⟩ _ _ _).trans ?_
    have er : hOf t k ⟨l.val / 64, by omega⟩ = hOf t k 1 := Fin.ext (by show 12 * (t.val % 4) + 2 * k.val + l.val / 64 = 12 * (t.val % 4) + 2 * k.val + 1; omega)
    rw [er]
    exact att_sO m c t k 1 (by decide) ⟨0 + r.val, by omega⟩ ⟨l.val % 64, hd⟩
      (fun u e => ld12 m c t (by decide) (kh k) arg12 _ (off7_eq k) (k0_off7_inb k) u e)
      (fun e => qcd1_val m c t arg2 harg2 k e _)
      (fun u => ld13 m c t (by decide) (kh k) arg13 _ (off8_eq k) (k0_off8_inb k) u r)
      ((qt1_apply _ _).trans (congrArg (· * _) (qsc1_val m c t arg2 harg2 k _)))
      (fun u => ld10 m c t (by decide) (kh k) arg10 _ (off9_eq k) (k0_off9_inb k) _ u)
      (((pay30_apply _ _).trans (ld14 m c t (kh k) arg14 _ (off6_eq k) (k0_off6_inb k) _)).trans
        (congrArg (sVS (vin m c) (bOf t) (jOf t (kh k))) (Fin.ext (by show (64 + l.val % 64) % 64 = l.val % 64; omega))))

theorem blk1_val : ablk1 (qld arg2 (harg2.unread (iblk m c 0 t)) k) (arg14.view.readAt (Elt Ideal) (Rect.unit (s := S2x1x128) (k0_off6 k) S1x1x128.size (k0_off6_inb k)).toLoadRect (arg14.view.writes (Elt Ideal) arg14.view.junk (L_arg14 (iblk m c 2 t)))) (arg12.view.readAt (Elt Ideal) (Rect.unit (s := S2x640x64) (k0_off11 k) S1x256x64.size (k0_off11_inb k)).toLoadRect (arg12.view.writes (Elt Ideal) arg12.view.junk (L_arg12 (iblk m c 1 t)))) (arg13.view.readAt (Elt Ideal) (Rect.unit (s := S2x640x128) (k0_off12 k) S1x256x128.size (k0_off12_inb k)).toLoadRect (arg13.view.writes (Elt Ideal) arg13.view.junk (L_arg13 (iblk m c 1 t)))) (arg10.view.readAt (Elt Ideal) (Rect.unit (s := S1x2x64x640) (k0_off13 k) S1x1x64x256.size (k0_off13_inb k)).toLoadRect (arg10.view.writes (Elt Ideal) arg10.view.junk (L_arg10 (iblk m c 2 t)))) (ix3 (0 : Fin 1) r l)
    = sO (xin m c) (kin m c) (vin m c) (bOf t) (hOf t k ⟨l.val / 64, by omega⟩) 256 (by decide) ⟨128 + r.val, by omega⟩ ⟨l.val % 64, by omega⟩ := by
  have hd : l.val % 64 < 64 := Nat.mod_lt _ (by decide)
  by_cases hl : l.val < 64
  · have el : (⟨(⟨l.val % 64, hd⟩ : Fin 64).val, by omega⟩ : Fin 128) = l := Fin.ext (by show l.val % 64 = l.val; omega)
    refine Eq.trans (congrArg (fun z : Fin 128 => ablk1 _ _ _ _ _ (ix3 (0 : Fin 1) r z)) el.symm) ?_
    refine (ablk1_lo _ _ r ⟨l.val % 64, hd⟩ _ _ _).trans ?_
    have er : hOf t k ⟨l.val / 64, by omega⟩ = hOf t k 0 := Fin.ext (by show 12 * (t.val % 4) + 2 * k.val + l.val / 64 = 12 * (t.val % 4) + 2 * k.val + 0; omega)
    rw [er]
    exact att_sO m c t k 0 (by decide) ⟨128 + r.val, by omega⟩ ⟨l.val % 64, hd⟩
      (fun u e => ld12 m c t (by decide) (kh k) arg12 _ (off11_eq k) (k0_off11_inb k) u e)
      (fun e => qcd0_val m c t arg2 harg2 k e _)
      (fun u => ld13 m c t (by decide) (kh k) arg13 _ (off12_eq k) (k0_off12_inb k) u r)
      ((qt0_apply _ _).trans (congrArg (· * _) (qsc0_val m c t arg2 harg2 k _)))
      (fun u => ld10 m c t (by decide) (kh k) arg10 _ (off13_eq k) (k0_off13_inb k) _ u)
      (((pay30_apply _ _).trans (ld14 m c t (kh k) arg14 _ (off6_eq k) (k0_off6_inb k) _)).trans
        (congrArg (sVS (vin m c) (bOf t) (jOf t (kh k))) (Fin.ext (by show l.val % 64 % 64 = l.val % 64; omega))))
  · have el : (⟨64 + (⟨l.val % 64, hd⟩ : Fin 64).val, by omega⟩ : Fin 128) = l := Fin.ext (by show 64 + l.val % 64 = l.val; omega)
    refine Eq.trans (congrArg (fun z : Fin 128 => ablk1 _ _ _ _ _ (ix3 (0 : Fin 1) r z)) el.symm) ?_
    refine (ablk1_hi _ _ r ⟨l.val % 64, hd⟩ _ _ _).trans ?_
    have er : hOf t k ⟨l.val / 64, by omega⟩ = hOf t k 1 := Fin.ext (by show 12 * (t.val % 4) + 2 * k.val + l.val / 64 = 12 * (t.val % 4) + 2 * k.val + 1; omega)
    rw [er]
    exact att_sO m c t k 1 (by decide) ⟨128 + r.val, by omega⟩ ⟨l.val % 64, hd⟩
      (fun u e => ld12 m c t (by decide) (kh k) arg12 _ (off11_eq k) (k0_off11_inb k) u e)
      (fun e => qcd1_val m c t arg2 harg2 k e _)
      (fun u => ld13 m c t (by decide) (kh k) arg13 _ (off12_eq k) (k0_off12_inb k) u r)
      ((qt1_apply _ _).trans (congrArg (· * _) (qsc1_val m c t arg2 harg2 k _)))
      (fun u => ld10 m c t (by decide) (kh k) arg10 _ (off13_eq k) (k0_off13_inb k) _ u)
      (((pay30_apply _ _).trans (ld14 m c t (kh k) arg14 _ (off6_eq k) (k0_off6_inb k) _)).trans
        (congrArg (sVS (vin m c) (bOf t) (jOf t (kh k))) (Fin.ext (by show (64 + l.val % 64) % 64 = l.val % 64; omega))))

theorem blk2_val : ablk2 (qld arg2 (harg2.unread (iblk m c 0 t)) k) (arg14.view.readAt (Elt Ideal) (Rect.unit (s := S2x1x128) (k0_off6 k) S1x1x128.size (k0_off6_inb k)).toLoadRect (arg14.view.writes (Elt Ideal) arg14.view.junk (L_arg14 (iblk m c 2 t)))) (arg12.view.readAt (Elt Ideal) (Rect.unit (s := S2x640x64) (k0_off15 k) S1x384x64.size (k0_off15_inb k)).toLoadRect (arg12.view.writes (Elt Ideal) arg12.view.junk (L_arg12 (iblk m c 1 t)))) (arg13.view.readAt (Elt Ideal) (Rect.unit (s := S2x640x128) (k0_off16 k) S1x384x128.size (k0_off16_inb k)).toLoadRect (arg13.view.writes (Elt Ideal) arg13.view.junk (L_arg13 (iblk m c 1 t)))) (arg10.view.readAt (Elt Ideal) (Rect.unit (s := S1x2x64x640) (k0_off17 k) S1x1x64x384.size (k0_off17_inb k)).toLoadRect (arg10.view.writes (Elt Ideal) arg10.view.junk (L_arg10 (iblk m c 2 t)))) (ix3 (0 : Fin 1) r l)
    = sO (xin m c) (kin m c) (vin m c) (bOf t) (hOf t k ⟨l.val / 64, by omega⟩) 384 (by decide) ⟨256 + r.val, by omega⟩ ⟨l.val % 64, by omega⟩ := by
  have hd : l.val % 64 < 64 := Nat.mod_lt _ (by decide)
  by_cases hl : l.val < 64
  · have el : (⟨(⟨l.val % 64, hd⟩ : Fin 64).val, by omega⟩ : Fin 128) = l := Fin.ext (by show l.val % 64 = l.val; omega)
    refine Eq.trans (congrArg (fun z : Fin 128 => ablk2 _ _ _ _ _ (ix3 (0 : Fin 1) r z)) el.symm) ?_
    refine (ablk2_lo _ _ r ⟨l.val % 64, hd⟩ _ _ _).trans ?_
    have er : hOf t k ⟨l.val / 64, by omega⟩ = hOf t k 0 := Fin.ext (by show 12 * (t.val % 4) + 2 * k.val + l.val / 64 = 12 * (t.val % 4) + 2 * k.val + 0; omega)
    rw [er]
    exact att_sO m c t k 0 (by decide) ⟨256 + r.val, by omega⟩ ⟨l.val % 64, hd⟩
      (fun u e => ld12 m c t (by decide) (kh k) arg12 _ (off15_eq k) (k0_off15_inb k) u e)
      (fun e => qcd0_val m c t arg2 harg2 k e _)
      (fun u => ld13 m c t (by decide) (kh k) arg13 _ (off16_eq k) (k0_off16_inb k) u r)
      ((qt0_apply _ _).trans (congrArg (· * _) (qsc0_val m c t arg2 harg2 k _)))
      (fun u => ld10 m c t (by decide) (kh k) arg10 _ (off17_eq k) (k0_off17_inb k) _ u)
      (((pay30_apply _ _).trans (ld14 m c t (kh k) arg14 _ (off6_eq k) (k0_off6_inb k) _)).trans
        (congrArg (sVS (vin m c) (bOf t) (jOf t (kh k))) (Fin.ext (by show l.val % 64 % 64 = l.val % 64; omega))))
  · have el : (⟨64 + (⟨l.val % 64, hd⟩ : Fin 64).val, by omega⟩ : Fin 128) = l := Fin.ext (by show 64 + l.val % 64 = l.val; omega)
    refine Eq.trans (congrArg (fun z : Fin 128 => ablk2 _ _ _ _ _ (ix3 (0 : Fin 1) r z)) el.symm) ?_
    refine (ablk2_hi _ _ r ⟨l.val % 64, hd⟩ _ _ _).trans ?_
    have er : hOf t k ⟨l.val / 64, by omega⟩ = hOf t k 1 := Fin.ext (by show 12 * (t.val % 4) + 2 * k.val + l.val / 64 = 12 * (t.val % 4) + 2 * k.val + 1; omega)
    rw [er]
    exact att_sO m c t k 1 (by decide) ⟨256 + r.val, by omega⟩ ⟨l.val % 64, hd⟩
      (fun u e => ld12 m c t (by decide) (kh k) arg12 _ (off15_eq k) (k0_off15_inb k) u e)
      (fun e => qcd1_val m c t arg2 harg2 k e _)
      (fun u => ld13 m c t (by decide) (kh k) arg13 _ (off16_eq k) (k0_off16_inb k) u r)
      ((qt1_apply _ _).trans (congrArg (· * _) (qsc1_val m c t arg2 harg2 k _)))
      (fun u => ld10 m c t (by decide) (kh k) arg10 _ (off17_eq k) (k0_off17_inb k) _ u)
      (((pay30_apply _ _).trans (ld14 m c t (kh k) arg14 _ (off6_eq k) (k0_off6_inb k) _)).trans
        (congrArg (sVS (vin m c) (bOf t) (jOf t (kh k))) (Fin.ext (by show (64 + l.val % 64) % 64 = l.val % 64; omega))))

theorem blk3_val : ablk3 (qld arg2 (harg2.unread (iblk m c 0 t)) k) (arg14.view.readAt (Elt Ideal) (Rect.unit (s := S2x1x128) (k0_off6 k) S1x1x128.size (k0_off6_inb k)).toLoadRect (arg14.view.writes (Elt Ideal) arg14.view.junk (L_arg14 (iblk m c 2 t)))) (arg12.view.readAt (Elt Ideal) (Rect.unit (s := S2x640x64) (k0_off19 k) S1x512x64.size (k0_off19_inb k)).toLoadRect (arg12.view.writes (Elt Ideal) arg12.view.junk (L_arg12 (iblk m c 1 t)))) (arg13.view.readAt (Elt Ideal) (Rect.unit (s := S2x640x128) (k0_off20 k) S1x512x128.size (k0_off20_inb k)).toLoadRect (arg13.view.writes (Elt Ideal) arg13.view.junk (L_arg13 (iblk m c 1 t)))) (arg10.view.readAt (Elt Ideal) (Rect.unit (s := S1x2x64x640) (k0_off21 k) S1x1x64x512.size (k0_off21_inb k)).toLoadRect (arg10.view.writes (Elt Ideal) arg10.view.junk (L_arg10 (iblk m c 2 t)))) (ix3 (0 : Fin 1) r l)
    = sO (xin m c) (kin m c) (vin m c) (bOf t) (hOf t k ⟨l.val / 64, by omega⟩) 512 (by decide) ⟨384 + r.val, by omega⟩ ⟨l.val % 64, by omega⟩ := by
  have hd : l.val % 64 < 64 := Nat.mod_lt _ (by decide)
  by_cases hl : l.val < 64
  · have el : (⟨(⟨l.val % 64, hd⟩ : Fin 64).val, by omega⟩ : Fin 128) = l := Fin.ext (by show l.val % 64 = l.val; omega)
    refine Eq.trans (congrArg (fun z : Fin 128 => ablk3 _ _ _ _ _ (ix3 (0 : Fin 1) r z)) el.symm) ?_
    refine (ablk3_lo _ _ r ⟨l.val % 64, hd⟩ _ _ _).trans ?_
    have er : hOf t k ⟨l.val / 64, by omega⟩ = hOf t k 0 := Fin.ext (by show 12 * (t.val % 4) + 2 * k.val + l.val / 64 = 12 * (t.val % 4) + 2 * k.val + 0; omega)
    rw [er]
    exact att_sO m c t k 0 (by decide) ⟨384 + r.val, by omega⟩ ⟨l.val % 64, hd⟩
      (fun u e => ld12 m c t (by decide) (kh k) arg12 _ (off19_eq k) (k0_off19_inb k) u e)
      (fun e => qcd0_val m c t arg2 harg2 k e _)
      (fun u => ld13 m c t (by decide) (kh k) arg13 _ (off20_eq k) (k0_off20_inb k) u r)
      ((qt0_apply _ _).trans (congrArg (· * _) (qsc0_val m c t arg2 harg2 k _)))
      (fun u => ld10 m c t (by decide) (kh k) arg10 _ (off21_eq k) (k0_off21_inb k) _ u)
      (((pay30_apply _ _).trans (ld14 m c t (kh k) arg14 _ (off6_eq k) (k0_off6_inb k) _)).trans
        (congrArg (sVS (vin m c) (bOf t) (jOf t (kh k))) (Fin.ext (by show l.val % 64 % 64 = l.val % 64; omega))))
  · have el : (⟨64 + (⟨l.val % 64, hd⟩ : Fin 64).val, by omega⟩ : Fin 128) = l := Fin.ext (by show 64 + l.val % 64 = l.val; omega)
    refine Eq.trans (congrArg (fun z : Fin 128 => ablk3 _ _ _ _ _ (ix3 (0 : Fin 1) r z)) el.symm) ?_
    refine (ablk3_hi _ _ r ⟨l.val % 64, hd⟩ _ _ _).trans ?_
    have er : hOf t k ⟨l.val / 64, by omega⟩ = hOf t k 1 := Fin.ext (by show 12 * (t.val % 4) + 2 * k.val + l.val / 64 = 12 * (t.val % 4) + 2 * k.val + 1; omega)
    rw [er]
    exact att_sO m c t k 1 (by decide) ⟨384 + r.val, by omega⟩ ⟨l.val % 64, hd⟩
      (fun u e => ld12 m c t (by decide) (kh k) arg12 _ (off19_eq k) (k0_off19_inb k) u e)
      (fun e => qcd1_val m c t arg2 harg2 k e _)
      (fun u => ld13 m c t (by decide) (kh k) arg13 _ (off20_eq k) (k0_off20_inb k) u r)
      ((qt1_apply _ _).trans (congrArg (· * _) (qsc1_val m c t arg2 harg2 k _)))
      (fun u => ld10 m c t (by decide) (kh k) arg10 _ (off21_eq k) (k0_off21_inb k) _ u)
      (((pay30_apply _ _).trans (ld14 m c t (kh k) arg14 _ (off6_eq k) (k0_off6_inb k) _)).trans
        (congrArg (sVS (vin m c) (bOf t) (jOf t (kh k))) (Fin.ext (by show (64 + l.val % 64) % 64 = l.val % 64; omega))))

theorem blk4_val : ablk4 (qld arg2 (harg2.unread (iblk m c 0 t)) k) (arg14.view.readAt (Elt Ideal) (Rect.unit (s := S2x1x128) (k0_off6 k) S1x1x128.size (k0_off6_inb k)).toLoadRect (arg14.view.writes (Elt Ideal) arg14.view.junk (L_arg14 (iblk m c 2 t)))) (arg12.view.readAt (Elt Ideal) (Rect.unit (s := S2x640x64) (k0_off23 k) S1x640x64.size (k0_off23_inb k)).toLoadRect (arg12.view.writes (Elt Ideal) arg12.view.junk (L_arg12 (iblk m c 1 t)))) (arg13.view.readAt (Elt Ideal) (Rect.unit (s := S2x640x128) (k0_off24 k) S1x640x128.size (k0_off24_inb k)).toLoadRect (arg13.view.writes (Elt Ideal) arg13.view.junk (L_arg13 (iblk m c 1 t)))) (arg10.view.readAt (Elt Ideal) (Rect.unit (s := S1x2x64x640) (k0_off25 k) S1x1x64x640.size (k0_off25_inb k)).toLoadRect (arg10.view.writes (Elt Ideal) arg10.view.junk (L_arg10 (iblk m c 2 t)))) (ix3 (0 : Fin 1) r l)
    = sO (xin m c) (kin m c) (vin m c) (bOf t) (hOf t k ⟨l.val / 64, by omega⟩) 640 (by decide) ⟨512 + r.val, by omega⟩ ⟨l.val % 64, by omega⟩ := by
  have hd : l.val % 64 < 64 := Nat.mod_lt _ (by decide)
  by_cases hl : l.val < 64
  · have el : (⟨(⟨l.val % 64, hd⟩ : Fin 64).val, by omega⟩ : Fin 128) = l := Fin.ext (by show l.val % 64 = l.val; omega)
    refine Eq.trans (congrArg (fun z : Fin 128 => ablk4 _ _ _ _ _ (ix3 (0 : Fin 1) r z)) el.symm) ?_
    refine (ablk4_lo _ _ r ⟨l.val % 64, hd⟩ _ _ _).trans ?_
    have er : hOf t k ⟨l.val / 64, by omega⟩ = hOf t k 0 := Fin.ext (by show 12 * (t.val % 4) + 2 * k.val + l.val / 64 = 12 * (t.val % 4) + 2 * k.val + 0; omega)
    rw [er]
    exact att_sO m c t k 0 (by decide) ⟨512 + r.val, by omega⟩ ⟨l.val % 64, hd⟩
      (fun u e => ld12 m c t (by decide) (kh k) arg12 _ (off23_eq k) (k0_off23_inb k) u e)
      (fun e => qcd0_val m c t arg2 harg2 k e _)
      (fun u => ld13 m c t (by decide) (kh k) arg13 _ (off24_eq k) (k0_off24_inb k) u r)
      ((qt0_apply _ _).trans (congrArg (· * _) (qsc0_val m c t arg2 harg2 k _)))
      (fun u => ld10 m c t (by decide) (kh k) arg10 _ (off25_eq k) (k0_off25_inb k) _ u)
      (((pay30_apply _ _).trans (ld14 m c t (kh k) arg14 _ (off6_eq k) (k0_off6_inb k) _)).trans
        (congrArg (sVS (vin m c) (bOf t) (jOf t (kh k))) (Fin.ext (by show l.val % 64 % 64 = l.val % 64; omega))))
  · have el : (⟨64 + (⟨l.val % 64, hd⟩ : Fin 64).val, by omega⟩ : Fin 128) = l := Fin.ext (by show 64 + l.val % 64 = l.val; omega)
    refine Eq.trans (congrArg (fun z : Fin 128 => ablk4 _ _ _ _ _ (ix3 (0 : Fin 1) r z)) el.symm) ?_
    refine (ablk4_hi _ _ r ⟨l.val % 64, hd⟩ _ _ _).trans ?_
    have er : hOf t k ⟨l.val / 64, by omega⟩ = hOf t k 1 := Fin.ext (by show 12 * (t.val % 4) + 2 * k.val + l.val / 64 = 12 * (t.val % 4) + 2 * k.val + 1; omega)
    rw [er]
    exact att_sO m c t k 1 (by decide) ⟨512 + r.val, by omega⟩ ⟨l.val % 64, hd⟩
      (fun u e => ld12 m c t (by decide) (kh k) arg12 _ (off23_eq k) (k0_off23_inb k) u e)
      (fun e => qcd1_val m c t arg2 harg2 k e _)
      (fun u => ld13 m c t (by decide) (kh k) arg13 _ (off24_eq k) (k0_off24_inb k) u r)
      ((qt1_apply _ _).trans (congrArg (· * _) (qsc1_val m c t arg2 harg2 k _)))
      (fun u => ld10 m c t (by decide) (kh k) arg10 _ (off25_eq k) (k0_off25_inb k) _ u)
      (((pay30_apply _ _).trans (ld14 m c t (kh k) arg14 _ (off6_eq k) (k0_off6_inb k) _)).trans
        (congrArg (sVS (vin m c) (bOf t) (jOf t (kh k))) (Fin.ext (by show (64 + l.val % 64) % 64 = l.val % 64; omega))))

end

/-- The attention output of the point, by row and lane. -/
def outO : S1x640x768.Idx → EReal := fun y =>
  sO (xin m c) (kin m c) (vin m c) (bOf t) ⟨12 * (t.val % 4) + (y 2).val / 64, by have : (y 2).val < 768 := (y 2).isLt; omega⟩
    (128 * ((y 1).val / 128 + 1)) (by have : (y 1).val < 640 := (y 1).isLt; omega) (y 1) ⟨(y 2).val % 64, Nat.mod_lt _ (by decide)⟩

theorem outO_eq (k : Fin k0_t1_loop.trips) (b : ℕ) (r l : Fin 128) (h₁ : 128 * b + r.val < 640) (h₂ : 128 * k.val + l.val < 768)
    (h₃ : 128 * (b + 1) ≤ 640) (h₄ : l.val / 64 < 2) (h₅ : l.val % 64 < 64) :
    outO m c t (ix3 (n0 := 1) 0 ⟨128 * b + r.val, h₁⟩ ⟨128 * k.val + l.val, h₂⟩)
      = sO (xin m c) (kin m c) (vin m c) (bOf t) (hOf t k ⟨l.val / 64, h₄⟩) (128 * (b + 1)) h₃ ⟨128 * b + r.val, h₁⟩ ⟨l.val % 64, h₅⟩ := by
  refine sO_congr ?_ ?_ rfl ?_
  · show 12 * (t.val % 4) + (128 * k.val + l.val) / 64 = 12 * (t.val % 4) + 2 * k.val + l.val / 64
    omega
  · show 128 * ((128 * b + r.val) / 128 + 1) = 128 * (b + 1)
    omega
  · show (128 * k.val + l.val) % 64 = l.val % 64
    omega

theorem leaf3 (arg2 : Memref sig .tc .vmem S1x640x768 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x640x768 .bf16) (harg5 : arg5.IsWhole) (arg6 : Memref sig .tc .vmem S1x12x64x640 .fp8e4m3) (harg6 : arg6.IsWhole) (arg7 : Memref sig .tc .vmem S1x48x640 .f32) (harg7 : arg7.IsWhole) (arg8 : Memref sig .tc .vmem S1x2x64x640 .fp8e4m3) (harg8 : arg8.IsWhole) (arg9 : Memref sig .tc .vmem S1x8x640 .f32) (harg9 : arg9.IsWhole) (arg10 : Memref sig .tc .vmem S1x2x64x640 .fp8e4m3) (harg10 : arg10.IsWhole) (arg11 : Memref sig .tc .vmem S1x8x64 .f32) (harg11 : arg11.IsWhole) (arg12 : Memref sig .tc .vmem S2x640x64 .fp8e4m3) (harg12 : arg12.IsWhole) (arg13 : Memref sig .tc .vmem S2x640x128 .f32) (harg13 : arg13.IsWhole) (arg14 : Memref sig .tc .vmem S2x1x128 .f32) (harg14 : arg14.IsWhole) (d X : Vec Ideal S1x640x768 .bf16)
    (h : Left arg5 d (pb_k0_t1 (F := Ideal) Variants.none c none (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) 6).1 X) : P3 (xin m c) (kin m c) (vin m c) t X := by
  obtain ⟨f, rfl, -⟩ := h
  intro s e
  refine View.read_writes_apply_of_pieces arg5.view f (outO m c t) _ ?_ (ix3 0 s e) ?_
  · refine pb_all5 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) (fun p => ∀ x, p.2 x = outO m c t (p.1.emb x)) ?_ 6 (Nat.le_refl _)
    intro k
    have hk := trip_lt k
    rw [trip_arg5]
    refine List.forall_mem_cons.2 ⟨?_, List.forall_mem_cons.2 ⟨?_, List.forall_mem_cons.2 ⟨?_, List.forall_mem_cons.2 ⟨?_, List.forall_mem_singleton.2 ?_⟩⟩⟩⟩
    · exact pieceO 512 (128 * k.val) (by decide) (by omega) _ (k0_off26_eq k) (k0_off26_inb k) _ (outO m c t) fun r l => (blk4_val m c t k arg2 harg2 arg10 arg12 arg13 arg14 r l).trans (outO_eq m c t k 4 r l _ _ _ _ _).symm
    · exact pieceO 384 (128 * k.val) (by decide) (by omega) _ (k0_off22_eq k) (k0_off22_inb k) _ (outO m c t) fun r l => (blk3_val m c t k arg2 harg2 arg10 arg12 arg13 arg14 r l).trans (outO_eq m c t k 3 r l _ _ _ _ _).symm
    · exact pieceO 256 (128 * k.val) (by decide) (by omega) _ (k0_off18_eq k) (k0_off18_inb k) _ (outO m c t) fun r l => (blk2_val m c t k arg2 harg2 arg10 arg12 arg13 arg14 r l).trans (outO_eq m c t k 2 r l _ _ _ _ _).symm
    · exact pieceO 128 (128 * k.val) (by decide) (by omega) _ (k0_off14_eq k) (k0_off14_inb k) _ (outO m c t) fun r l => (blk1_val m c t k arg2 harg2 arg10 arg12 arg13 arg14 r l).trans (outO_eq m c t k 1 r l _ _ _ _ _).symm
    · exact pieceO 0 (128 * k.val) (by decide) (by omega) _ (k0_off10_eq k) (k0_off10_inb k) _ (outO m c t) fun r l => (blk0_val m c t k arg2 harg2 arg10 arg12 arg13 arg14 r l).trans (outO_eq m c t k 0 r l _ _ _ _ _).symm
  · have hk : e.val / 128 < k0_t1_loop.trips := lt_of_lt_of_eq (by omega) trips6.symm
    have hs : s.val / 128 = 4 ∨ s.val / 128 = 3 ∨ s.val / 128 = 2 ∨ s.val / 128 = 1 ∨ s.val / 128 = 0 := by omega
    rcases hs with hs | hs | hs | hs | hs
    · refine ⟨_, pb_sub5 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨e.val / 128, hk⟩ _ (by rw [trip_arg5]; exact List.mem_cons_self) 6 (by show e.val / 128 < 6; omega) (Nat.le_refl _), ?_⟩
      exact memO 512 (128 * (e.val / 128)) _ (k0_off26_eq ⟨e.val / 128, hk⟩) (k0_off26_inb _) s e (by omega) (by omega)
    · refine ⟨_, pb_sub5 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨e.val / 128, hk⟩ _ (by rw [trip_arg5]; exact List.mem_cons_of_mem _ (List.mem_cons_self)) 6 (by show e.val / 128 < 6; omega) (Nat.le_refl _), ?_⟩
      exact memO 384 (128 * (e.val / 128)) _ (k0_off22_eq ⟨e.val / 128, hk⟩) (k0_off22_inb _) s e (by omega) (by omega)
    · refine ⟨_, pb_sub5 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨e.val / 128, hk⟩ _ (by rw [trip_arg5]; exact List.mem_cons_of_mem _ (List.mem_cons_of_mem _ (List.mem_cons_self))) 6 (by show e.val / 128 < 6; omega) (Nat.le_refl _), ?_⟩
      exact memO 256 (128 * (e.val / 128)) _ (k0_off18_eq ⟨e.val / 128, hk⟩) (k0_off18_inb _) s e (by omega) (by omega)
    · refine ⟨_, pb_sub5 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨e.val / 128, hk⟩ _ (by rw [trip_arg5]; exact List.mem_cons_of_mem _ (List.mem_cons_of_mem _ (List.mem_cons_of_mem _ (List.mem_cons_self)))) 6 (by show e.val / 128 < 6; omega) (Nat.le_refl _), ?_⟩
      exact memO 128 (128 * (e.val / 128)) _ (k0_off14_eq ⟨e.val / 128, hk⟩) (k0_off14_inb _) s e (by omega) (by omega)
    · refine ⟨_, pb_sub5 c (grid0.coords t) arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 1).val) (harg2.unread (iblk m c 0 t)) (arg10.view.writes (Elt Ideal) arg10.view.junk (L_arg10 (iblk m c 2 t))) (arg12.view.writes (Elt Ideal) arg12.view.junk (L_arg12 (iblk m c 1 t))) (arg13.view.writes (Elt Ideal) arg13.view.junk (L_arg13 (iblk m c 1 t))) (arg14.view.writes (Elt Ideal) arg14.view.junk (L_arg14 (iblk m c 2 t))) ⟨e.val / 128, hk⟩ _ (by rw [trip_arg5]; exact List.mem_cons_of_mem _ (List.mem_cons_of_mem _ (List.mem_cons_of_mem _ (List.mem_cons_of_mem _ (List.mem_cons_self))))) 6 (by show e.val / 128 < 6; omega) (Nat.le_refl _), ?_⟩
      exact memO 0 (128 * (e.val / 128)) _ (k0_off10_eq ⟨e.val / 128, hk⟩) (k0_off10_inb _) s e (by omega) (by omega)

end Cert.KernelIdeal.Gen

end
-- ==== Proof.Spine.lean ====
/- The kernel's run: what each grid point leaves in every result's staging buffer is the block of the array that the
   specification names (for the three scale results, whose block four grid points fill in turn, the rows written so far),
   so the arrays at the end are the specification's. -/
module

public import proofs.«01_k».proof.Proof.Leaves
public import proofs.«01_k».proof.Proof.Gen.KernelIdeal.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Window 0's current staging memref at point `t`, as the pipeline passes it. -/
abbrev ms0_0 (t : Fin cfg0.N) : Memref sig .tc .vmem S1x640x768 .bf16 := win0_0.stage (cfg0.slots t 0)
/-- It is a whole buffer. -/
abbrev hs0_0 (t : Fin cfg0.N) : (ms0_0 t).IsWhole := hstage0_0 ((cfg0.slots t 0).cast nbuf0_0)
/-- Window 1's current staging memref at point `t`, as the pipeline passes it. -/
abbrev ms0_1 (t : Fin cfg0.N) : Memref sig .tc .vmem S1x640x128 .bf16 := win0_1.stage (cfg0.slots t 1)
/-- It is a whole buffer. -/
abbrev hs0_1 (t : Fin cfg0.N) : (ms0_1 t).IsWhole := hstage0_1 ((cfg0.slots t 1).cast nbuf0_1)
/-- Window 2's current staging memref at point `t`, as the pipeline passes it. -/
abbrev ms0_2 (t : Fin cfg0.N) : Memref sig .tc .vmem S1x640x128 .bf16 := win0_2.stage (cfg0.slots t 2)
/-- It is a whole buffer. -/
abbrev hs0_2 (t : Fin cfg0.N) : (ms0_2 t).IsWhole := hstage0_2 ((cfg0.slots t 2).cast nbuf0_2)
/-- Window 3's current staging memref at point `t`, as the pipeline passes it. -/
abbrev ms0_3 (t : Fin cfg0.N) : Memref sig .tc .vmem S1x640x768 .bf16 := win0_3.stage (cfg0.slots t 3)
/-- It is a whole buffer. -/
abbrev hs0_3 (t : Fin cfg0.N) : (ms0_3 t).IsWhole := hstage0_3 ((cfg0.slots t 3).cast nbuf0_3)
/-- Window 4's current staging memref at point `t`, as the pipeline passes it. -/
abbrev ms0_4 (t : Fin cfg0.N) : Memref sig .tc .vmem S1x12x64x640 .fp8e4m3 := win0_4.stage (cfg0.slots t 4)
/-- It is a whole buffer. -/
abbrev hs0_4 (t : Fin cfg0.N) : (ms0_4 t).IsWhole := hstage0_4 ((cfg0.slots t 4).cast nbuf0_4)
/-- Window 5's current staging memref at point `t`, as the pipeline passes it. -/
abbrev ms0_5 (t : Fin cfg0.N) : Memref sig .tc .vmem S1x48x640 .f32 := win0_5.stage (cfg0.slots t 5)
/-- It is a whole buffer. -/
abbrev hs0_5 (t : Fin cfg0.N) : (ms0_5 t).IsWhole := hstage0_5 ((cfg0.slots t 5).cast nbuf0_5)
/-- Window 6's current staging memref at point `t`, as the pipeline passes it. -/
abbrev ms0_6 (t : Fin cfg0.N) : Memref sig .tc .vmem S1x2x64x640 .fp8e4m3 := win0_6.stage (cfg0.slots t 6)
/-- It is a whole buffer. -/
abbrev hs0_6 (t : Fin cfg0.N) : (ms0_6 t).IsWhole := hstage0_6 ((cfg0.slots t 6).cast nbuf0_6)
/-- Window 7's current staging memref at point `t`, as the pipeline passes it. -/
abbrev ms0_7 (t : Fin cfg0.N) : Memref sig .tc .vmem S1x8x640 .f32 := win0_7.stage (cfg0.slots t 7)
/-- It is a whole buffer. -/
abbrev hs0_7 (t : Fin cfg0.N) : (ms0_7 t).IsWhole := hstage0_7 ((cfg0.slots t 7).cast nbuf0_7)
/-- Window 8's current staging memref at point `t`, as the pipeline passes it. -/
abbrev ms0_8 (t : Fin cfg0.N) : Memref sig .tc .vmem S1x2x64x640 .fp8e4m3 := win0_8.stage (cfg0.slots t 8)
/-- It is a whole buffer. -/
abbrev hs0_8 (t : Fin cfg0.N) : (ms0_8 t).IsWhole := hstage0_8 ((cfg0.slots t 8).cast nbuf0_8)
/-- Window 9's current staging memref at point `t`, as the pipeline passes it. -/
abbrev ms0_9 (t : Fin cfg0.N) : Memref sig .tc .vmem S1x8x64 .f32 := win0_9.stage (cfg0.slots t 9)
/-- It is a whole buffer. -/
abbrev hs0_9 (t : Fin cfg0.N) : (ms0_9 t).IsWhole := hstage0_9 ((cfg0.slots t 9).cast nbuf0_9)

/-- The scratch buffers, whole. -/
abbrev scM0_0 : Memref sig .tc .vmem S2x640x64 .fp8e4m3 := Memref.whole cc0_scratch0
/-- The scratch buffer of the key scales. -/
abbrev scM0_1 : Memref sig .tc .vmem S2x640x128 .f32 := Memref.whole cc0_scratch1
/-- The scratch buffer of the value scales. -/
abbrev scM0_2 : Memref sig .tc .vmem S2x1x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The pipeline's proof data -/

/-- The windows held to a predicate: the seven results. -/
def marks0 : Fin 10 → Bool := fun w => w.val == 3 || w.val == 4 || w.val == 5 || w.val == 6 || w.val == 7 || w.val == 8 || w.val == 9

/-- The proof data: the inputs at their blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- What each result's staging buffer is held to after the body at point `t`. -/
def Rl (c : Dev nD) (w : Fin cfg0.W) (t : Fin cfg0.N) (X : (cfg0.win w).block.Idx → Elt Ideal (cfg0.win w).elt) : Prop :=
  match w, X with
  | ⟨3, _⟩, X => P3 (xin m c) (kin m c) (vin m c) t X
  | ⟨4, _⟩, X => P4 (xin m c) (kin m c) (vin m c) t X
  | ⟨5, _⟩, X => P5 (xin m c) (kin m c) (vin m c) t X
  | ⟨6, _⟩, X => P6 (xin m c) (kin m c) (vin m c) t X
  | ⟨7, _⟩, X => P7 (xin m c) (kin m c) (vin m c) t X
  | ⟨8, _⟩, X => P8 (xin m c) (kin m c) (vin m c) t X
  | ⟨9, _⟩, X => P9 (xin m c) (kin m c) (vin m c) t X
  | _, _ => True

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The proof data with the results held to `Rl`. -/
abbrev rdat (c : Dev nD) : Pipeline.RDat τ (Elt Ideal) Unit ℕ (UR sig nD τ) ℕ cfg0 c := (dats m 0 c).toRRel marks0 (Rl m c)

/-- What the body finds in window 5 after a batch's first point is what the point before left. -/
theorem finds5 (c : Dev nD) (t : Fin cfg0.N) (Y : Vec Ideal S1x48x640 .f32) (h : (rdat m c).Finds 5 t Y) (ht : t.val % 4 ≠ 0) :
    P5 (xin m c) (kin m c) (vin m c) ⟨t.val - 1, Nat.lt_of_le_of_lt (Nat.sub_le _ _) t.isLt⟩ Y := by
  have h0 : t.val ≠ 0 := fun h => ht (by rw [h])
  rcases ((rdat m c).finds_of_pos (w := 5) rfl h0 Y).1 h with hf | hl
  · have := (flush0_5 _).1 hf
    simp only at this
    omega
  · exact (dats m 0 c).toRRel_leaves (w := 5) (fgt := marks0) rfl hl

/-- What the body finds in window 7 after a batch's first point is what the point before left. -/
theorem finds7 (c : Dev nD) (t : Fin cfg0.N) (Y : Vec Ideal S1x8x640 .f32) (h : (rdat m c).Finds 7 t Y) (ht : t.val % 4 ≠ 0) :
    P7 (xin m c) (kin m c) (vin m c) ⟨t.val - 1, Nat.lt_of_le_of_lt (Nat.sub_le _ _) t.isLt⟩ Y := by
  have h0 : t.val ≠ 0 := fun h => ht (by rw [h])
  rcases ((rdat m c).finds_of_pos (w := 7) rfl h0 Y).1 h with hf | hl
  · have := (flush0_7 _).1 hf
    simp only at this
    omega
  · exact (dats m 0 c).toRRel_leaves (w := 7) (fgt := marks0) rfl hl

/-- What the body finds in window 9 after a batch's first point is what the point before left. -/
theorem finds9 (c : Dev nD) (t : Fin cfg0.N) (Y : Vec Ideal S1x8x64 .f32) (h : (rdat m c).Finds 9 t Y) (ht : t.val % 4 ≠ 0) :
    P9 (xin m c) (kin m c) (vin m c) ⟨t.val - 1, Nat.lt_of_le_of_lt (Nat.sub_le _ _) t.isLt⟩ Y := by
  have h0 : t.val ≠ 0 := fun h => ht (by rw [h])
  rcases ((rdat m c).finds_of_pos (w := 9) rfl h0 Y).1 h with hf | hl
  · have := (flush0_9 _).1 hf
    simp only at this
    omega
  · exact (dats m 0 c).toRRel_leaves (w := 9) (fgt := marks0) rfl hl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜P3 (xin m c) (kin m c) (vin m c) t X⌝ ∗ owns (c : Thread nD τ) (ms0_3 t) fullShare X)
    ∗ (∃ X, ⌜P4 (xin m c) (kin m c) (vin m c) t X⌝ ∗ owns (c : Thread nD τ) (ms0_4 t) fullShare X)
    ∗ (∃ X, ⌜P5 (xin m c) (kin m c) (vin m c) t X⌝ ∗ owns (c : Thread nD τ) (ms0_5 t) fullShare X)
    ∗ (∃ X, ⌜P6 (xin m c) (kin m c) (vin m c) t X⌝ ∗ owns (c : Thread nD τ) (ms0_6 t) fullShare X)
    ∗ (∃ X, ⌜P7 (xin m c) (kin m c) (vin m c) t X⌝ ∗ owns (c : Thread nD τ) (ms0_7 t) fullShare X)
    ∗ (∃ X, ⌜P8 (xin m c) (kin m c) (vin m c) t X⌝ ∗ owns (c : Thread nD τ) (ms0_8 t) fullShare X)
    ∗ (∃ X, ⌜P9 (xin m c) (kin m c) (vin m c) t X⌝ ∗ owns (c : Thread nD τ) (ms0_9 t) fullShare X))

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, %h3, H3⟩, ⟨%d4, %h4, H4⟩, ⟨%d5, %h5, H5⟩, ⟨%d6, %h6, H6⟩, ⟨%d7, %h7, H7⟩, ⟨%d8, %h8, H8⟩, ⟨%d9, %h9, H9⟩⟩
  iapply (bodyRun c (grid0.coords t) _ _ _ _ _ _ _ _ _ _ _ _ _ _ _ _ _ _ _ _ _ _ _ _ _ _ (iblk m c 0 t) (iblk m c 1 t) (iblk m c 2 t) d3 d4 d5 d6 d7 d8 d9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, ⟨%X3, %g3, H3⟩, ⟨%X4, %g4, H4⟩, ⟨%X5, %g5, H5⟩, ⟨%X6, %g6, H6⟩, ⟨%X7, %g7, H7⟩, ⟨%X8, %g8, H8⟩, ⟨%X9, %g9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]
  · iexists X3; isplitr
    · ipureintro; exact leaf3 m c t _ _ _ _ _ _ _ _ _ _ _ _ _ _ _ _ _ _ _ _ _ _ _ _ _ _ d3 X3 g3
    · iexact H3
  isplitl [H4]
  · iexists X4; isplitr
    · ipureintro; exact leaf4 m c t _ _ _ _ _ _ _ _ _ _ _ _ _ _ _ _ _ _ _ _ _ _ _ _ _ _ d4 X4 g4
    · iexact H4
  isplitl [H5]
  · iexists X5; isplitr
    · ipureintro; exact leaf5 m c t _ _ _ _ _ _ _ _ _ _ _ _ _ _ _ _ _ _ _ _ _ _ _ _ _ _ d5 X5 g5 (finds5 m c t d5 h5)
    · iexact H5
  isplitl [H6]
  · iexists X6; isplitr
    · ipureintro; exact leaf6 m c t _ d6 X6 g6
    · iexact H6
  isplitl [H7]
  · iexists X7; isplitr
    · ipureintro; exact leaf7 m c t _ d7 X7 g7 (finds7 m c t d7 h7)
    · iexact H7
  isplitl [H8]
  · iexists X8; isplitr
    · ipureintro; exact leaf8 m c t _ d8 X8 g8
    · iexact H8
  iexists X9; isplitr
  · ipureintro; exact leaf9 m c t _ d9 X9 g9 (finds9 m c t d9 h9)
  · iexact H9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    Pipeline.BodyObligationRel (dats m 0 c) (defs₀ (F := Ideal)) Variants.none () Set.univ marks0 (Rl m c) := fun t => by
  rw [bigSep_W0, bigSep_W0, defs₀_row]
  exact triple_restated (sound_body m c t) rfl .rfl fun _ => .rfl

/-! ## The run -/

set_option backward.isDefEq.respectTransparency.types false in
/-- The launch. -/
theorem run_main_quiescent : θ_run defs (onTc (τ := τ) (main (F := Ideal))) (s₀ m ρ)
    (fun r => (Pipeline.RDat.FramePost (cfgs 0) (fun c => rdat m c) (V m)) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (hQ' := fun _ h => h)

end Cert.KernelIdeal.Gen

end
-- ==== Proof.Final.lean ====
module

public import proofs.«01_k».proof.Proof.Spine

@[expose] public section

set_option maxRecDepth 16384

noncomputable section

namespace Cert.KernelIdeal.Gen

open Idealize.ShloMosaic Idealize.ShloMosaic.TcCoe Cert.KernelIdeal Cert.Quant
open Idealize.ShloMosaic.Pipeline (Dat Cfg Window)

variable (m : (ℓ : Loc nD τ sig) → Buf (Elt Ideal) ℓ) (ρ : Dev nD → PrngReg) (c : Dev nD)

/-- Result 1, whole. -/
def A3 : Vec Ideal S3x640x3072 .bf16 := fun i => sO (xin m c) (kin m c) (vin m c) (i 0)
  ⟨(i 2).val / 64, by have h : (i 2).val < 3072 := (i 2).isLt; omega⟩ (128 * ((i 1).val / 128 + 1))
  (by have h : (i 1).val < 640 := (i 1).isLt; omega) (i 1) ⟨(i 2).val % 64, by omega⟩

/-- Result 2, whole. -/
def A4 : Vec Ideal S3x48x64x640 .fp8e4m3 := fun i => sQC (xin m c) (i 0) (i 1) (i 2) (i 3)

/-- Result 3, whole. -/
def A5 : Vec Ideal S3x48x640 .f32 := fun i => sQS (xin m c) (i 0) (i 1) (i 2)

/-- Result 4, whole. -/
def A6 : Vec Ideal S3x8x64x640 .fp8e4m3 := fun i => sKC (kin m c) (i 0) (i 1) (i 2) (i 3)

/-- Result 5, whole. -/
def A7 : Vec Ideal S3x8x640 .f32 := fun i => sKS (kin m c) (i 0) (i 1) (i 2)

/-- Result 6, whole. -/
def A8 : Vec Ideal S3x8x64x640 .fp8e4m3 := fun i => sVC (vin m c) (i 0) (i 1) (i 2) (i 3)

/-- Result 7, whole. -/
def A9 : Vec Ideal S3x8x64 .f32 := fun i => sVS (vin m c) (i 0) (i 1) (i 2)

theorem idx3 : ∀ t : Fin cfg0.N, win0_3.index t 0 = t.val / 4 ∧ win0_3.index t 1 = 0 ∧ win0_3.index t 2 = t.val % 4 := by decide +kernel
theorem idx4 : ∀ t : Fin cfg0.N, win0_4.index t 0 = t.val / 4 ∧ win0_4.index t 1 = t.val % 4 ∧ win0_4.index t 2 = 0 ∧ win0_4.index t 3 = 0 := by decide +kernel
theorem idx5 : ∀ t : Fin cfg0.N, win0_5.index t 0 = t.val / 4 ∧ win0_5.index t 1 = 0 ∧ win0_5.index t 2 = 0 := by decide +kernel
theorem idx6 : ∀ t : Fin cfg0.N, win0_6.index t 0 = t.val / 4 ∧ win0_6.index t 1 = t.val % 4 ∧ win0_6.index t 2 = 0 ∧ win0_6.index t 3 = 0 := by decide +kernel
theorem idx7 : ∀ t : Fin cfg0.N, win0_7.index t 0 = t.val / 4 ∧ win0_7.index t 1 = 0 ∧ win0_7.index t 2 = 0 := by decide +kernel
theorem idx8 : ∀ t : Fin cfg0.N, win0_8.index t 0 = t.val / 4 ∧ win0_8.index t 1 = t.val % 4 ∧ win0_8.index t 2 = 0 ∧ win0_8.index t 3 = 0 := by decide +kernel
theorem idx9 : ∀ t : Fin cfg0.N, win0_9.index t 0 = t.val / 4 ∧ win0_9.index t 1 = 0 ∧ win0_9.index t 2 = 0 := by decide +kernel

/-- The kernel leaves result 1 as `A3`. -/
theorem final3 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 3 cfg0.N = A3 m c := by
  refine ((rdat m c).withAfter after).arrAt_eq_of_covers 3 _ (by decide +kernel) fun t hf y => ?_
  have hP : P3 (xin m c) (kin m c) (vin m c) t (after 3 t) :=
    (dats m 0 c).toRRel_leaves (w := 3) (fgt := marks0) rfl (hL 3 t hf)
  have key : ∀ (p : Fin 640) (q : Fin 768) (i : S3x640x3072.Idx), (i 0).val = t.val / 4 → (i 1).val = p.val →
      (i 2).val = 768 * (t.val % 4) + q.val → after 3 t (ix3 0 p q) = A3 m c i := by
    intro p q i h0 h1 h2
    refine (hP p q).trans ?_
    unfold A3
    rw [show bOf t = i 0 from Fin.ext h0.symm]
    refine sO_congr ?_ ?_ h1.symm ?_
    · show 12 * (t.val % 4) + q.val / 64 = (i 2).val / 64
      omega
    · rw [h1]
    · show q.val % 64 = (i 2).val % 64
      omega
  obtain ⟨e0, e1, e2⟩ := idx3 t
  have hy : y = ix3 (n0 := 1) (n1 := 640) (n2 := 768) 0 (y 1) (y 2) := by
    refine (eq_ix3 (n0 := 1) (n1 := 640) (n2 := 768) y).trans ?_
    rw [show y 0 = (0 : Fin 1) from Subsingleton.elim (α := Fin 1) _ _]
  have hA := key (y 1) (y 2) ((win0_3.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega)
  rw [← hy] at hA
  exact hA

theorem final4 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 4 cfg0.N = A4 m c := by
  refine ((rdat m c).withAfter after).arrAt_eq_of_covers 4 _ (by decide +kernel) fun t hf y => ?_
  have hP : P4 (xin m c) (kin m c) (vin m c) t (after 4 t) :=
    (dats m 0 c).toRRel_leaves (w := 4) (fgt := marks0) rfl (hL 4 t hf)
  have key : ∀ (p : Fin 12) (q : Fin 64) (r : Fin 640) (i : S3x48x64x640.Idx), (i 0).val = t.val / 4 → (i 1).val = 12 * (t.val % 4) + p.val → (i 2).val = q.val → (i 3).val = r.val →
      after 4 t (ix4 0 p q r) = A4 m c i := by
    intro p q r i h0 h1 h2 h3
    refine (hP p q r).trans ?_
    unfold A4
    rw [show bOf t = i 0 from Fin.ext h0.symm, show (⟨12 * (t.val % 4) + p.val, by omega⟩ : Fin 48) = i 1 from Fin.ext h1.symm, show q = i 2 from Fin.ext h2.symm, show r = i 3 from Fin.ext h3.symm]
  obtain ⟨e0, e1, e2, e3⟩ := idx4 t
  have hy : y = ix4 (n0 := 1) (n1 := 12) (n2 := 64) (n3 := 640) 0 (y 1) (y 2) (y 3) := by
    refine (eq_ix4 (n0 := 1) (n1 := 12) (n2 := 64) (n3 := 640) y).trans ?_
    rw [show y 0 = (0 : Fin 1) from Subsingleton.elim (α := Fin 1) _ _]
  have hA := key (y 1) (y 2) (y 3) ((win0_4.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega) (by have hy0 : (y 0).val < 1 := (y 0).isLt; blk_simp [e3] <;> omega)
  rw [← hy] at hA
  exact hA

theorem final5 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 5 cfg0.N = A5 m c := by
  refine ((rdat m c).withAfter after).arrAt_eq_of_covers 5 _ (by decide +kernel) fun t hf y => ?_
  have hP : P5 (xin m c) (kin m c) (vin m c) t (after 5 t) :=
    (dats m 0 c).toRRel_leaves (w := 5) (fgt := marks0) rfl (hL 5 t hf)
  have key : ∀ (p : Fin 48) (q : Fin 640) (i : S3x48x640.Idx), (i 0).val = t.val / 4 → (i 1).val = p.val → (i 2).val = q.val →
      after 5 t (ix3 0 p q) = A5 m c i := by
    intro p q i h0 h1 h2
    have hf' := (flush0_5 t).1 hf
    refine (hP p q (by have := p.isLt; omega)).trans ?_
    unfold A5
    rw [show bOf t = i 0 from Fin.ext h0.symm, show p = i 1 from Fin.ext h1.symm, show q = i 2 from Fin.ext h2.symm]
  obtain ⟨e0, e1, e2⟩ := idx5 t
  have hy : y = ix3 (n0 := 1) (n1 := 48) (n2 := 640) 0 (y 1) (y 2) := by
    refine (eq_ix3 (n0 := 1) (n1 := 48) (n2 := 640) y).trans ?_
    rw [show y 0 = (0 : Fin 1) from Subsingleton.elim (α := Fin 1) _ _]
  have hA := key (y 1) (y 2) ((win0_5.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega)
  rw [← hy] at hA
  exact hA

theorem final6 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 6 cfg0.N = A6 m c := by
  refine ((rdat m c).withAfter after).arrAt_eq_of_covers 6 _ (by decide +kernel) fun t hf y => ?_
  have hP : P6 (xin m c) (kin m c) (vin m c) t (after 6 t) :=
    (dats m 0 c).toRRel_leaves (w := 6) (fgt := marks0) rfl (hL 6 t hf)
  have key : ∀ (p : Fin 2) (q : Fin 64) (r : Fin 640) (i : S3x8x64x640.Idx), (i 0).val = t.val / 4 → (i 1).val = 2 * (t.val % 4) + p.val → (i 2).val = q.val → (i 3).val = r.val →
      after 6 t (ix4 0 p q r) = A6 m c i := by
    intro p q r i h0 h1 h2 h3
    refine (hP p q r).trans ?_
    unfold A6
    rw [show bOf t = i 0 from Fin.ext h0.symm, show (⟨2 * (t.val % 4) + p.val, by omega⟩ : Fin 8) = i 1 from Fin.ext h1.symm, show q = i 2 from Fin.ext h2.symm, show r = i 3 from Fin.ext h3.symm]
  obtain ⟨e0, e1, e2, e3⟩ := idx6 t
  have hy : y = ix4 (n0 := 1) (n1 := 2) (n2 := 64) (n3 := 640) 0 (y 1) (y 2) (y 3) := by
    refine (eq_ix4 (n0 := 1) (n1 := 2) (n2 := 64) (n3 := 640) y).trans ?_
    rw [show y 0 = (0 : Fin 1) from Subsingleton.elim (α := Fin 1) _ _]
  have hA := key (y 1) (y 2) (y 3) ((win0_6.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega) (by have hy0 : (y 0).val < 1 := (y 0).isLt; blk_simp [e3] <;> omega)
  rw [← hy] at hA
  exact hA

theorem final7 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 7 cfg0.N = A7 m c := by
  refine ((rdat m c).withAfter after).arrAt_eq_of_covers 7 _ (by decide +kernel) fun t hf y => ?_
  have hP : P7 (xin m c) (kin m c) (vin m c) t (after 7 t) :=
    (dats m 0 c).toRRel_leaves (w := 7) (fgt := marks0) rfl (hL 7 t hf)
  have key : ∀ (p : Fin 8) (q : Fin 640) (i : S3x8x640.Idx), (i 0).val = t.val / 4 → (i 1).val = p.val → (i 2).val = q.val →
      after 7 t (ix3 0 p q) = A7 m c i := by
    intro p q i h0 h1 h2
    have hf' := (flush0_7 t).1 hf
    refine (hP p q (by have := p.isLt; omega)).trans ?_
    unfold A7
    rw [show bOf t = i 0 from Fin.ext h0.symm, show p = i 1 from Fin.ext h1.symm, show q = i 2 from Fin.ext h2.symm]
  obtain ⟨e0, e1, e2⟩ := idx7 t
  have hy : y = ix3 (n0 := 1) (n1 := 8) (n2 := 640) 0 (y 1) (y 2) := by
    refine (eq_ix3 (n0 := 1) (n1 := 8) (n2 := 640) y).trans ?_
    rw [show y 0 = (0 : Fin 1) from Subsingleton.elim (α := Fin 1) _ _]
  have hA := key (y 1) (y 2) ((win0_7.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega)
  rw [← hy] at hA
  exact hA

theorem final8 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 8 cfg0.N = A8 m c := by
  refine ((rdat m c).withAfter after).arrAt_eq_of_covers 8 _ (by decide +kernel) fun t hf y => ?_
  have hP : P8 (xin m c) (kin m c) (vin m c) t (after 8 t) :=
    (dats m 0 c).toRRel_leaves (w := 8) (fgt := marks0) rfl (hL 8 t hf)
  have key : ∀ (p : Fin 2) (q : Fin 64) (r : Fin 640) (i : S3x8x64x640.Idx), (i 0).val = t.val / 4 → (i 1).val = 2 * (t.val % 4) + p.val → (i 2).val = q.val → (i 3).val = r.val →
      after 8 t (ix4 0 p q r) = A8 m c i := by
    intro p q r i h0 h1 h2 h3
    refine (hP p q r).trans ?_
    unfold A8
    rw [show bOf t = i 0 from Fin.ext h0.symm, show (⟨2 * (t.val % 4) + p.val, by omega⟩ : Fin 8) = i 1 from Fin.ext h1.symm, show q = i 2 from Fin.ext h2.symm, show r = i 3 from Fin.ext h3.symm]
  obtain ⟨e0, e1, e2, e3⟩ := idx8 t
  have hy : y = ix4 (n0 := 1) (n1 := 2) (n2 := 64) (n3 := 640) 0 (y 1) (y 2) (y 3) := by
    refine (eq_ix4 (n0 := 1) (n1 := 2) (n2 := 64) (n3 := 640) y).trans ?_
    rw [show y 0 = (0 : Fin 1) from Subsingleton.elim (α := Fin 1) _ _]
  have hA := key (y 1) (y 2) (y 3) ((win0_8.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega) (by have hy0 : (y 0).val < 1 := (y 0).isLt; blk_simp [e3] <;> omega)
  rw [← hy] at hA
  exact hA

theorem final9 (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 9 cfg0.N = A9 m c := by
  refine ((rdat m c).withAfter after).arrAt_eq_of_covers 9 _ (by decide +kernel) fun t hf y => ?_
  have hP : P9 (xin m c) (kin m c) (vin m c) t (after 9 t) :=
    (dats m 0 c).toRRel_leaves (w := 9) (fgt := marks0) rfl (hL 9 t hf)
  have key : ∀ (p : Fin 8) (q : Fin 64) (i : S3x8x64.Idx), (i 0).val = t.val / 4 → (i 1).val = p.val → (i 2).val = q.val →
      after 9 t (ix3 0 p q) = A9 m c i := by
    intro p q i h0 h1 h2
    have hf' := (flush0_9 t).1 hf
    refine (hP p q (by have := p.isLt; omega)).trans ?_
    unfold A9
    rw [show bOf t = i 0 from Fin.ext h0.symm, show p = i 1 from Fin.ext h1.symm, show q = i 2 from Fin.ext h2.symm]
  obtain ⟨e0, e1, e2⟩ := idx9 t
  have hy : y = ix3 (n0 := 1) (n1 := 8) (n2 := 64) 0 (y 1) (y 2) := by
    refine (eq_ix3 (n0 := 1) (n1 := 8) (n2 := 64) y).trans ?_
    rw [show y 0 = (0 : Fin 1) from Subsingleton.elim (α := Fin 1) _ _]
  have hA := key (y 1) (y 2) ((win0_9.blk t).view.emb y) (by have hy0 : (y 0).val < 1 := (y 0).isLt; blk_simp [e0] <;> omega) (by have hy0 : (y 0).val < 1 := (y 0).isLt; blk_simp [e1] <;> omega) (by have hy0 : (y 0).val < 1 := (y 0).isLt; blk_simp [e2] <;> omega)
  rw [← hy] at hA
  exact hA

/-- THE RUN: at every final state the results are the specification's arrays, the arguments are as launched, and every
    counter is at zero. -/
theorem run_values : θ_run defs (onTc (τ := τ) (main (F := Ideal))) ⟨m, fun _ => 0, ρ⟩ (fun r => (∀ c : Dev nD,
      r.2.mem ((c.tc : Thread nD τ).loc main_v0_0) = A3 m c
      ∧ r.2.mem ((c.tc : Thread nD τ).loc main_v0_1) = A4 m c
      ∧ r.2.mem ((c.tc : Thread nD τ).loc main_v0_2) = A5 m c
      ∧ r.2.mem ((c.tc : Thread nD τ).loc main_v0_3) = A6 m c
      ∧ r.2.mem ((c.tc : Thread nD τ).loc main_v0_4) = A7 m c
      ∧ r.2.mem ((c.tc : Thread nD τ).loc main_v0_5) = A8 m c
      ∧ r.2.mem ((c.tc : Thread nD τ).loc main_v0_6) = A9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run_main_quiescent m ρ)
  obtain ⟨after, hL, hA⟩ := Pipeline.RDat.FramePost.exists_exact h.1 c
  exact ⟨(hA 3).trans (final3 m c after hL), (hA 4).trans (final4 m c after hL), (hA 5).trans (final5 m c after hL), (hA 6).trans (final6 m c after hL), (hA 7).trans (final7 m c after hL), (hA 8).trans (final8 m c after hL), (hA 9).trans (final9 m c after hL),
    (Pipeline.RDat.FramePost.arr_in h.1 c 0 rfl).trans (A_eq m c 0),
    (Pipeline.RDat.FramePost.arr_in h.1 c 1 rfl).trans (A_eq m c 1),
    (Pipeline.RDat.FramePost.arr_in h.1 c 2 rfl).trans (A_eq m c 2)⟩

end Cert.KernelIdeal.Gen

end
-- ==== Proof.RPay.lean ====
/- The reference's payloads at an index. -/
module

public import proofs.«01_k».proof.Proof.KPay
public import proofs.«01_k».proof.Proof.Gen.ReferenceIdeal.Frame
public import Idealize.ShloMosaic.Lib.Pointwise
public import Idealize.ShloMosaic.Lib.Claim
public import Idealize.ShloMosaic.Lib.Pipeline.ValueKit.Geometry

@[expose] public section

set_option maxRecDepth 16384

noncomputable section

namespace Cert.ReferenceIdeal.Gen

open Idealize.ShloMosaic Idealize.ShloMosaic.TcCoe Cert.ReferenceIdeal Cert.Quant
open Cert.KernelIdeal.Gen (amx code c448 cm448)

variable (m : (ℓ : Loc nD τ sig) → Buf (Elt Ideal) ℓ) (c : Dev nD)

theorem rnfp8 : Named.named (F := Ideal) κ "inv_fp8_max" (φ := .f32) 0x3B124925#32 = ((1 / 448 : ℝ) : EReal) := rfl
theorem rnln2 : Named.named (F := Ideal) κ "inv_ln2" (φ := .f32) 0x3FB8AA3B#32 = (((Real.log 2)⁻¹ : ℝ) : EReal) := rfl

theorem one32 : Ideal.ofBits .f32 0x3F800000#32 = 1 := by
  simp [Ideal.ofBits, Ideal.ieee, -EReal.coe_mul]
  norm_num
theorem zero32 : Ideal.ofBits .f32 0x00000000#32 = 0 := by
  simp [Ideal.ofBits, Ideal.ieee, -EReal.coe_mul]

/-- The exponent in the order the reference spells it. -/
theorem refE_def (r : EReal) :
    Scalar.select (FloatOps.cmpf (F := Ideal) (φ := .f32) .olt r (Ideal.ofBits .f32 0x00800000#32)) (Ideal.ofBits .f32 0x00000000#32)
      (Ideal.liftRound Int.floor (Ideal.log r * (((Real.log 2)⁻¹ : ℝ) : EReal)) + Ideal.ofBits .f32 0x3F800000#32) = refE r := by
  unfold refE
  rw [one32, zero32]
  by_cases h : r < Ideal.ofBits .f32 0x00800000#32
  · rw [if_pos h]
    have : FloatOps.cmpf (F := Ideal) (φ := .f32) .olt r (Ideal.ofBits .f32 0x00800000#32) = 1#1 := by
      show BitVec.ofBool _ = _
      simp [h]
    rw [this]; rfl
  · rw [if_neg h]
    have : FloatOps.cmpf (F := Ideal) (φ := .f32) .olt r (Ideal.ofBits .f32 0x00800000#32) = 0#1 := by
      show BitVec.ofBool _ = _
      simp [h]
    rw [this]; rfl

/-- The code by the inverse of a power of two, in the reference's order. -/
def rcode (v e : EReal) : EReal := min ((448 : ℝ) : EReal) (max ((-448 : ℝ) : EReal) (v * Ideal.exp2 (0 - e)))

/-- The exponent of every element, as the reference spells it over a vector. -/
theorem refE_vec {s : Shape} (R : FVec Ideal s .f32) (j : s.Idx) :
    select (cmpf .olt R (broadcast s (Scalar.ofBits .f32 0x00800000#32))) (broadcast s (Scalar.ofBits .f32 0x00000000#32))
      (addf (floor (mulf (log R) (broadcast s (Named.named κ "inv_ln2" 0x3FB8AA3B#32)))) (broadcast s (Scalar.ofBits .f32 0x3F800000#32))) j
      = refE (R j) := by
  rw [← refE_def]
  rfl

theorem pay2_apply (P : Vec Ideal S3x48x640x64 .bf16) (b : Fin 3) (h : Fin 48) (s : Fin 640) (d : Fin 64) :
    k0_pay2 P (ix4 b h s d) = P (ix4 b h s d) := by
  pointwise [k0_pay2]

theorem mulb {s : Shape} (L : FVec Ideal s .f32) (N : Ideal .f32) (j : s.Idx) (R : EReal) (h : L j = R) : mulf L (broadcast s N) j = R * N := by
  rw [← h]; rfl

theorem vmax48 (Q : FVec Ideal S3x48x640x64 .f32) (b : Fin 3) (h : Fin 48) (s : Fin 640) (R : EReal)
    (hR : Finset.univ.fold max (Ideal.ofBits .f32 0xFF800000#32) (fun d => Q (ix4 b h s d)) = R) :
    ((shapeCast S3x48x640x1 (multiReduction .maximumf [3] S3x48x640 Q 0xFF800000#32 reduces_S3x48x640x64_S3x48x640 (.inl rfl) rfl)
      shapeCasts_S3x48x640_S3x48x640x1) : FVec Ideal _ .f32) (ix4 b h s (0 : Fin 1))
      = R := by
  pointwise []
  exact hR

theorem vmax8 (Q : FVec Ideal S3x8x640x64 .f32) (b : Fin 3) (h : Fin 8) (s : Fin 640) (R : EReal)
    (hR : Finset.univ.fold max (Ideal.ofBits .f32 0xFF800000#32) (fun d => Q (ix4 b h s d)) = R) :
    ((shapeCast S3x8x640x1 (multiReduction .maximumf [3] S3x8x640 Q 0xFF800000#32 reduces_S3x8x640x64_S3x8x640 (.inl rfl) rfl)
      shapeCasts_S3x8x640_S3x8x640x1) : FVec Ideal _ .f32) (ix4 b h s (0 : Fin 1))
      = R := by
  pointwise []
  exact hR

theorem vmaxc (Q : FVec Ideal S3x8x640x64 .f32) (b : Fin 3) (h : Fin 8) (d : Fin 64) (R : EReal)
    (hR : Finset.univ.fold max (Ideal.ofBits .f32 0xFF800000#32) (fun s => Q (ix4 b h s d)) = R) :
    ((shapeCast S3x8x1x64 (multiReduction .maximumf [2] S3x8x64 Q 0xFF800000#32 reduces_S3x8x640x64_S3x8x64 (.inl rfl) rfl)
      shapeCasts_S3x8x64_S3x8x1x64) : FVec Ideal _ .f32) (ix4 b h (0 : Fin 1) d)
      = R := by
  pointwise []
  exact hR

theorem vcode48 (Q : FVec Ideal S3x48x640x64 .f32) (E : FVec Ideal S3x48x640x1 .f32) (z lo hi : Ideal .f32) (b : Fin 3) (h : Fin 48) (s : Fin 640) (d : Fin 64) :
    (minimumf (broadcast S3x48x640x64 hi) (maximumf (broadcast S3x48x640x64 lo)
      (mulf Q (broadcastTo S3x48x640x64 (exp2 (subf (broadcast S3x48x640x1 z) E)) broadcasts_S3x48x640x1_S3x48x640x64))) : FVec Ideal _ .f32) (ix4 b h s d)
      = min hi (max lo (Q (ix4 b h s d) * FloatOps.exp2 (F := Ideal) (φ := .f32) (z - E (ix4 b h s (0 : Fin 1))))) := by
  pointwise []

theorem vcode8 (Q : FVec Ideal S3x8x640x64 .f32) (E : FVec Ideal S3x8x640x1 .f32) (z lo hi : Ideal .f32) (b : Fin 3) (h : Fin 8) (s : Fin 640) (d : Fin 64) :
    (minimumf (broadcast S3x8x640x64 hi) (maximumf (broadcast S3x8x640x64 lo)
      (mulf Q (broadcastTo S3x8x640x64 (exp2 (subf (broadcast S3x8x640x1 z) E)) broadcasts_S3x8x640x1_S3x8x640x64))) : FVec Ideal _ .f32) (ix4 b h s d)
      = min hi (max lo (Q (ix4 b h s d) * FloatOps.exp2 (F := Ideal) (φ := .f32) (z - E (ix4 b h s (0 : Fin 1))))) := by
  pointwise []

theorem vsc48 (E : FVec Ideal S3x48x640x1 .f32) (b : Fin 3) (h : Fin 48) (s : Fin 640) :
    (shapeCast S3x48x640 (exp2 E) shapeCasts_S3x48x640x1_S3x48x640 : FVec Ideal _ .f32) (ix3 b h s) = Ideal.exp2 (E (ix4 b h s (0 : Fin 1))) := by
  pointwise []
  rfl

theorem vsc8 (E : FVec Ideal S3x8x640x1 .f32) (b : Fin 3) (h : Fin 8) (s : Fin 640) :
    (shapeCast S3x8x640 (exp2 E) shapeCasts_S3x8x640x1_S3x8x640 : FVec Ideal _ .f32) (ix3 b h s) = Ideal.exp2 (E (ix4 b h s (0 : Fin 1))) := by
  pointwise []
  rfl

theorem pay3_apply (P : Vec Ideal S3x48x640x64 .bf16) (b : Fin 3) (h : Fin 48) (s : Fin 640) :
    k0_pay3 P (ix4 b h s (0 : Fin 1)) = refE (amx fun d => P (ix4 b h s d)) := by
  refine (refE_vec _ _).trans (congrArg refE ?_)
  refine (mulb _ _ _ _ (vmax48 _ b h s _ rfl)).trans ?_
  unfold amx
  rw [← rnfp8]
  refine congrArg₂ (· * ·) (congrArg (fun f => Finset.univ.fold max (Ideal.ofBits .f32 0xFF800000#32) f) (funext fun d => ?_)) rfl
  show _ = max (P (ix4 b h s d)) (-P (ix4 b h s d))
  rw [← pay2_apply P]
  rfl

theorem pay4_apply (P : Vec Ideal S3x48x640x64 .bf16) (b : Fin 3) (h : Fin 48) (s : Fin 640) (d : Fin 64) :
    k0_pay4 P (ix4 b h s d) = rcode (P (ix4 b h s d)) (refE (amx fun d => P (ix4 b h s d))) := by
  refine Eq.trans ?_ (congrArg₂ rcode (pay2_apply P b h s d) (pay3_apply P b h s))
  refine (vcode48 (k0_pay2 P) (k0_pay3 P) _ _ _ b h s d).trans ?_
  unfold rcode
  rw [← c448, ← cm448, ← zero32]
  rfl

theorem pay5_apply (P : Vec Ideal S3x48x640x64 .bf16) (b : Fin 3) (h : Fin 48) (s : Fin 640) :
    k0_pay5 P (ix3 b h s) = Ideal.exp2 (refE (amx fun d => P (ix4 b h s d))) :=
  (vsc48 (k0_pay3 P) b h s).trans (congrArg Ideal.exp2 (pay3_apply P b h s))

theorem pay6_apply (P : Vec Ideal S3x8x640x64 .bf16) (b : Fin 3) (j : Fin 8) (s : Fin 640) (d : Fin 64) :
    k0_pay6 P (ix4 b j s d) = P (ix4 b j s d) - Ideal.div (∑ t : Fin 640, P (ix4 b j t d)) (Ideal.ofBits .f32 0x44200000#32) := by
  pointwise [k0_pay6]

theorem pay8_apply (W : FVec Ideal S3x8x640x64 .f32) (b : Fin 3) (j : Fin 8) (s : Fin 640) :
    k0_pay8 (absf W) (ix4 b j s (0 : Fin 1)) = refE (amx fun d => W (ix4 b j s d)) := by
  refine (refE_vec _ _).trans (congrArg refE ?_)
  refine (mulb _ _ _ _ (vmax8 _ b j s _ rfl)).trans ?_
  unfold amx
  rw [← rnfp8]
  rfl

theorem pay9_apply (W Z : FVec Ideal S3x8x640x64 .f32) (b : Fin 3) (j : Fin 8) (s : Fin 640) (d : Fin 64) :
    k0_pay9 W Z (ix4 b j s d) = rcode (W (ix4 b j s d)) (k0_pay8 Z (ix4 b j s (0 : Fin 1))) := by
  refine (vcode8 W (k0_pay8 Z) _ _ _ b j s d).trans ?_
  unfold rcode
  rw [← c448, ← cm448, ← zero32]
  rfl

theorem pay10_apply (Z : FVec Ideal S3x8x640x64 .f32) (b : Fin 3) (j : Fin 8) (s : Fin 640) :
    k0_pay10 Z (ix3 b j s) = Ideal.exp2 (k0_pay8 Z (ix4 b j s (0 : Fin 1))) :=
  vsc8 (k0_pay8 Z) b j s

theorem pay11_apply (P : Vec Ideal S3x8x640x64 .bf16) (b : Fin 3) (j : Fin 8) (s : Fin 640) (d : Fin 64) :
    k0_pay11 P (ix4 b j s d) = P (ix4 b j s d) := by
  pointwise [k0_pay11]

theorem pay12_apply (P : Vec Ideal S3x8x640x64 .bf16) (b : Fin 3) (j : Fin 8) (d : Fin 64) :
    k0_pay12 P (ix4 b j (0 : Fin 1) d) = amx fun s => P (ix4 b j s d) := by
  refine (mulb _ _ _ _ (vmaxc _ b j d _ rfl)).trans ?_
  unfold amx
  rw [← rnfp8]
  refine congrArg₂ (· * ·) (congrArg (fun f => Finset.univ.fold max (Ideal.ofBits .f32 0xFF800000#32) f) (funext fun s => ?_)) rfl
  show _ = max (P (ix4 b j s d)) (-P (ix4 b j s d))
  rw [← pay11_apply P]
  rfl

theorem pay15_apply (P : Vec Ideal S3x8x640x64 .bf16) (b : Fin 3) (j : Fin 8) (d : Fin 64) :
    k0_pay15 (k0_pay13 P) (k0_pay14 P) (Scalar.ofBits .f32 0x00000000#32) (ix4 b j (0 : Fin 1) d) = refE (amx fun s => P (ix4 b j s d)) := by
  rw [← pay12_apply]
  exact refE_vec (k0_pay12 P) _

theorem pay16_apply (W : FVec Ideal S3x8x640x64 .f32) (E : FVec Ideal S3x8x1x64 .f32) (B : IVec S3x8x1x64 1) (z : Ideal .f32)
    (b : Fin 3) (j : Fin 8) (s : Fin 640) (d : Fin 64) :
    k0_pay16 W E B z (ix4 b j s d) = rcode (W (ix4 b j s d)) (k0_pay15 E B z (ix4 b j (0 : Fin 1) d)) := by
  unfold rcode
  rw [← c448, ← cm448, ← zero32]
  pointwise [k0_pay16]
  rfl

theorem pay17_apply (E : FVec Ideal S3x8x1x64 .f32) (B : IVec S3x8x1x64 1) (z : Ideal .f32) (b : Fin 3) (j : Fin 8) (d : Fin 64) :
    k0_pay17 E B z (ix3 b j d) = Ideal.exp2 (k0_pay15 E B z (ix4 b j (0 : Fin 1) d)) := by
  pointwise [k0_pay17]
  rfl

theorem pay18_apply (W : FVec Ideal S3x48x640x64 .fp8e4m3) (b : Fin 3) (h : Fin 48) (d : Fin 64) (s : Fin 640) :
    k0_pay18 W (ix4 b h d s) = W (ix4 b h s d) := by
  pointwise [k0_pay18]

theorem pay19_apply (W : FVec Ideal S3x8x640x64 .fp8e4m3) (b : Fin 3) (h : Fin 8) (d : Fin 64) (s : Fin 640) :
    k0_pay19 W (ix4 b h d s) = W (ix4 b h s d) := by
  pointwise [k0_pay19]

theorem pay20_apply (W : FVec Ideal S3x8x640x64 .f32) (E : FVec Ideal S3x8x1x64 .f32) (B : IVec S3x8x1x64 1) (z : Ideal .f32)
    (b : Fin 3) (j : Fin 8) (d : Fin 64) (s : Fin 640) :
    k0_pay20 W E B z (ix4 b j d s) = k0_pay16 W E B z (ix4 b j s d) := by
  pointwise [k0_pay20]

theorem tr48 (X : Vec Ideal S3x640x3072 .bf16) (b : Fin 3) (h : Fin 48) (s : Fin 640) (d : Fin 64) :
    (transpose S3x48x640x64 [0, 2, 1, 3] (shapeCast S3x640x48x64 X shapeCasts_S3x640x3072_S3x640x48x64)
      transposes_S3x640x48x64_S3x48x640x64_0_2_1_3 : Vec Ideal S3x48x640x64 .bf16) (ix4 b h s d) = X (ix3 b s ⟨64 * h.val + d.val, by omega⟩) := by
  pointwise []
  exact congrArg X (congrArg (ix3 b s) (Fin.ext (by show h.val * 64 + d.val = 64 * h.val + d.val; omega)))

theorem tr8 (X : Vec Ideal S3x640x512 .bf16) (b : Fin 3) (h : Fin 8) (s : Fin 640) (d : Fin 64) :
    (transpose S3x8x640x64 [0, 2, 1, 3] (shapeCast S3x640x8x64 X shapeCasts_S3x640x512_S3x640x8x64)
      transposes_S3x640x8x64_S3x8x640x64_0_2_1_3 : Vec Ideal S3x8x640x64 .bf16) (ix4 b h s d) = X (ix3 b s ⟨64 * h.val + d.val, by omega⟩) := by
  pointwise []
  exact congrArg X (congrArg (ix3 b s) (Fin.ext (by show h.val * 64 + d.val = 64 * h.val + d.val; omega)))

/-- The queries as launched. -/
abbrev xin : Vec Ideal S3x640x3072 .bf16 := m ((c : Thread nD τ).loc main_arg0)
/-- The keys as launched. -/
abbrev kin : Vec Ideal S3x640x512 .bf16 := m ((c : Thread nD τ).loc main_arg1)
/-- The values as launched. -/
abbrev vin : Vec Ideal S3x640x512 .bf16 := m ((c : Thread nD τ).loc main_arg2)

theorem V0 : V m c main_v1 = (transpose S3x48x640x64 [0, 2, 1, 3] (shapeCast S3x640x48x64 (xin m c) shapeCasts_S3x640x3072_S3x640x48x64)
      transposes_S3x640x48x64_S3x48x640x64_0_2_1_3 : Vec Ideal S3x48x640x64 .bf16) := by
  entry_read
  rfl
theorem V1 : V m c main_v3 = (transpose S3x8x640x64 [0, 2, 1, 3] (shapeCast S3x640x8x64 (kin m c) shapeCasts_S3x640x512_S3x640x8x64)
      transposes_S3x640x8x64_S3x8x640x64_0_2_1_3 : Vec Ideal S3x8x640x64 .bf16) := by
  entry_read
  rfl
theorem V2 : V m c main_v5 = (transpose S3x8x640x64 [0, 2, 1, 3] (shapeCast S3x640x8x64 (vin m c) shapeCasts_S3x640x512_S3x640x8x64)
      transposes_S3x640x8x64_S3x8x640x64_0_2_1_3 : Vec Ideal S3x8x640x64 .bf16) := by
  entry_read
  rfl

theorem idx_0 : ∀ t : Fin cfg0.N, win0_0.index t 0 = 0 ∧ win0_0.index t 1 = 0 ∧ win0_0.index t 2 = 0 ∧ win0_0.index t 3 = 0 := by decide +kernel
theorem idx_1 : ∀ t : Fin cfg0.N, win0_1.index t 0 = 0 ∧ win0_1.index t 1 = 0 ∧ win0_1.index t 2 = 0 ∧ win0_1.index t 3 = 0 := by decide +kernel
theorem idx_2 : ∀ t : Fin cfg0.N, win0_2.index t 0 = 0 ∧ win0_2.index t 1 = 0 ∧ win0_2.index t 2 = 0 ∧ win0_2.index t 3 = 0 := by decide +kernel

theorem blk0 (t : Fin cfg0.N) (b : Fin 3) (h : Fin 48) (s : Fin 640) (d : Fin 64) :
    iblk m c 0 t (ix4 b h s d) = xin m c (ix3 b s ⟨64 * h.val + d.val, by omega⟩) := by
  obtain ⟨e0, e1, e2, e3⟩ := idx_0 t
  refine (show iblk m c 0 t (ix4 b h s d) = V m c main_v1 ((win0_0.blk t).view.emb (ix4 b h s d)) from rfl).trans ?_
  rw [V0]
  refine (congrArg _ (funext fun a => Fin.ext ?_)).trans (tr48 (xin m c) b h s d)
  match a with
  | ⟨0, _⟩ => show _ = b.val; blk_simp [e0]
  | ⟨1, _⟩ => show _ = h.val; blk_simp [e1]
  | ⟨2, _⟩ => show _ = s.val; blk_simp [e2]
  | ⟨3, _⟩ => show _ = d.val; blk_simp [e3]

theorem blk1 (t : Fin cfg0.N) (b : Fin 3) (h : Fin 8) (s : Fin 640) (d : Fin 64) :
    iblk m c 1 t (ix4 b h s d) = kin m c (ix3 b s ⟨64 * h.val + d.val, by omega⟩) := by
  obtain ⟨e0, e1, e2, e3⟩ := idx_1 t
  refine (show iblk m c 1 t (ix4 b h s d) = V m c main_v3 ((win0_1.blk t).view.emb (ix4 b h s d)) from rfl).trans ?_
  rw [V1]
  refine (congrArg _ (funext fun a => Fin.ext ?_)).trans (tr8 (kin m c) b h s d)
  match a with
  | ⟨0, _⟩ => show _ = b.val; blk_simp [e0]
  | ⟨1, _⟩ => show _ = h.val; blk_simp [e1]
  | ⟨2, _⟩ => show _ = s.val; blk_simp [e2]
  | ⟨3, _⟩ => show _ = d.val; blk_simp [e3]

theorem blk2 (t : Fin cfg0.N) (b : Fin 3) (h : Fin 8) (s : Fin 640) (d : Fin 64) :
    iblk m c 2 t (ix4 b h s d) = vin m c (ix3 b s ⟨64 * h.val + d.val, by omega⟩) := by
  obtain ⟨e0, e1, e2, e3⟩ := idx_2 t
  refine (show iblk m c 2 t (ix4 b h s d) = V m c main_v5 ((win0_2.blk t).view.emb (ix4 b h s d)) from rfl).trans ?_
  rw [V2]
  refine (congrArg _ (funext fun a => Fin.ext ?_)).trans (tr8 (vin m c) b h s d)
  match a with
  | ⟨0, _⟩ => show _ = b.val; blk_simp [e0]
  | ⟨1, _⟩ => show _ = h.val; blk_simp [e1]
  | ⟨2, _⟩ => show _ = s.val; blk_simp [e2]
  | ⟨3, _⟩ => show _ = d.val; blk_simp [e3]

end Cert.ReferenceIdeal.Gen

end
-- ==== Proof.RVal.lean ====
/- The reference's results as functions of its arguments. -/
module

public import proofs.«01_k».proof.Proof.RPay
public import proofs.«01_k».proof.Proof.Spec
public import proofs.«01_k».proof.Proof.Gen.ReferenceIdeal.Value

@[expose] public section

set_option maxRecDepth 16384

noncomputable section

namespace Cert.ReferenceIdeal.Gen

open Idealize.ShloMosaic Idealize.ShloMosaic.TcCoe Cert.ReferenceIdeal Cert.Quant
open Cert.KernelIdeal.Gen (amx code qrow krow vcol)

variable (m : (ℓ : Loc nD τ sig) → Buf (Elt Ideal) ℓ) (c : Dev nD)

/-- The query codes. -/
def rQC (x : Vec Ideal S3x640x3072 .bf16) (b : Fin 3) (h : Fin 48) (d : Fin 64) (s : Fin 640) : EReal :=
  rcode (qrow x b h s d) (refE (amx (qrow x b h s)))
/-- The query scales. -/
def rQS (x : Vec Ideal S3x640x3072 .bf16) (b : Fin 3) (h : Fin 48) (s : Fin 640) : EReal := Ideal.exp2 (refE (amx (qrow x b h s)))
/-- The key codes. -/
def rKC (k : Vec Ideal S3x640x512 .bf16) (b : Fin 3) (j : Fin 8) (d : Fin 64) (s : Fin 640) : EReal :=
  rcode (krow k b j s d) (refE (amx (krow k b j s)))
/-- The key scales. -/
def rKS (k : Vec Ideal S3x640x512 .bf16) (b : Fin 3) (j : Fin 8) (s : Fin 640) : EReal := Ideal.exp2 (refE (amx (krow k b j s)))
/-- The value codes. -/
def rVC (v : Vec Ideal S3x640x512 .bf16) (b : Fin 3) (j : Fin 8) (d : Fin 64) (s : Fin 640) : EReal :=
  rcode (vcol v b j d s) (refE (amx (vcol v b j d)))
/-- The value scales. -/
def rVS (v : Vec Ideal S3x640x512 .bf16) (b : Fin 3) (j : Fin 8) (d : Fin 64) : EReal := Ideal.exp2 (refE (amx (vcol v b j d)))

theorem qrow_blk (t : Fin cfg0.N) (b : Fin 3) (h : Fin 48) (s : Fin 640) :
    (fun d : Fin 64 => iblk m c 0 t (ix4 b h s d)) = qrow (xin m c) b h s := by
  funext d; rw [blk0]; rfl
theorem kval (t : Fin cfg0.N) (b : Fin 3) (j : Fin 8) (s : Fin 640) (d : Fin 64) :
    k0_pay6 (iblk m c 1 t) (ix4 b j s d) = krow (kin m c) b j s d := by
  rw [pay6_apply, blk1]
  unfold krow
  refine congrArg (fun z => _ - Ideal.div z _) (Finset.sum_congr rfl fun u _ => ?_)
  rw [blk1]
theorem krow_blk (t : Fin cfg0.N) (b : Fin 3) (j : Fin 8) (s : Fin 640) :
    (fun d : Fin 64 => k0_pay6 (iblk m c 1 t) (ix4 b j s d)) = krow (kin m c) b j s := by
  funext d; exact kval m c t b j s d
theorem vcol_blk (t : Fin cfg0.N) (b : Fin 3) (j : Fin 8) (d : Fin 64) :
    (fun s : Fin 640 => iblk m c 2 t (ix4 b j s d)) = vcol (vin m c) b j d := by
  funext s; rw [blk2]; rfl

theorem qc_val (t : Fin cfg0.N) (b : Fin 3) (h : Fin 48) (s : Fin 640) (d : Fin 64) :
    k0_pay4 (iblk m c 0 t) (ix4 b h s d) = rQC (xin m c) b h d s := by
  rw [pay4_apply, qrow_blk, blk0]; rfl
theorem qs_val (t : Fin cfg0.N) (b : Fin 3) (h : Fin 48) (s : Fin 640) :
    k0_pay5 (iblk m c 0 t) (ix3 b h s) = rQS (xin m c) b h s := by
  rw [pay5_apply, qrow_blk]; rfl
theorem ke_val (t : Fin cfg0.N) (b : Fin 3) (j : Fin 8) (s : Fin 640) :
    k0_pay8 (k0_pay7 (iblk m c 1 t)) (ix4 b j s (0 : Fin 1)) = refE (amx (krow (kin m c) b j s)) := by
  refine (pay8_apply (k0_pay6 (iblk m c 1 t)) b j s).trans ?_
  rw [krow_blk]
theorem kc_val (t : Fin cfg0.N) (b : Fin 3) (j : Fin 8) (s : Fin 640) (d : Fin 64) :
    k0_pay9 (k0_pay6 (iblk m c 1 t)) (k0_pay7 (iblk m c 1 t)) (ix4 b j s d) = rKC (kin m c) b j d s := by
  rw [pay9_apply, ke_val, kval]; rfl
theorem ks_val (t : Fin cfg0.N) (b : Fin 3) (j : Fin 8) (s : Fin 640) :
    k0_pay10 (k0_pay7 (iblk m c 1 t)) (ix3 b j s) = rKS (kin m c) b j s := by
  rw [pay10_apply, ke_val]; rfl
theorem vc_val (t : Fin cfg0.N) (b : Fin 3) (j : Fin 8) (s : Fin 640) (d : Fin 64) :
    k0_pay16 (k0_pay11 (iblk m c 2 t)) (k0_pay13 (iblk m c 2 t)) (k0_pay14 (iblk m c 2 t)) (Scalar.ofBits .f32 0x00000000#32) (ix4 b j s d)
      = rVC (vin m c) b j d s := by
  rw [pay16_apply, pay11_apply, pay15_apply, vcol_blk, blk2]; rfl
theorem vs_val (t : Fin cfg0.N) (b : Fin 3) (j : Fin 8) (d : Fin 64) :
    k0_pay17 (k0_pay13 (iblk m c 2 t)) (k0_pay14 (iblk m c 2 t)) (Scalar.ofBits .f32 0x00000000#32) (ix3 b j d)
      = rVS (vin m c) b j d := by
  rw [pay17_apply, pay15_apply, vcol_blk]; rfl

theorem hz3 {n : ℕ} (h : n = 3) : (![0, 0, 0] : Fin 3 → ℕ) = fun _ => 0 := by decide
theorem hz4 {n : ℕ} (h : n = 4) : (![0, 0, 0, 0] : Fin 4 → ℕ) = fun _ => 0 := by decide

theorem ld0 (x : Vec Ideal S3x48x640x64 .bf16) : View.ld x r0_0 = x := View.ld_unit_zero (hz4 rfl) _ _
theorem ld1 (x : Vec Ideal S3x8x640x64 .bf16) : View.ld x r0_1 = x := View.ld_unit_zero (hz4 rfl) _ _

/-- Result 2, whole. -/
def B4 : Vec Ideal S3x48x64x640 .fp8e4m3 := fun i => rQC (xin m c) (i 0) (i 1) (i 2) (i 3)

theorem out4 (t : Fin cfg0.N) (y : S3x48x64x640.Idx) : out0_4 (iblk m c 0 t) (iblk m c 1 t) (iblk m c 2 t) y = B4 m c y := by
  unfold out0_4 k0_pay23
  rw [View.canon_unit_zero (hz4 rfl), ld0]
  rw [show y = ix4 (y 0) (y 1) (y 2) (y 3) from eq_ix4 y]
  exact (pay18_apply _ (y 0) (y 1) (y 2) (y 3)).trans (qc_val m c t (y 0) (y 1) (y 3) (y 2))

theorem idx_4 : ∀ t : Fin cfg0.N, win0_4.index t 0 = 0 ∧ win0_4.index t 1 = 0 ∧ win0_4.index t 2 = 0 ∧ win0_4.index t 3 = 0 := by decide +kernel

theorem fin4 : (dats m 0 c).arrAt 4 cfg0.N = B4 m c := by
  funext y
  obtain ⟨e0, e1, e2, e3⟩ := idx_4 t0_0
  have h := congrFun (Value.blocks4 m c t0_0 (by decide +kernel)) y
  rw [Value.flushed4] at h
  have hy : ((cfg0.win 4).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
    | ⟨3, _⟩ => show _ = (y 3).val; blk_simp [e3]; rfl
  have h' : (dats m 0 c).arrAt 4 cfg0.N (((cfg0.win 4).blk t0_0).view.emb y) = out0_4 (iblk m c 0 t0_0) (iblk m c 1 t0_0) (iblk m c 2 t0_0) y := h
  rw [hy] at h'
  exact h'.trans (out4 m c t0_0 y)

/-- Result 3, whole. -/
def B5 : Vec Ideal S3x48x640 .f32 := fun i => rQS (xin m c) (i 0) (i 1) (i 2)

theorem out5 (t : Fin cfg0.N) (y : S3x48x640.Idx) : out0_5 (iblk m c 0 t) (iblk m c 1 t) (iblk m c 2 t) y = B5 m c y := by
  unfold out0_5 k0_pay24
  rw [View.canon_unit_zero (hz3 rfl), ld0]
  rw [show y = ix3 (y 0) (y 1) (y 2) from eq_ix3 y]
  exact (qs_val m c t (y 0) (y 1) (y 2))

theorem idx_5 : ∀ t : Fin cfg0.N, win0_5.index t 0 = 0 ∧ win0_5.index t 1 = 0 ∧ win0_5.index t 2 = 0 := by decide +kernel

theorem fin5 : (dats m 0 c).arrAt 5 cfg0.N = B5 m c := by
  funext y
  obtain ⟨e0, e1, e2⟩ := idx_5 t0_0
  have h := congrFun (Value.blocks5 m c t0_0 (by decide +kernel)) y
  rw [Value.flushed5] at h
  have hy : ((cfg0.win 5).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
  have h' : (dats m 0 c).arrAt 5 cfg0.N (((cfg0.win 5).blk t0_0).view.emb y) = out0_5 (iblk m c 0 t0_0) (iblk m c 1 t0_0) (iblk m c 2 t0_0) y := h
  rw [hy] at h'
  exact h'.trans (out5 m c t0_0 y)

/-- Result 4, whole. -/
def B6 : Vec Ideal S3x8x64x640 .fp8e4m3 := fun i => rKC (kin m c) (i 0) (i 1) (i 2) (i 3)

theorem out6 (t : Fin cfg0.N) (y : S3x8x64x640.Idx) : out0_6 (iblk m c 0 t) (iblk m c 1 t) (iblk m c 2 t) y = B6 m c y := by
  unfold out0_6 k0_pay26 k0_pay25
  rw [View.canon_unit_zero (hz4 rfl), ld1]
  rw [show y = ix4 (y 0) (y 1) (y 2) (y 3) from eq_ix4 y]
  exact (pay19_apply _ (y 0) (y 1) (y 2) (y 3)).trans (kc_val m c t (y 0) (y 1) (y 3) (y 2))

theorem idx_6 : ∀ t : Fin cfg0.N, win0_6.index t 0 = 0 ∧ win0_6.index t 1 = 0 ∧ win0_6.index t 2 = 0 ∧ win0_6.index t 3 = 0 := by decide +kernel

theorem fin6 : (dats m 0 c).arrAt 6 cfg0.N = B6 m c := by
  funext y
  obtain ⟨e0, e1, e2, e3⟩ := idx_6 t0_0
  have h := congrFun (Value.blocks6 m c t0_0 (by decide +kernel)) y
  rw [Value.flushed6] at h
  have hy : ((cfg0.win 6).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
    | ⟨3, _⟩ => show _ = (y 3).val; blk_simp [e3]; rfl
  have h' : (dats m 0 c).arrAt 6 cfg0.N (((cfg0.win 6).blk t0_0).view.emb y) = out0_6 (iblk m c 0 t0_0) (iblk m c 1 t0_0) (iblk m c 2 t0_0) y := h
  rw [hy] at h'
  exact h'.trans (out6 m c t0_0 y)

/-- Result 5, whole. -/
def B7 : Vec Ideal S3x8x640 .f32 := fun i => rKS (kin m c) (i 0) (i 1) (i 2)

theorem out7 (t : Fin cfg0.N) (y : S3x8x640.Idx) : out0_7 (iblk m c 0 t) (iblk m c 1 t) (iblk m c 2 t) y = B7 m c y := by
  unfold out0_7 k0_pay27 k0_pay25
  rw [View.canon_unit_zero (hz3 rfl), ld1]
  rw [show y = ix3 (y 0) (y 1) (y 2) from eq_ix3 y]
  exact (ks_val m c t (y 0) (y 1) (y 2))

theorem idx_7 : ∀ t : Fin cfg0.N, win0_7.index t 0 = 0 ∧ win0_7.index t 1 = 0 ∧ win0_7.index t 2 = 0 := by decide +kernel

theorem fin7 : (dats m 0 c).arrAt 7 cfg0.N = B7 m c := by
  funext y
  obtain ⟨e0, e1, e2⟩ := idx_7 t0_0
  have h := congrFun (Value.blocks7 m c t0_0 (by decide +kernel)) y
  rw [Value.flushed7] at h
  have hy : ((cfg0.win 7).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
  have h' : (dats m 0 c).arrAt 7 cfg0.N (((cfg0.win 7).blk t0_0).view.emb y) = out0_7 (iblk m c 0 t0_0) (iblk m c 1 t0_0) (iblk m c 2 t0_0) y := h
  rw [hy] at h'
  exact h'.trans (out7 m c t0_0 y)

/-- Result 6, whole. -/
def B8 : Vec Ideal S3x8x64x640 .fp8e4m3 := fun i => rVC (vin m c) (i 0) (i 1) (i 2) (i 3)

theorem out8 (t : Fin cfg0.N) (y : S3x8x64x640.Idx) : out0_8 (iblk m c 0 t) (iblk m c 1 t) (iblk m c 2 t) y = B8 m c y := by
  unfold out0_8 k0_pay28 k0_pay29 k0_pay30
  rw [View.canon_unit_zero (hz4 rfl), ld1]
  rw [show y = ix4 (y 0) (y 1) (y 2) (y 3) from eq_ix4 y]
  exact (pay20_apply _ _ _ _ (y 0) (y 1) (y 2) (y 3)).trans (vc_val m c t (y 0) (y 1) (y 3) (y 2))

theorem idx_8 : ∀ t : Fin cfg0.N, win0_8.index t 0 = 0 ∧ win0_8.index t 1 = 0 ∧ win0_8.index t 2 = 0 ∧ win0_8.index t 3 = 0 := by decide +kernel

theorem fin8 : (dats m 0 c).arrAt 8 cfg0.N = B8 m c := by
  funext y
  obtain ⟨e0, e1, e2, e3⟩ := idx_8 t0_0
  have h := congrFun (Value.blocks8 m c t0_0 (by decide +kernel)) y
  rw [Value.flushed8] at h
  have hy : ((cfg0.win 8).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
    | ⟨3, _⟩ => show _ = (y 3).val; blk_simp [e3]; rfl
  have h' : (dats m 0 c).arrAt 8 cfg0.N (((cfg0.win 8).blk t0_0).view.emb y) = out0_8 (iblk m c 0 t0_0) (iblk m c 1 t0_0) (iblk m c 2 t0_0) y := h
  rw [hy] at h'
  exact h'.trans (out8 m c t0_0 y)

/-- Result 7, whole. -/
def B9 : Vec Ideal S3x8x64 .f32 := fun i => rVS (vin m c) (i 0) (i 1) (i 2)

theorem out9 (t : Fin cfg0.N) (y : S3x8x64.Idx) : out0_9 (iblk m c 0 t) (iblk m c 1 t) (iblk m c 2 t) y = B9 m c y := by
  unfold out0_9 k0_pay29 k0_pay30
  rw [View.canon_unit_zero (hz3 rfl), ld1]
  rw [show y = ix3 (y 0) (y 1) (y 2) from eq_ix3 y]
  exact (vs_val m c t (y 0) (y 1) (y 2))

theorem idx_9 : ∀ t : Fin cfg0.N, win0_9.index t 0 = 0 ∧ win0_9.index t 1 = 0 ∧ win0_9.index t 2 = 0 := by decide +kernel

theorem fin9 : (dats m 0 c).arrAt 9 cfg0.N = B9 m c := by
  funext y
  obtain ⟨e0, e1, e2⟩ := idx_9 t0_0
  have h := congrFun (Value.blocks9 m c t0_0 (by decide +kernel)) y
  rw [Value.flushed9] at h
  have hy : ((cfg0.win 9).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
  have h' : (dats m 0 c).arrAt 9 cfg0.N (((cfg0.win 9).blk t0_0).view.emb y) = out0_9 (iblk m c 0 t0_0) (iblk m c 1 t0_0) (iblk m c 2 t0_0) y := h
  rw [hy] at h'
  exact h'.trans (out9 m c t0_0 y)

end Cert.ReferenceIdeal.Gen

end
-- ==== Proof.Agree.lean ====
/- Where every entry is finite, the kernel's scale words and the reference's exponents give the same scales and codes. -/
module

public import proofs.«01_k».proof.Proof.Final
public import proofs.«01_k».proof.Proof.RVal
public import proofs.«01_k».proof.Defs
public import Idealize.ShloMosaic.Lib.ReduceAll

@[expose] public section

set_option maxRecDepth 16384

noncomputable section

namespace Cert.Agree

open Idealize.ShloMosaic Idealize.ShloMosaic.TcCoe Cert.Quant
open Cert.KernelIdeal (S3x640x3072 S3x640x512)
open Cert.KernelIdeal.Gen (amx code qrow krow vcol sQC sQS sKC sKS sVC sVS)
open Cert.ReferenceIdeal.Gen (rcode rQC rQS rKC rKS rVC rVS)

/-- A real of magnitude at most `B`. -/
def Fin' (B : ℝ) (x : EReal) : Prop := ∃ r : ℝ, x = (r : EReal) ∧ |r| ≤ B

theorem top16 : Ideal.ofBits .bf16 0x7F7F#16 = ((255 * 2 ^ 120 : ℝ) : EReal) := by
  simp [Ideal.ofBits, Ideal.ieee, -EReal.coe_mul, -EReal.coe_pow]
  try norm_num

theorem c640 : Ideal.ofBits .f32 0x44200000#32 = ((640 : ℝ) : EReal) := by
  simp [Ideal.ofBits, Ideal.ieee, -EReal.coe_mul]; norm_num

theorem cbot : Ideal.ofBits .f32 0xFF800000#32 = ⊥ := by
  simp [Ideal.ofBits, Ideal.ieee]

/-- An entry whose magnitude compares at most the greatest finite value is a real of that magnitude. -/
theorem fin_of_cmp (x : EReal) (h : Ideal.cmp .ole (max x (-x)) (Ideal.ofBits .bf16 0x7F7F#16) = 1#1) : Fin' (255 * 2 ^ 120) x := by
  rw [top16] at h
  have h' : max x (-x) ≤ ((255 * 2 ^ 120 : ℝ) : EReal) := by
    by_contra hc
    have : BitVec.ofBool (decide (max x (-x) ≤ ((255 * 2 ^ 120 : ℝ) : EReal))) = 1#1 := h
    rw [decide_eq_false hc] at this
    exact absurd this (by decide)
  have h1 : x ≤ ((255 * 2 ^ 120 : ℝ) : EReal) := (le_max_left _ _).trans h'
  have h2 : -x ≤ ((255 * 2 ^ 120 : ℝ) : EReal) := (le_max_right _ _).trans h'
  induction x using EReal.rec with
  | bot => exact absurd h2 (not_le.2 (EReal.coe_lt_top _))
  | top => exact absurd h1 (not_le.2 (EReal.coe_lt_top _))
  | coe r =>
    refine ⟨r, rfl, abs_le.2 ⟨?_, EReal.coe_le_coe_iff.1 h1⟩⟩
    rw [← EReal.coe_neg] at h2
    have := EReal.coe_le_coe_iff.1 h2
    linarith

theorem pre_fin [Cert.Pre_finite.Facts] (x : Vec Ideal S3x640x3072 .bf16) (k v : Vec Ideal S3x640x512 .bf16)
    (h : Cert.Pre_finite.fn (F := Ideal) x k v = fun _ => 1#1) :
    (∀ i, Fin' (255 * 2 ^ 120) (x i)) ∧ (∀ i, Fin' (255 * 2 ^ 120) (k i)) ∧ (∀ i, Fin' (255 * 2 ^ 120) (v i)) := by
  have h0 := congrFun h (fun a : Fin Cert.Pre_finite.S_.rank => Fin.elim0 a)
  dsimp only [Cert.Pre_finite.fn] at h0
  obtain ⟨h01, h2⟩ := IntOp.andi_eq_one.1 h0
  obtain ⟨h0, h1⟩ := IntOp.andi_eq_one.1 h01
  haveI : Subsingleton (Cert.Pre_finite.S_).Idx := ⟨fun a b => funext fun q => q.elim0⟩
  exact ⟨fun i => fin_of_cmp _ (Host.reduce_andi_all _ _ _ _ _ h0 i), fun i => fin_of_cmp _ (Host.reduce_andi_all _ _ _ _ _ h1 i),
    fun i => fin_of_cmp _ (Host.reduce_andi_all _ _ _ _ _ h2 i)⟩

/-- The greatest magnitude over `448` of finite entries, at least one, is a real in the words' range. -/
theorem amx_real {n : ℕ} (z : Fin n) (c : Fin n → EReal) (h : ∀ d, Fin' (2 * (255 * 2 ^ 120)) (c d)) :
    ∃ x : ℝ, amx c = (x : EReal) ∧ 0 ≤ x ∧ x < (2 : ℝ) ^ (126 : ℤ) := by
  have mag : ∀ d, (0 : EReal) ≤ max (c d) (-c d) ∧ max (c d) (-c d) ≤ ((2 * (255 * 2 ^ 120) : ℝ) : EReal) := by
    intro d
    obtain ⟨r, e, hr⟩ := h d
    rw [e, ← EReal.coe_neg, ← EReal.coe_strictMono.monotone.map_max]
    exact ⟨EReal.coe_nonneg.2 (abs_nonneg r), EReal.coe_le_coe_iff.2 hr⟩
  set M := Finset.univ.fold max (Ideal.ofBits .f32 0xFF800000#32) (fun d => max (c d) (-c d)) with hM
  have hi : M ≤ ((2 * (255 * 2 ^ 120) : ℝ) : EReal) := by
    rw [hM, Finset.fold_max_le, cbot]
    exact ⟨bot_le, fun d _ => (mag d).2⟩
  have lo : (0 : EReal) ≤ M := by
    rw [hM, Finset.le_fold_max]
    exact Or.inr ⟨z, Finset.mem_univ _, (mag z).1⟩
  have hr : M = ((M.toReal : ℝ) : EReal) := (EReal.coe_toReal (fun e => by rw [e] at hi; exact absurd hi (not_le.2 (EReal.coe_lt_top _))) (fun e => by rw [e] at lo; simp at lo)).symm
  rw [hr] at hi lo
  have hi' := EReal.coe_le_coe_iff.1 hi
  have lo' := EReal.coe_nonneg.1 lo
  refine ⟨M.toReal * (1 / 448), ?_, by positivity, ?_⟩
  · show M * _ = _
    rw [hr, ← EReal.coe_mul, EReal.toReal_coe]
  · norm_num at hi' ⊢
    linarith

/-- The scale of finite entries is a power of two, the same on both sides. -/
theorem scale {n : ℕ} (z : Fin n) (c : Fin n → EReal) (h : ∀ d, Fin' (2 * (255 * 2 ^ 120)) (c d)) :
    ∃ e : ℤ, kerS (amx c) = (((2 : ℝ) ^ e : ℝ) : EReal) ∧ kerI (amx c) = (((2 : ℝ) ^ (-e) : ℝ) : EReal)
      ∧ refE (amx c) = ((e : ℝ) : EReal) := by
  obtain ⟨x, e, h0, h1⟩ := amx_real z c h
  rw [e]
  exact word_spec x h0 h1

theorem exp2_int (e : ℤ) : Ideal.exp2 ((e : ℝ) : EReal) = (((2 : ℝ) ^ e : ℝ) : EReal) := by
  rw [Ideal.exp2_coe]
  exact congrArg _ (Real.rpow_intCast 2 e)

theorem sc_eq {n : ℕ} (z : Fin n) (c : Fin n → EReal) (h : ∀ d, Fin' (2 * (255 * 2 ^ 120)) (c d)) :
    kerS (amx c) = Ideal.exp2 (refE (amx c)) := by
  obtain ⟨e, h1, h2, h3⟩ := scale z c h
  rw [h1, h3, exp2_int]

theorem code_eq {n : ℕ} (z : Fin n) (c : Fin n → EReal) (h : ∀ d, Fin' (2 * (255 * 2 ^ 120)) (c d)) (v : EReal) :
    code v (kerI (amx c)) = rcode v (refE (amx c)) := by
  obtain ⟨e, h1, h2, h3⟩ := scale z c h
  have : (0 : EReal) - ((e : ℝ) : EReal) = (((-e : ℤ) : ℝ) : EReal) := by
    rw [zero_sub, ← EReal.coe_neg]; push_cast; rfl
  unfold code rcode
  rw [h2, h3, this, exp2_int, min_comm, max_comm]

variable (x : Vec Ideal S3x640x3072 .bf16) (k v : Vec Ideal S3x640x512 .bf16)

theorem weaken {y : EReal} (h : Fin' (255 * 2 ^ 120) y) : Fin' (2 * (255 * 2 ^ 120)) y := by
  obtain ⟨r, e, hr⟩ := h
  exact ⟨r, e, hr.trans (by norm_num)⟩

theorem qrow_fin (hx : ∀ i, Fin' (255 * 2 ^ 120) (x i)) (b : Fin 3) (h : Fin 48) (s : Fin 640) (d : Fin 64) :
    Fin' (2 * (255 * 2 ^ 120)) (qrow x b h s d) := weaken (hx _)

theorem vcol_fin (hv : ∀ i, Fin' (255 * 2 ^ 120) (v i)) (b : Fin 3) (j : Fin 8) (d : Fin 64) (s : Fin 640) :
    Fin' (2 * (255 * 2 ^ 120)) (vcol v b j d s) := weaken (hv _)

theorem coe_sum640 (r : Fin 640 → ℝ) : ((∑ t, r t : ℝ) : EReal) = ∑ t, ((r t : ℝ) : EReal) :=
  map_sum (⟨⟨Real.toEReal, EReal.coe_zero⟩, EReal.coe_add⟩ : ℝ →+ EReal) r Finset.univ

/-- A finite entry less the mean of finite entries is finite. -/
theorem krow_fin (hk : ∀ i, Fin' (255 * 2 ^ 120) (k i)) (b : Fin 3) (j : Fin 8) (s : Fin 640) (d : Fin 64) :
    Fin' (2 * (255 * 2 ^ 120)) (krow k b j s d) := by
  choose r e hr using fun t : Fin 640 => hk (ix3 b t ⟨64 * j.val + d.val, by omega⟩)
  unfold krow
  rw [c640, Ideal.div_coe (by norm_num), e s, Finset.sum_congr rfl (fun t _ => e t), ← coe_sum640, ← EReal.coe_mul, ← EReal.coe_sub]
  refine ⟨_, rfl, ?_⟩
  have h1 : |∑ t : Fin 640, r t| ≤ 640 * (255 * 2 ^ 120) := by
    refine (Finset.abs_sum_le_sum_abs _ _).trans ((Finset.sum_le_sum fun t _ => hr t).trans ?_)
    simp
  have h2 := hr s
  rw [abs_le] at h1 h2 ⊢
  constructor <;> linarith [h1.1, h1.2, h2.1, h2.2]

theorem QC_eq (hx : ∀ i, Fin' (255 * 2 ^ 120) (x i)) (b : Fin 3) (h : Fin 48) (d : Fin 64) (s : Fin 640) : sQC x b h d s = rQC x b h d s :=
  code_eq 0 _ (qrow_fin x hx b h s) _
theorem QS_eq (hx : ∀ i, Fin' (255 * 2 ^ 120) (x i)) (b : Fin 3) (h : Fin 48) (s : Fin 640) : sQS x b h s = rQS x b h s :=
  sc_eq 0 _ (qrow_fin x hx b h s)
theorem KC_eq (hk : ∀ i, Fin' (255 * 2 ^ 120) (k i)) (b : Fin 3) (j : Fin 8) (d : Fin 64) (s : Fin 640) : sKC k b j d s = rKC k b j d s :=
  code_eq 0 _ (krow_fin k hk b j s) _
theorem KS_eq (hk : ∀ i, Fin' (255 * 2 ^ 120) (k i)) (b : Fin 3) (j : Fin 8) (s : Fin 640) : sKS k b j s = rKS k b j s :=
  sc_eq 0 _ (krow_fin k hk b j s)
theorem VC_eq (hv : ∀ i, Fin' (255 * 2 ^ 120) (v i)) (b : Fin 3) (j : Fin 8) (d : Fin 64) (s : Fin 640) : sVC v b j d s = rVC v b j d s :=
  code_eq 0 _ (vcol_fin v hv b j d) _
theorem VS_eq (hv : ∀ i, Fin' (255 * 2 ^ 120) (v i)) (b : Fin 3) (j : Fin 8) (d : Fin 64) : sVS v b j d = rVS v b j d :=
  sc_eq 0 _ (vcol_fin v hv b j d)

end Cert.Agree

end
-- ==== Proof.RAtt.lean ====
/- The reference's attention at an index. -/
module

public import proofs.«01_k».proof.Proof.RVal
public import proofs.«01_k».proof.Proof.Att
public import proofs.«01_k».proof.Proof.AttMath

@[expose] public section

set_option maxRecDepth 16384

noncomputable section

namespace Cert.ReferenceIdeal.Gen

open Idealize.ShloMosaic Idealize.ShloMosaic.TcCoe Cert.ReferenceIdeal Cert.Quant

/-- The key head `j` of batch row `b`, in the flat order the reference groups heads by. -/
def G (b : Fin 3) (j : Fin 8) : Fin 24 := ⟨8 * b.val + j.val, by omega⟩
/-- The query head that is member `r` of the group of key head `j`. -/
def hd (j : Fin 8) (r : Fin 6) : Fin 48 := ⟨6 * j.val + r.val, by omega⟩
/-- Row `s` of member `r`, within its group. -/
def row (r : Fin 6) (s : Fin 640) : Fin 3840 := ⟨640 * r.val + s.val, by omega⟩

/-- The products of query and key codes, grouped by key head. -/
theorem pay21_apply (q : FVec Ideal S3x48x640x64 .fp8e4m3) (k : FVec Ideal S3x8x640x64 .fp8e4m3) (b : Fin 3) (j : Fin 8)
    (r : Fin 6) (s t : Fin 640) :
    k0_pay21 q k (ix4 (G b j) r s t) = ∑ e : Fin 64, q (ix4 b (hd j r) s e) * k (ix4 b j t e) := by
  unfold k0_pay21
  refine (shapeCast_apply _ _ _ (ix3 (G b j) (row r s) t) ?_).trans ?_
  · rw [Shape.rowMajor_val_three, Shape.rowMajor_val_four]
    show ((8 * b.val + j.val) * 3840 + (640 * r.val + s.val)) * 640 + t.val = (((8 * b.val + j.val) * 6 + r.val) * 640 + s.val) * 640 + t.val
    omega
  refine (Ideal.matmul_apply₁_of dot_S24x3840x64_S24x640x64_S24x3840x640_2_2_1_1_0_0 (K := 64) rfl rfl _ _ _ _
    (fun e => ix3 (G b j) (row r s) e) (fun e => ix3 (G b j) t e) (fun e => ?_) (fun e => ?_)).trans ?_
  · funext a; fin_cases a <;> rfl
  · funext a; fin_cases a <;> rfl
  refine (congrArg (· + _) (zero32 : _ = (0 : EReal))).trans ((zero_add _).trans (Finset.sum_congr rfl fun e _ => congrArg₂ (· * ·) ?_ ?_))
  · refine shapeCast_apply _ _ _ (ix4 b (hd j r) s e) ?_
    rw [Shape.rowMajor_val_three, Shape.rowMajor_val_four]
    show ((b.val * 48 + (6 * j.val + r.val)) * 640 + s.val) * 64 + e.val = ((8 * b.val + j.val) * 3840 + (640 * r.val + s.val)) * 64 + e.val
    omega
  · refine shapeCast_apply _ _ _ (ix4 b j t e) ?_
    rw [Shape.rowMajor_val_three, Shape.rowMajor_val_four]
    show ((b.val * 8 + j.val) * 640 + t.val) * 64 + e.val = ((8 * b.val + j.val) * 640 + t.val) * 64 + e.val
    omega

/-- The query scales, grouped by key head and spread over the keys. -/
theorem pay22_apply (qs : FVec Ideal S3x48x640 .f32) (b : Fin 3) (j : Fin 8) (r : Fin 6) (s t : Fin 640) :
    k0_pay22 qs (ix4 (G b j) r s t) = qs (ix3 b (hd j r) s) := by
  unfold k0_pay22
  refine (broadcastTo_apply _ _ _ (ix4 (G b j) r s (0 : Fin 1)) ?_).trans ?_
  · intro a; fin_cases a <;> rfl
  · refine shapeCast_apply _ _ _ (ix3 b (hd j r) s) ?_
    rw [Shape.rowMajor_val_three, Shape.rowMajor_val_four]
    show (b.val * 48 + (6 * j.val + r.val)) * 640 + s.val = (((8 * b.val + j.val) * 6 + r.val) * 640 + s.val) * 1 + 0
    omega

/-- The masked scores. -/
def vS (ks : FVec Ideal S3x8x640 .f32) (D Qs : FVec Ideal S24x6x640x640 .f32) : FVec Ideal S24x6x640x640 .f32 :=
  select (cmpi .sle (iota .tc S24x6x640x640 32 [3] iota_S24x6x640x640_d3_w32) (iota .tc S24x6x640x640 32 [2] iota_S24x6x640x640_d2_w32))
    (mulf (mulf (mulf D Qs) (broadcastTo S24x6x640x640 (shapeCast S24x1x1x640 ks shapeCasts_S3x8x640_S24x1x1x640) broadcasts_S24x1x1x640_S24x6x640x640))
      (broadcast S24x6x640x640 (Scalar.ofBits .f32 0x3E000000#32)))
    (broadcast S24x6x640x640 (Scalar.ofBits .f32 0xFF800000#32))

theorem vks_apply (ks : FVec Ideal S3x8x640 .f32) (b : Fin 3) (j : Fin 8) (r : Fin 6) (s t : Fin 640) :
    (broadcastTo S24x6x640x640 (shapeCast S24x1x1x640 ks shapeCasts_S3x8x640_S24x1x1x640) broadcasts_S24x1x1x640_S24x6x640x640 : FVec Ideal _ .f32)
      (ix4 (G b j) r s t) = ks (ix3 b j t) := by
  refine (broadcastTo_apply _ _ _ (ix4 (G b j) (0 : Fin 1) (0 : Fin 1) t) ?_).trans ?_
  · intro a; fin_cases a <;> rfl
  · refine shapeCast_apply _ _ _ (ix3 b j t) ?_
    rw [Shape.rowMajor_val_three, Shape.rowMajor_val_four]
    show (b.val * 8 + j.val) * 640 + t.val = (((8 * b.val + j.val) * 1 + 0) * 1 + 0) * 640 + t.val
    omega

/-- The causal mask: key `t` is visible to query `s` when it is not later. -/
theorem vmask_apply (g : Fin 24) (r : Fin 6) (s t : Fin 640) :
    (cmpi .sle (iota .tc S24x6x640x640 32 [3] iota_S24x6x640x640_d3_w32) (iota .tc S24x6x640x640 32 [2] iota_S24x6x640x640_d2_w32))
      (ix4 g r s t) = if t.val ≤ s.val then 1#1 else 0#1 := by
  have h : (cmpi .sle (iota .tc S24x6x640x640 32 [3] iota_S24x6x640x640_d3_w32) (iota .tc S24x6x640x640 32 [2] iota_S24x6x640x640_d2_w32))
      (ix4 g r s t) = IntOp.cmpi .sle (BitVec.ofNat 32 t.val) (BitVec.ofNat 32 s.val) := by
    pointwise []
  exact h.trans (Cert.KernelIdeal.Gen.sle_small _ _ (by omega) (by omega))

/-- A masked score. -/
theorem vS_apply (ks : FVec Ideal S3x8x640 .f32) (D Qs : FVec Ideal S24x6x640x640 .f32) (b : Fin 3) (j : Fin 8) (r : Fin 6) (s t : Fin 640) :
    vS ks D Qs (ix4 (G b j) r s t) = if t.val ≤ s.val then
      ((D (ix4 (G b j) r s t) * Qs (ix4 (G b j) r s t)) * ks (ix3 b j t)) * Ideal.ofBits .f32 0x3E000000#32
      else Ideal.ofBits .f32 0xFF800000#32 := by
  have h : vS ks D Qs (ix4 (G b j) r s t) = Scalar.select ((cmpi .sle (iota .tc S24x6x640x640 32 [3] iota_S24x6x640x640_d3_w32) (iota .tc S24x6x640x640 32 [2] iota_S24x6x640x640_d2_w32)) (ix4 (G b j) r s t))
      (((D (ix4 (G b j) r s t) * Qs (ix4 (G b j) r s t)) * (broadcastTo S24x6x640x640 (shapeCast S24x1x1x640 ks shapeCasts_S3x8x640_S24x1x1x640) broadcasts_S24x1x1x640_S24x6x640x640 : FVec Ideal _ .f32)
      (ix4 (G b j) r s t)) * Ideal.ofBits .f32 0x3E000000#32) (Ideal.ofBits .f32 0xFF800000#32) := rfl
  rw [h, vmask_apply, vks_apply]
  by_cases ht : t.val ≤ s.val
  · rw [if_pos ht, if_pos ht]; rfl
  · rw [if_neg ht, if_neg ht]; rfl

/-- The weights. -/
def vE (Q : FVec Ideal S24x6x640x640 .f32) : FVec Ideal S24x6x640x640 .f32 :=
  exp (subf Q (broadcastTo S24x6x640x640 (shapeCast S24x6x640x1 (multiReduction .maximumf [3] S24x6x640 Q 0xFF800000#32 reduces_S24x6x640x640_S24x6x640 (.inl rfl) rfl)
    shapeCasts_S24x6x640_S24x6x640x1) broadcasts_S24x6x640x1_S24x6x640x640))

theorem vmax24 (Q : FVec Ideal S24x6x640x640 .f32) (g : Fin 24) (r : Fin 6) (s : Fin 640) (R : EReal)
    (hR : Finset.univ.fold max (Ideal.ofBits .f32 0xFF800000#32) (fun t => Q (ix4 g r s t)) = R) :
    ((shapeCast S24x6x640x1 (multiReduction .maximumf [3] S24x6x640 Q 0xFF800000#32 reduces_S24x6x640x640_S24x6x640 (.inl rfl) rfl)
      shapeCasts_S24x6x640_S24x6x640x1) : FVec Ideal _ .f32) (ix4 g r s (0 : Fin 1)) = R := by
  pointwise []
  exact hR

theorem vsum24 (Q : FVec Ideal S24x6x640x640 .f32) (g : Fin 24) (r : Fin 6) (s : Fin 640) (R : EReal)
    (hR : ∑ t : Fin 640, Q (ix4 g r s t) = R) :
    ((shapeCast S24x6x640x1 (multiReduction .add [3] S24x6x640 Q 0x00000000#32 reduces_S24x6x640x640_S24x6x640 (.inl rfl) rfl)
      shapeCasts_S24x6x640_S24x6x640x1) : FVec Ideal _ .f32) (ix4 g r s (0 : Fin 1)) = R := by
  pointwise []
  exact hR

/-- A weight. -/
theorem vE_apply (Q : FVec Ideal S24x6x640x640 .f32) (g : Fin 24) (r : Fin 6) (s t : Fin 640) :
    vE Q (ix4 g r s t) = rwgt (fun t => Q (ix4 g r s t)) t := by
  unfold vE rwgt
  refine congrArg (fun z => Ideal.exp (Q (ix4 g r s t) - z)) ?_
  refine (broadcastTo_apply _ _ _ (ix4 g r s (0 : Fin 1)) ?_).trans (vmax24 Q g r s _ rfl)
  intro a; fin_cases a <;> rfl

/-- The numerator: coded weights against the value codes. -/
def vN (E : FVec Ideal S24x6x640x640 .f32) (vc : FVec Ideal S3x8x640x64 .fp8e4m3) : FVec Ideal S24x6x640x64 .f32 :=
  shapeCast S24x6x640x64 (matmul dot_S24x3840x640_S24x640x64_S24x3840x64_2_1_1_2_0_0 none
    (shapeCast S24x3840x640 (truncf .fp8e4m3 (minimumf (broadcast S24x6x640x640 (Scalar.ofBits .f32 0x43E00000#32))
      (maximumf (broadcast S24x6x640x640 (Scalar.ofBits .f32 0x00000000#32)) (mulf E (broadcast S24x6x640x640 (Scalar.ofBits .f32 0x43E00000#32)))))
      bitsLt_fp8e4m3_f32) shapeCasts_S24x6x640x640_S24x3840x640)
    (shapeCast S24x640x64 vc shapeCasts_S3x8x640x64_S24x640x64) (constant S24x3840x64 .f32 0x00000000#32)) shapeCasts_S24x3840x64_S24x6x640x64

/-- A numerator. -/
theorem vN_apply (E : FVec Ideal S24x6x640x640 .f32) (vc : FVec Ideal S3x8x640x64 .fp8e4m3) (b : Fin 3) (j : Fin 8) (r : Fin 6) (s : Fin 640) (d : Fin 64) :
    vN E vc (ix4 (G b j) r s d) = ∑ t : Fin 640, min ((448 : ℝ) : EReal) (max 0 (E (ix4 (G b j) r s t) * ((448 : ℝ) : EReal))) * vc (ix4 b j t d) := by
  unfold vN
  refine (shapeCast_apply _ _ _ (ix3 (G b j) (row r s) d) ?_).trans ?_
  · rw [Shape.rowMajor_val_three, Shape.rowMajor_val_four]
    show ((8 * b.val + j.val) * 3840 + (640 * r.val + s.val)) * 64 + d.val = (((8 * b.val + j.val) * 6 + r.val) * 640 + s.val) * 64 + d.val
    omega
  refine (Ideal.matmul_apply₁_of dot_S24x3840x640_S24x640x64_S24x3840x64_2_1_1_2_0_0 (K := 640) rfl rfl _ _ _ _
    (fun t => ix3 (G b j) (row r s) t) (fun t => ix3 (G b j) t d) (fun t => ?_) (fun t => ?_)).trans ?_
  · funext a; fin_cases a <;> rfl
  · funext a; fin_cases a <;> rfl
  refine (congrArg (· + _) (zero32 : _ = (0 : EReal))).trans ((zero_add _).trans (Finset.sum_congr rfl fun t _ => congrArg₂ (· * ·) ?_ ?_))
  · refine (shapeCast_apply _ _ _ (ix4 (G b j) r s t) ?_).trans ?_
    · rw [Shape.rowMajor_val_three, Shape.rowMajor_val_four]
      show (((8 * b.val + j.val) * 6 + r.val) * 640 + s.val) * 640 + t.val = ((8 * b.val + j.val) * 3840 + (640 * r.val + s.val)) * 640 + t.val
      omega
    · show min (Ideal.ofBits .f32 0x43E00000#32) (max (Ideal.ofBits .f32 0x00000000#32) (E (ix4 (G b j) r s t) * Ideal.ofBits .f32 0x43E00000#32)) = _
      rw [Cert.KernelIdeal.Gen.c448, zero32]
  · refine shapeCast_apply _ _ _ (ix4 b j t d) ?_
    rw [Shape.rowMajor_val_three, Shape.rowMajor_val_four]
    show ((b.val * 8 + j.val) * 640 + t.val) * 64 + d.val = ((8 * b.val + j.val) * 640 + t.val) * 64 + d.val
    omega

/-- The output, grouped. -/
def vO (E : FVec Ideal S24x6x640x640 .f32) (vc : FVec Ideal S3x8x640x64 .fp8e4m3) (vs : FVec Ideal S3x8x64 .f32) : FVec Ideal S24x6x640x64 .f32 :=
  divf (mulf (mulf (vN E vc) (broadcast S24x6x640x64 (Named.named κ "inv_fp8_max" 0x3B124925#32)))
      (broadcastTo S24x6x640x64 (shapeCast S24x1x1x64 vs shapeCasts_S3x8x64_S24x1x1x64) broadcasts_S24x1x1x64_S24x6x640x64))
    (broadcastTo S24x6x640x64 (shapeCast S24x6x640x1 (multiReduction .add [3] S24x6x640 E 0x00000000#32 reduces_S24x6x640x640_S24x6x640 (.inl rfl) rfl)
      shapeCasts_S24x6x640_S24x6x640x1) broadcasts_S24x6x640x1_S24x6x640x64)

/-- An output, by its group. -/
theorem vO_apply (E : FVec Ideal S24x6x640x640 .f32) (vc : FVec Ideal S3x8x640x64 .fp8e4m3) (vs : FVec Ideal S3x8x64 .f32) (b : Fin 3) (j : Fin 8) (r : Fin 6) (s : Fin 640) (d : Fin 64) :
    vO E vc vs (ix4 (G b j) r s d) = rmean (fun t => E (ix4 (G b j) r s t)) (fun t => vc (ix4 b j t d)) (vs (ix3 b j d)) := by
  unfold vO rmean
  refine congrArg₂ Ideal.div (congrArg₂ (· * ·) (congrArg₂ (· * ·) (vN_apply E vc b j r s d) rnfp8) ?_) ?_
  · refine (broadcastTo_apply _ _ _ (ix4 (G b j) (0 : Fin 1) (0 : Fin 1) d) ?_).trans ?_
    · intro a; fin_cases a <;> rfl
    · refine shapeCast_apply _ _ _ (ix3 b j d) ?_
      rw [Shape.rowMajor_val_three, Shape.rowMajor_val_four]
      show (b.val * 8 + j.val) * 64 + d.val = (((8 * b.val + j.val) * 1 + 0) * 1 + 0) * 64 + d.val
      omega
  · refine (broadcastTo_apply _ _ _ (ix4 (G b j) r s (0 : Fin 1)) ?_).trans (vsum24 E (G b j) r s _ rfl)
    intro a; fin_cases a <;> rfl

/-- The stored output is the grouped one with the heads laid side by side. -/
theorem pay1_apply (ks : FVec Ideal S3x8x640 .f32) (vc : FVec Ideal S3x8x640x64 .fp8e4m3) (vs : FVec Ideal S3x8x64 .f32)
    (D Qs : FVec Ideal S24x6x640x640 .f32) (b : Fin 3) (j : Fin 8) (r : Fin 6) (s : Fin 640) (d : Fin 64) (e : Fin 3072)
    (he : e.val = 64 * (6 * j.val + r.val) + d.val) :
    k0_pay1 ks vc vs D Qs (ix3 b s e) = vO (vE (vS ks D Qs)) vc vs (ix4 (G b j) r s d) := by
  have h : k0_pay1 ks vc vs D Qs = shapeCast S3x640x3072 (transpose S3x640x48x64 [0, 2, 1, 3]
      (shapeCast S3x48x640x64 (vO (vE (vS ks D Qs)) vc vs) shapeCasts_S24x6x640x64_S3x48x640x64) transposes_S3x48x640x64_p0_2_1_3_S3x640x48x64)
      shapeCasts_S3x640x48x64_S3x640x3072 := rfl
  rw [h]
  refine (shapeCast_apply _ _ _ (ix4 b s (hd j r) d) ?_).trans ?_
  · rw [Shape.rowMajor_val_three, Shape.rowMajor_val_four]
    show ((b.val * 640 + s.val) * 48 + (6 * j.val + r.val)) * 64 + d.val = (b.val * 640 + s.val) * 3072 + e.val
    omega
  refine (transpose_apply _ _ _ _ (ix4 b (hd j r) s d) ?_).trans ?_
  · intro a; fin_cases a <;> rfl
  refine shapeCast_apply _ _ _ (ix4 (G b j) r s d) ?_
  rw [Shape.rowMajor_val_four, Shape.rowMajor_val_four]
  show (((8 * b.val + j.val) * 6 + r.val) * 640 + s.val) * 64 + d.val = ((b.val * 48 + (6 * j.val + r.val)) * 640 + s.val) * 64 + d.val
  omega

/-- The reference's stored output, from the codes and scales. -/
theorem att_apply (q : FVec Ideal S3x48x640x64 .fp8e4m3) (k : FVec Ideal S3x8x640x64 .fp8e4m3) (qs : FVec Ideal S3x48x640 .f32)
    (ks : FVec Ideal S3x8x640 .f32) (vc : FVec Ideal S3x8x640x64 .fp8e4m3) (vs : FVec Ideal S3x8x64 .f32)
    (b : Fin 3) (j : Fin 8) (r : Fin 6) (s : Fin 640) (d : Fin 64) (e : Fin 3072) (he : e.val = 64 * (6 * j.val + r.val) + d.val) :
    k0_pay1 ks vc vs (k0_pay21 q k) (k0_pay22 qs) (ix3 b s e)
      = rmean (rwgt fun t : Fin 640 => if t.val ≤ s.val then
          (((∑ e : Fin 64, q (ix4 b (hd j r) s e) * k (ix4 b j t e)) * qs (ix3 b (hd j r) s)) * ks (ix3 b j t)) * Ideal.ofBits .f32 0x3E000000#32
          else Ideal.ofBits .f32 0xFF800000#32) (fun t => vc (ix4 b j t d)) (vs (ix3 b j d)) := by
  refine (pay1_apply ks vc vs _ _ b j r s d e he).trans ((vO_apply _ vc vs b j r s d).trans ?_)
  refine congrArg (fun w => rmean w (fun t => vc (ix4 b j t d)) (vs (ix3 b j d))) (funext fun t => (vE_apply _ _ _ _ t).trans ?_)
  refine congrArg (fun S => rwgt S t) (funext fun u => (vS_apply ks _ _ b j r s u).trans ?_)
  rw [pay21_apply, pay22_apply]

/-- The attention output of the reference. -/
def rO (x : Vec Ideal S3x640x3072 .bf16) (k v : Vec Ideal S3x640x512 .bf16) (b : Fin 3) (h : Fin 48) (s : Fin 640) (d : Fin 64) : EReal :=
  rmean (rwgt fun t : Fin 640 => if t.val ≤ s.val then
      (((∑ e : Fin 64, rQC x b h e s * rKC k b ⟨h.val / 6, by omega⟩ e t) * rQS x b h s) * rKS k b ⟨h.val / 6, by omega⟩ t) * Ideal.ofBits .f32 0x3E000000#32
      else Ideal.ofBits .f32 0xFF800000#32) (fun t => rVC v b ⟨h.val / 6, by omega⟩ d t) (rVS v b ⟨h.val / 6, by omega⟩ d)

variable (m : (ℓ : Loc nD τ sig) → Buf (Elt Ideal) ℓ) (c : Dev nD)

/-- Result 1, whole. -/
def B3 : Vec Ideal S3x640x3072 .bf16 := fun i => rO (xin m c) (kin m c) (vin m c) (i 0)
  ⟨(i 2).val / 64, by have h : (i 2).val < 3072 := (i 2).isLt; omega⟩ (i 1) ⟨(i 2).val % 64, by omega⟩

theorem out3_val (t : Fin cfg0.N) (b : Fin 3) (s : Fin 640) (e : Fin 3072) :
    k0_pay1 (k0_pay10 (k0_pay7 (iblk m c 1 t)))
        (k0_pay16 (k0_pay11 (iblk m c 2 t)) (k0_pay13 (iblk m c 2 t)) (k0_pay14 (iblk m c 2 t)) (Scalar.ofBits .f32 0x00000000#32))
        (k0_pay17 (k0_pay13 (iblk m c 2 t)) (k0_pay14 (iblk m c 2 t)) (Scalar.ofBits .f32 0x00000000#32))
        (k0_pay21 (k0_pay4 (iblk m c 0 t)) (k0_pay9 (k0_pay6 (iblk m c 1 t)) (k0_pay7 (iblk m c 1 t))))
        (k0_pay22 (k0_pay5 (iblk m c 0 t))) (ix3 b s e)
      = rO (xin m c) (kin m c) (vin m c) b ⟨e.val / 64, by omega⟩ s ⟨e.val % 64, by omega⟩ := by
  refine (att_apply _ _ _ _ _ _ b ⟨e.val / 384, by omega⟩ ⟨e.val / 64 % 6, by omega⟩ s ⟨e.val % 64, by omega⟩ e ?_).trans ?_
  · show e.val = 64 * (6 * (e.val / 384) + e.val / 64 % 6) + e.val % 64
    omega
  have hh : hd ⟨e.val / 384, by omega⟩ ⟨e.val / 64 % 6, by omega⟩ = (⟨e.val / 64, by omega⟩ : Fin 48) :=
    Fin.ext (by show 6 * (e.val / 384) + e.val / 64 % 6 = e.val / 64; omega)
  have hj : (⟨e.val / 384, by omega⟩ : Fin 8) = ⟨e.val / 64 / 6, by omega⟩ := Fin.ext (by show e.val / 384 = e.val / 64 / 6; omega)
  rw [hh, hj]
  unfold rO
  simp only [qc_val, qs_val, kc_val, ks_val, vc_val, vs_val]

theorem out3 (t : Fin cfg0.N) (y : S3x640x3072.Idx) : out0_3 (iblk m c 0 t) (iblk m c 1 t) (iblk m c 2 t) y = B3 m c y := by
  unfold out0_3 k0_pay30 k0_pay29 k0_pay28 k0_pay27 k0_pay26 k0_pay25 k0_pay24 k0_pay23
  rw [View.canon_unit_zero (hz3 rfl), ld0, ld1, ld1]
  rw [show y = ix3 (y 0) (y 1) (y 2) from eq_ix3 y]
  exact out3_val m c t (y 0) (y 1) (y 2)

theorem idx_3 : ∀ t : Fin cfg0.N, win0_3.index t 0 = 0 ∧ win0_3.index t 1 = 0 ∧ win0_3.index t 2 = 0 := by decide +kernel

/-- The reference leaves result 1 as `B3`. -/
theorem fin3 : (dats m 0 c).arrAt 3 cfg0.N = B3 m c := by
  funext y
  obtain ⟨e0, e1, e2⟩ := idx_3 t0_0
  have h := congrFun (Value.blocks3 m c t0_0 (by decide +kernel)) y
  rw [Value.flushed3] at h
  have hy : ((cfg0.win 3).blk t0_0).view.emb y = y := by
    refine funext fun a => Fin.ext ?_
    match a with
    | ⟨0, _⟩ => show _ = (y 0).val; blk_simp [e0]; rfl
    | ⟨1, _⟩ => show _ = (y 1).val; blk_simp [e1]; rfl
    | ⟨2, _⟩ => show _ = (y 2).val; blk_simp [e2]; rfl
  have h' : (dats m 0 c).arrAt 3 cfg0.N (((cfg0.win 3).blk t0_0).view.emb y) = out0_3 (iblk m c 0 t0_0) (iblk m c 1 t0_0) (iblk m c 2 t0_0) y := h
  rw [hy] at h'
  exact h'.trans (out3 m c t0_0 y)

end Cert.ReferenceIdeal.Gen

end
-- ==== Proof.AttEq.lean ====
/- Where every entry is finite, the kernel's attention output is the reference's. -/
module

public import proofs.«01_k».proof.Proof.Agree
public import proofs.«01_k».proof.Proof.RAtt

@[expose] public section

set_option maxRecDepth 16384

noncomputable section

namespace Cert.Agree

open Idealize.ShloMosaic Idealize.ShloMosaic.TcCoe Cert.Quant
open Cert.KernelIdeal (S3x640x3072 S3x640x512)
open Cert.KernelIdeal.Gen (amx code qrow krow vcol sQC sQS sKC sKS sVC sVS sO)
open Cert.ReferenceIdeal.Gen (rcode rQC rQS rKC rKS rVC rVS rO)

theorem eighth : Ideal.ofBits .f32 0x3E000000#32 = ((1 / 8 : ℝ) : EReal) := by
  simp [Ideal.ofBits, Ideal.ieee, -EReal.coe_mul]
  norm_num

theorem coe_sum64 (r : Fin 64 → ℝ) : ((∑ t, r t : ℝ) : EReal) = ∑ t, ((r t : ℝ) : EReal) :=
  map_sum (⟨⟨Real.toEReal, EReal.coe_zero⟩, EReal.coe_add⟩ : ℝ →+ EReal) r Finset.univ

/-- A code is a real: it lies between the two saturation bounds. -/
theorem code_real (v i : EReal) : ∃ r : ℝ, code v i = (r : EReal) := by
  have h : ∀ y : EReal, ((-448 : ℝ) : EReal) ≤ y → y ≤ ((448 : ℝ) : EReal) → ∃ r : ℝ, y = (r : EReal) := by
    intro y h1 h2
    refine ⟨y.toReal, (EReal.coe_toReal (fun hy => ?_) (fun hy => ?_)).symm⟩
    · rw [hy] at h2; exact absurd h2 (not_le.2 (EReal.coe_lt_top _))
    · rw [hy] at h1; exact absurd h1 (not_le.2 (EReal.bot_lt_coe _))
  have hle : ((-448 : ℝ) : EReal) ≤ ((448 : ℝ) : EReal) := EReal.coe_le_coe_iff.2 (by norm_num)
  unfold code
  exact h _ (le_min (le_max_right _ _) hle) (min_le_right _ _)

/-- The two forms of the output agree on real codes and scales. -/
theorem att_eq (n : ℕ) (hn : n ≤ 640) (s : Fin 640) (hs : s.val < n) (qc : Fin 64 → EReal) (kc : Fin 640 → Fin 64 → EReal)
    (ks vc : Fin 640 → EReal) (qs vs : EReal) (hqc : ∀ e, ∃ r : ℝ, qc e = (r : EReal)) (hkc : ∀ t e, ∃ r : ℝ, kc t e = (r : EReal))
    (hks : ∀ t, ∃ r : ℝ, ks t = (r : EReal)) (hvc : ∀ t, ∃ r : ℝ, vc t = (r : EReal)) (hvs : ∃ r : ℝ, vs = (r : EReal))
    (hqs : ∃ r : ℝ, qs = (r : EReal) ∧ 0 < r) :
    att n (fun t e => kc ⟨t.val, lt_of_lt_of_le t.isLt hn⟩ e) qc (fun t => ks ⟨t.val, lt_of_lt_of_le t.isLt hn⟩)
        (qs * (((1 / 8) * (Real.log 2)⁻¹ : ℝ) : EReal)) (fun t => vc ⟨t.val, lt_of_lt_of_le t.isLt hn⟩) s.val * vs
      = rmean (rwgt fun t : Fin 640 => if t.val ≤ s.val then
          (((∑ e : Fin 64, qc e * kc t e) * qs) * ks t) * Ideal.ofBits .f32 0x3E000000#32 else Ideal.ofBits .f32 0xFF800000#32) vc vs := by
  choose q hq using hqc
  choose K hK using hkc
  choose S hS using hks
  choose V hV using hvc
  obtain ⟨W, hW⟩ := hvs
  obtain ⟨Q, hQ, hpos⟩ := hqs
  have m := mean_eq (n := n) (k := 640) s.val hs s.isLt
    (fun t => if h : t < 640 then (∑ e, K ⟨t, h⟩ e * q e) * S ⟨t, h⟩ else 0) (fun t => if h : t < 640 then V ⟨t, h⟩ else 0) Q W hpos
  have e1 : ∀ t : Fin n, t.val < 640 := fun t => lt_of_lt_of_le t.isLt hn
  unfold att
  rw [hQ, hW, ← EReal.coe_mul]
  refine Eq.trans ?_ (m.trans ?_)
  · refine congrArg (· * ((W : ℝ) : EReal)) (congrArg₂ wmean (congrArg (fun f => wgt f _) (funext fun t => ?_)) (funext fun t => ?_))
    · unfold msk
      dsimp only
      by_cases ht : t.val ≤ s.val
      · rw [if_pos ht, if_pos ht, dif_pos (e1 t), hS, EReal.coe_mul, coe_sum64]
        refine congrArg (· * _) (Finset.sum_congr rfl fun e _ => ?_)
        rw [hK, hq, EReal.coe_mul]
      · rw [if_neg ht, if_neg ht, cbot']
    · rw [dif_pos (e1 t), hV]
  · refine congrArg₂ (fun f g => rmean (rwgt f) g ((W : ℝ) : EReal)) (funext fun t => ?_) (funext fun t => ?_)
    · unfold msk
      dsimp only
      by_cases ht : t.val ≤ s.val
      · rw [if_pos ht, if_pos ht, dif_pos t.isLt, eighth, hS,
          Finset.sum_congr rfl (fun e _ => show qc e * kc t e = ((q e * K t e : ℝ) : EReal) by rw [hq, hK, EReal.coe_mul]),
          ← coe_sum64, ← EReal.coe_mul, ← EReal.coe_mul, ← EReal.coe_mul]
        refine congrArg _ ?_
        rw [Finset.sum_congr rfl (fun e _ => mul_comm (K ⟨t.val, t.isLt⟩ e) (q e))]
        ring
      · rw [if_neg ht, if_neg ht, cbot']
    · rw [dif_pos t.isLt, hV]

variable (x : Vec Ideal S3x640x3072 .bf16) (k v : Vec Ideal S3x640x512 .bf16)

/-- At every position the kernel's output, over the keys its query block sees, is the reference's. -/
theorem O_eq (hx : ∀ i, Fin' (255 * 2 ^ 120) (x i)) (hk : ∀ i, Fin' (255 * 2 ^ 120) (k i)) (hv : ∀ i, Fin' (255 * 2 ^ 120) (v i))
    (b : Fin 3) (h : Fin 48) (n : ℕ) (hn : n ≤ 640) (s : Fin 640) (hs : s.val < n) (d : Fin 64) :
    sO x k v b h n hn s d = rO x k v b h s d := by
  have hsc : ∀ {n : ℕ} (z : Fin n) (c : Fin n → EReal), (∀ d, Fin' (2 * (255 * 2 ^ 120)) (c d)) →
      ∃ r : ℝ, kerS (amx c) = (r : EReal) ∧ 0 < r := by
    intro n z c h
    obtain ⟨e, h1, -, -⟩ := scale z c h
    exact ⟨_, h1, zpow_pos (by norm_num) e⟩
  unfold sO rO
  simp only [← QC_eq x hx, ← QS_eq x hx, ← KC_eq k hk, ← KS_eq k hk, ← VC_eq v hv, ← VS_eq v hv]
  refine att_eq n hn s hs (fun e => sQC x b h e s) (fun t e => sKC k b _ e t) (fun t => sKS k b _ t) (fun t => sVC v b _ d t)
    (sQS x b h s) (sVS v b _ d) (fun e => code_real _ _) (fun t e => code_real _ _) (fun t => ?_) (fun t => code_real _ _) ?_ ?_
  · obtain ⟨r, e, -⟩ := hsc 0 _ (krow_fin k hk b _ t); exact ⟨r, e⟩
  · obtain ⟨r, e, -⟩ := hsc 0 _ (vcol_fin v hv b _ d); exact ⟨r, e⟩
  · exact hsc 0 _ (qrow_fin x hx b h s)

end Cert.Agree

end
-- ==== Proof.lean ====
module

public import proofs.«01_k».proof.Defs
public import proofs.«01_k».proof.Proof.Gen.Kernel
public import proofs.«01_k».proof.Proof.KernelFrame
public import proofs.«01_k».proof.Proof.Gen.ReferenceIdeal.Frame
public import proofs.«01_k».proof.Proof.AttEq
public import Idealize.ShloMosaic.Adequacy
public import Idealize.ShloMosaic.Init

@[expose] public section

set_option maxRecDepth 16384

noncomputable section

namespace Cert.Proof

open Idealize.ShloMosaic Idealize.SL.Sem

/-- The side conditions of the precondition's operations. -/
theorem pre_facts : Cert.Pre_finite.Facts := ⟨by decide, by decide, by decide, by decide, by decide⟩

open Cert.Agree Cert.KernelIdeal.Gen in
/-- Both programs, idealized, end with the same result arrays where the arguments are finite. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hagree
  refine ⟨fun c => A3 m c, fun c => A4 m c, fun c => A5 m c, fun c => A6 m c, fun c => A7 m c, fun c => A8 m c, fun c => A9 m c, ?_, ?_⟩
  · exact (θ_run Cert.KernelIdeal.defs _ _).mono (fun _ h => h.1) (Cert.KernelIdeal.Gen.run_values m ρ)
  · refine (θ_run Cert.ReferenceIdeal.defs _ _).mono (fun r h c => ?_) (Cert.ReferenceIdeal.Value.run_blocks (F := Ideal) m' ρ')
    obtain ⟨h3, h4, h5, h6, h7, h8, h9, hargs⟩ := h c
    letI := pre_facts
    obtain ⟨hx, hk, hv⟩ := pre_fin _ _ _ (hpre c)
    have ex : Cert.ReferenceIdeal.Gen.xin m' c = Cert.KernelIdeal.Gen.xin m c := (hagree c).1
    have ek : Cert.ReferenceIdeal.Gen.kin m' c = Cert.KernelIdeal.Gen.kin m c := (hagree c).2.1
    have ev : Cert.ReferenceIdeal.Gen.vin m' c = Cert.KernelIdeal.Gen.vin m c := (hagree c).2.2
    refine ⟨h3.trans ((Cert.ReferenceIdeal.Gen.fin3 m' c).trans ?_), h4.trans ((Cert.ReferenceIdeal.Gen.fin4 m' c).trans ?_), h5.trans ((Cert.ReferenceIdeal.Gen.fin5 m' c).trans ?_),
      h6.trans ((Cert.ReferenceIdeal.Gen.fin6 m' c).trans ?_), h7.trans ((Cert.ReferenceIdeal.Gen.fin7 m' c).trans ?_),
      h8.trans ((Cert.ReferenceIdeal.Gen.fin8 m' c).trans ?_), h9.trans ((Cert.ReferenceIdeal.Gen.fin9 m' c).trans ?_), hargs⟩
    · funext i
      show Cert.ReferenceIdeal.Gen.rO (Cert.ReferenceIdeal.Gen.xin m' c) (Cert.ReferenceIdeal.Gen.kin m' c) (Cert.ReferenceIdeal.Gen.vin m' c) (i 0) _ (i 1) _ = _
      rw [ex, ek, ev]
      exact (O_eq _ _ _ hx hk hv (i 0) _ _ _ (i 1) (by omega) _).symm
    · funext i
      show Cert.ReferenceIdeal.Gen.rQC (Cert.ReferenceIdeal.Gen.xin m' c) (i 0) (i 1) (i 2) (i 3) = _
      rw [ex]; exact (QC_eq _ hx (i 0) (i 1) (i 2) (i 3)).symm
    · funext i
      show Cert.ReferenceIdeal.Gen.rQS (Cert.ReferenceIdeal.Gen.xin m' c) (i 0) (i 1) (i 2) = _
      rw [ex]; exact (QS_eq _ hx (i 0) (i 1) (i 2)).symm
    · funext i
      show Cert.ReferenceIdeal.Gen.rKC (Cert.ReferenceIdeal.Gen.kin m' c) (i 0) (i 1) (i 2) (i 3) = _
      rw [ek]; exact (KC_eq _ hk (i 0) (i 1) (i 2) (i 3)).symm
    · funext i
      show Cert.ReferenceIdeal.Gen.rKS (Cert.ReferenceIdeal.Gen.kin m' c) (i 0) (i 1) (i 2) = _
      rw [ek]; exact (KS_eq _ hk (i 0) (i 1) (i 2)).symm
    · funext i
      show Cert.ReferenceIdeal.Gen.rVC (Cert.ReferenceIdeal.Gen.vin m' c) (i 0) (i 1) (i 2) (i 3) = _
      rw [ev]; exact (VC_eq _ hv (i 0) (i 1) (i 2) (i 3)).symm
    · funext i
      show Cert.ReferenceIdeal.Gen.rVS (Cert.ReferenceIdeal.Gen.vin m' c) (i 0) (i 1) (i 2) = _
      rw [ev]; exact (VS_eq _ hv (i 0) (i 1) (i 2)).symm

/-- The idealized kernel's frame, read off the run that names its results. -/
theorem frame_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2.2.2.2.2.2.2, h.2⟩) (Cert.KernelIdeal.Gen.run_values m ρ)

theorem claim : Cert.Claim :=
  ⟨Cert.Kernel.Gen.facts, Cert.KernelIdeal.Gen.facts, Cert.ReferenceIdeal.Gen.facts, pre_facts,
    fun m ρ _ => Cert.Kernel.Gen.frame m ρ, fun m ρ _ => frame_ki m ρ, fun m ρ _ => frame_ki m ρ,
    fun m ρ _ => Cert.ReferenceIdeal.Gen.frame m ρ, fun m ρ _ => Cert.ReferenceIdeal.Gen.frame m ρ,
    ⟨IdealRules.named_const.statement _ _ _ _ _ rfl, IdealRules.named_const.statement _ _ _ _ _ rfl,
      IdealRules.named_const.statement _ _ _ _ _ rfl⟩,
    algebraic⟩

end Cert.Proof

end
